-- ==== Defs.lean ====
def Pre_Kernel (m : (ℓ : Loc Cert.Kernel.nD Cert.Kernel.τ Cert.Kernel.sig) → Buf (Elt Bits) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Xattn (m : (ℓ : Loc Cert.Xattn.nD Cert.Xattn.τ Cert.Xattn.sig) → Buf (Elt Bits) ℓ) : Prop :=
  True

def Pre_XattnIdeal (m : (ℓ : Loc Cert.XattnIdeal.nD Cert.XattnIdeal.τ Cert.XattnIdeal.sig) → Buf (Elt Ideal) ℓ) : Prop :=
  True

def Pre_XattnRefIdeal (m : (ℓ : Loc Cert.XattnRefIdeal.nD Cert.XattnRefIdeal.τ Cert.XattnRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryRefIdeal (m : (ℓ : Loc Cert.MemoryRefIdeal.nD Cert.MemoryRefIdeal.τ Cert.MemoryRefIdeal.sig) → Buf (Elt Ideal) ℓ) : Prop :=
  True

def Pre_Mlstm (m : (ℓ : Loc Cert.Mlstm.nD Cert.Mlstm.τ Cert.Mlstm.sig) → Buf (Elt Bits) ℓ) : Prop :=
  True

def Pre_Ssd (m : (ℓ : Loc Cert.Ssd.nD Cert.Ssd.τ Cert.Ssd.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Xattn [hXattn : Cert.Xattn.Facts] : Prop :=
  ∀ (m : (ℓ : Loc Cert.Xattn.nD Cert.Xattn.τ Cert.Xattn.sig) → Buf (Elt Bits) ℓ) (g : Dev Cert.Xattn.nD → PrngReg), Pre_Xattn m →
    θ_run (Cert.Xattn.defs (F := Bits)) (onTc (τ := Cert.Xattn.τ) (Cert.Xattn.main (F := Bits))) ⟨m, fun _ => 0, g⟩ (fun r => (∀ c : Dev Cert.Xattn.nD,
      r.2.mem ((c.tc : Thread Cert.Xattn.nD Cert.Xattn.τ).loc Cert.Xattn.main_arg0) = m ((c.tc : Thread Cert.Xattn.nD Cert.Xattn.τ).loc Cert.Xattn.main_arg0)
      ∧ r.2.mem ((c.tc : Thread Cert.Xattn.nD Cert.Xattn.τ).loc Cert.Xattn.main_arg1) = m ((c.tc : Thread Cert.Xattn.nD Cert.Xattn.τ).loc Cert.Xattn.main_arg1)
      ∧ r.2.mem ((c.tc : Thread Cert.Xattn.nD Cert.Xattn.τ).loc Cert.Xattn.main_arg2) = m ((c.tc : Thread Cert.Xattn.nD Cert.Xattn.τ).loc Cert.Xattn.main_arg2)
      ∧ r.2.mem ((c.tc : Thread Cert.Xattn.nD Cert.Xattn.τ).loc Cert.Xattn.main_arg3) = m ((c.tc : Thread Cert.Xattn.nD Cert.Xattn.τ).loc Cert.Xattn.main_arg3)
      ∧ r.2.mem ((c.tc : Thread Cert.Xattn.nD Cert.Xattn.τ).loc Cert.Xattn.main_arg4) = m ((c.tc : Thread Cert.Xattn.nD Cert.Xattn.τ).loc Cert.Xattn.main_arg4)
      ∧ r.2.mem ((c.tc : Thread Cert.Xattn.nD Cert.Xattn.τ).loc Cert.Xattn.main_arg5) = m ((c.tc : Thread Cert.Xattn.nD Cert.Xattn.τ).loc Cert.Xattn.main_arg5)
      ∧ r.2.mem ((c.tc : Thread Cert.Xattn.nD Cert.Xattn.τ).loc Cert.Xattn.main_arg6) = m ((c.tc : Thread Cert.Xattn.nD Cert.Xattn.τ).loc Cert.Xattn.main_arg6))
      ∧ r.2.sem = fun _ => 0)

def quiescent_XattnIdeal [hXattnIdeal : Cert.XattnIdeal.Facts] : Prop :=
  ∀ (m : (ℓ : Loc Cert.XattnIdeal.nD Cert.XattnIdeal.τ Cert.XattnIdeal.sig) → Buf (Elt Ideal) ℓ) (g : Dev Cert.XattnIdeal.nD → PrngReg), Pre_XattnIdeal m →
    θ_run (Cert.XattnIdeal.defs (F := Ideal)) (onTc (τ := Cert.XattnIdeal.τ) (Cert.XattnIdeal.main (F := Ideal))) ⟨m, fun _ => 0, g⟩ (fun r => (∀ c : Dev Cert.XattnIdeal.nD,
      r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
      ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
      ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
      ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
      ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
      ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
      ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ r.2.sem = fun _ => 0)

def quiescent_XattnRefIdeal [hXattnRefIdeal : Cert.XattnRefIdeal.Facts] : Prop :=
  ∀ (m : (ℓ : Loc Cert.XattnRefIdeal.nD Cert.XattnRefIdeal.τ Cert.XattnRefIdeal.sig) → Buf (Elt Ideal) ℓ) (g : Dev Cert.XattnRefIdeal.nD → PrngReg), Pre_XattnRefIdeal m →
    θ_run (Cert.XattnRefIdeal.defs (F := Ideal)) (onTc (τ := Cert.XattnRefIdeal.τ) (Cert.XattnRefIdeal.main (F := Ideal))) ⟨m, fun _ => 0, g⟩ (fun r => (∀ c : Dev Cert.XattnRefIdeal.nD,
      r.2.mem ((c.tc : Thread Cert.XattnRefIdeal.nD Cert.XattnRefIdeal.τ).loc Cert.XattnRefIdeal.main_arg0) = m ((c.tc : Thread Cert.XattnRefIdeal.nD Cert.XattnRefIdeal.τ).loc Cert.XattnRefIdeal.main_arg0)
      ∧ r.2.mem ((c.tc : Thread Cert.XattnRefIdeal.nD Cert.XattnRefIdeal.τ).loc Cert.XattnRefIdeal.main_arg1) = m ((c.tc : Thread Cert.XattnRefIdeal.nD Cert.XattnRefIdeal.τ).loc Cert.XattnRefIdeal.main_arg1)
      ∧ r.2.mem ((c.tc : Thread Cert.XattnRefIdeal.nD Cert.XattnRefIdeal.τ).loc Cert.XattnRefIdeal.main_arg2) = m ((c.tc : Thread Cert.XattnRefIdeal.nD Cert.XattnRefIdeal.τ).loc Cert.XattnRefIdeal.main_arg2)
      ∧ r.2.mem ((c.tc : Thread Cert.XattnRefIdeal.nD Cert.XattnRefIdeal.τ).loc Cert.XattnRefIdeal.main_arg3) = m ((c.tc : Thread Cert.XattnRefIdeal.nD Cert.XattnRefIdeal.τ).loc Cert.XattnRefIdeal.main_arg3)
      ∧ r.2.mem ((c.tc : Thread Cert.XattnRefIdeal.nD Cert.XattnRefIdeal.τ).loc Cert.XattnRefIdeal.main_arg4) = m ((c.tc : Thread Cert.XattnRefIdeal.nD Cert.XattnRefIdeal.τ).loc Cert.XattnRefIdeal.main_arg4)
      ∧ r.2.mem ((c.tc : Thread Cert.XattnRefIdeal.nD Cert.XattnRefIdeal.τ).loc Cert.XattnRefIdeal.main_arg5) = m ((c.tc : Thread Cert.XattnRefIdeal.nD Cert.XattnRefIdeal.τ).loc Cert.XattnRefIdeal.main_arg5)
      ∧ r.2.mem ((c.tc : Thread Cert.XattnRefIdeal.nD Cert.XattnRefIdeal.τ).loc Cert.XattnRefIdeal.main_arg6) = m ((c.tc : Thread Cert.XattnRefIdeal.nD Cert.XattnRefIdeal.τ).loc Cert.XattnRefIdeal.main_arg6))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryRefIdeal [hMemoryRefIdeal : Cert.MemoryRefIdeal.Facts] : Prop :=
  ∀ (m : (ℓ : Loc Cert.MemoryRefIdeal.nD Cert.MemoryRefIdeal.τ Cert.MemoryRefIdeal.sig) → Buf (Elt Ideal) ℓ) (g : Dev Cert.MemoryRefIdeal.nD → PrngReg), Pre_MemoryRefIdeal m →
    θ_run (Cert.MemoryRefIdeal.defs (F := Ideal)) (onTc (τ := Cert.MemoryRefIdeal.τ) (Cert.MemoryRefIdeal.main (F := Ideal))) ⟨m, fun _ => 0, g⟩ (fun r => (∀ c : Dev Cert.MemoryRefIdeal.nD,
      r.2.mem ((c.tc : Thread Cert.MemoryRefIdeal.nD Cert.MemoryRefIdeal.τ).loc Cert.MemoryRefIdeal.main_arg0) = m ((c.tc : Thread Cert.MemoryRefIdeal.nD Cert.MemoryRefIdeal.τ).loc Cert.MemoryRefIdeal.main_arg0)
      ∧ r.2.mem ((c.tc : Thread Cert.MemoryRefIdeal.nD Cert.MemoryRefIdeal.τ).loc Cert.MemoryRefIdeal.main_arg1) = m ((c.tc : Thread Cert.MemoryRefIdeal.nD Cert.MemoryRefIdeal.τ).loc Cert.MemoryRefIdeal.main_arg1)
      ∧ r.2.mem ((c.tc : Thread Cert.MemoryRefIdeal.nD Cert.MemoryRefIdeal.τ).loc Cert.MemoryRefIdeal.main_arg2) = m ((c.tc : Thread Cert.MemoryRefIdeal.nD Cert.MemoryRefIdeal.τ).loc Cert.MemoryRefIdeal.main_arg2))
      ∧ r.2.sem = fun _ => 0)

def quiescent_Mlstm [hMlstm : Cert.Mlstm.Facts] : Prop :=
  ∀ (m : (ℓ : Loc Cert.Mlstm.nD Cert.Mlstm.τ Cert.Mlstm.sig) → Buf (Elt Bits) ℓ) (g : Dev Cert.Mlstm.nD → PrngReg), Pre_Mlstm m →
    θ_run (Cert.Mlstm.defs (F := Bits)) (onTc (τ := Cert.Mlstm.τ) (Cert.Mlstm.main (F := Bits))) ⟨m, fun _ => 0, g⟩ (fun r => (∀ c : Dev Cert.Mlstm.nD,
      r.2.mem ((c.tc : Thread Cert.Mlstm.nD Cert.Mlstm.τ).loc Cert.Mlstm.main_arg0) = m ((c.tc : Thread Cert.Mlstm.nD Cert.Mlstm.τ).loc Cert.Mlstm.main_arg0)
      ∧ r.2.mem ((c.tc : Thread Cert.Mlstm.nD Cert.Mlstm.τ).loc Cert.Mlstm.main_arg1) = m ((c.tc : Thread Cert.Mlstm.nD Cert.Mlstm.τ).loc Cert.Mlstm.main_arg1)
      ∧ r.2.mem ((c.tc : Thread Cert.Mlstm.nD Cert.Mlstm.τ).loc Cert.Mlstm.main_arg2) = m ((c.tc : Thread Cert.Mlstm.nD Cert.Mlstm.τ).loc Cert.Mlstm.main_arg2)
      ∧ r.2.mem ((c.tc : Thread Cert.Mlstm.nD Cert.Mlstm.τ).loc Cert.Mlstm.main_arg3) = m ((c.tc : Thread Cert.Mlstm.nD Cert.Mlstm.τ).loc Cert.Mlstm.main_arg3)
      ∧ r.2.mem ((c.tc : Thread Cert.Mlstm.nD Cert.Mlstm.τ).loc Cert.Mlstm.main_arg4) = m ((c.tc : Thread Cert.Mlstm.nD Cert.Mlstm.τ).loc Cert.Mlstm.main_arg4))
      ∧ r.2.sem = fun _ => 0)

def quiescent_Ssd [hSsd : Cert.Ssd.Facts] : Prop :=
  ∀ (m : (ℓ : Loc Cert.Ssd.nD Cert.Ssd.τ Cert.Ssd.sig) → Buf (Elt Bits) ℓ) (g : Dev Cert.Ssd.nD → PrngReg), Pre_Ssd m →
    θ_run (Cert.Ssd.defs (F := Bits)) (onTc (τ := Cert.Ssd.τ) (Cert.Ssd.main (F := Bits))) ⟨m, fun _ => 0, g⟩ (fun r => (∀ c : Dev Cert.Ssd.nD,
      r.2.mem ((c.tc : Thread Cert.Ssd.nD Cert.Ssd.τ).loc Cert.Ssd.main_arg0) = m ((c.tc : Thread Cert.Ssd.nD Cert.Ssd.τ).loc Cert.Ssd.main_arg0)
      ∧ r.2.mem ((c.tc : Thread Cert.Ssd.nD Cert.Ssd.τ).loc Cert.Ssd.main_arg1) = m ((c.tc : Thread Cert.Ssd.nD Cert.Ssd.τ).loc Cert.Ssd.main_arg1)
      ∧ r.2.mem ((c.tc : Thread Cert.Ssd.nD Cert.Ssd.τ).loc Cert.Ssd.main_arg2) = m ((c.tc : Thread Cert.Ssd.nD Cert.Ssd.τ).loc Cert.Ssd.main_arg2)
      ∧ r.2.mem ((c.tc : Thread Cert.Ssd.nD Cert.Ssd.τ).loc Cert.Ssd.main_arg3) = m ((c.tc : Thread Cert.Ssd.nD Cert.Ssd.τ).loc Cert.Ssd.main_arg3)
      ∧ r.2.mem ((c.tc : Thread Cert.Ssd.nD Cert.Ssd.τ).loc Cert.Ssd.main_arg4) = m ((c.tc : Thread Cert.Ssd.nD Cert.Ssd.τ).loc Cert.Ssd.main_arg4)
      ∧ r.2.mem ((c.tc : Thread Cert.Ssd.nD Cert.Ssd.τ).loc Cert.Ssd.main_arg5) = m ((c.tc : Thread Cert.Ssd.nD Cert.Ssd.τ).loc Cert.Ssd.main_arg5)
      ∧ r.2.mem ((c.tc : Thread Cert.Ssd.nD Cert.Ssd.τ).loc Cert.Ssd.main_arg6) = m ((c.tc : Thread Cert.Ssd.nD Cert.Ssd.τ).loc Cert.Ssd.main_arg6))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v3)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v27) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v13) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v39) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Xattn_XattnIdeal : Prop :=
  IdealRules.named_const.Statement Cert.XattnIdeal.κ "xa_scale" .f32 0x3DB504F3#32 (((Real.sqrt 128)⁻¹ : ℝ) : EReal)

def algebraic_XattnIdeal_XattnRefIdeal [hXattnIdeal : Cert.XattnIdeal.Facts] [hXattnRefIdeal : Cert.XattnRefIdeal.Facts] : Prop :=
  ∀ (m : (ℓ : Loc Cert.XattnIdeal.nD Cert.XattnIdeal.τ Cert.XattnIdeal.sig) → Buf (Elt Ideal) ℓ) (g : Dev Cert.XattnIdeal.nD → PrngReg)
    (m' : (ℓ : Loc Cert.XattnRefIdeal.nD Cert.XattnRefIdeal.τ Cert.XattnRefIdeal.sig) → Buf (Elt Ideal) ℓ) (g' : Dev Cert.XattnRefIdeal.nD → PrngReg), Pre_XattnIdeal m →
    (∀ c : Dev Cert.XattnIdeal.nD,
      m' ((c.tc : Thread Cert.XattnRefIdeal.nD Cert.XattnRefIdeal.τ).loc Cert.XattnRefIdeal.main_arg0) = m ((c.tc : Thread Cert.XattnIdeal.nD Cert.XattnIdeal.τ).loc Cert.XattnIdeal.main_arg0)
      ∧ m' ((c.tc : Thread Cert.XattnRefIdeal.nD Cert.XattnRefIdeal.τ).loc Cert.XattnRefIdeal.main_arg1) = m ((c.tc : Thread Cert.XattnIdeal.nD Cert.XattnIdeal.τ).loc Cert.XattnIdeal.main_arg1)
      ∧ m' ((c.tc : Thread Cert.XattnRefIdeal.nD Cert.XattnRefIdeal.τ).loc Cert.XattnRefIdeal.main_arg2) = m ((c.tc : Thread Cert.XattnIdeal.nD Cert.XattnIdeal.τ).loc Cert.XattnIdeal.main_arg2)
      ∧ m' ((c.tc : Thread Cert.XattnRefIdeal.nD Cert.XattnRefIdeal.τ).loc Cert.XattnRefIdeal.main_arg3) = m ((c.tc : Thread Cert.XattnIdeal.nD Cert.XattnIdeal.τ).loc Cert.XattnIdeal.main_arg3)
      ∧ m' ((c.tc : Thread Cert.XattnRefIdeal.nD Cert.XattnRefIdeal.τ).loc Cert.XattnRefIdeal.main_arg4) = m ((c.tc : Thread Cert.XattnIdeal.nD Cert.XattnIdeal.τ).loc Cert.XattnIdeal.main_arg4)
      ∧ m' ((c.tc : Thread Cert.XattnRefIdeal.nD Cert.XattnRefIdeal.τ).loc Cert.XattnRefIdeal.main_arg5) = m ((c.tc : Thread Cert.XattnIdeal.nD Cert.XattnIdeal.τ).loc Cert.XattnIdeal.main_arg5)
      ∧ m' ((c.tc : Thread Cert.XattnRefIdeal.nD Cert.XattnRefIdeal.τ).loc Cert.XattnRefIdeal.main_arg6) = m ((c.tc : Thread Cert.XattnIdeal.nD Cert.XattnIdeal.τ).loc Cert.XattnIdeal.main_arg6)) →
    ∃ (v0 : (c : Dev Cert.XattnIdeal.nD) → Buf (Elt Ideal) ((c.tc : Thread Cert.XattnIdeal.nD Cert.XattnIdeal.τ).loc Cert.XattnIdeal.main_v5)),
      θ_run (Cert.XattnIdeal.defs (F := Ideal)) (onTc (τ := Cert.XattnIdeal.τ) (Cert.XattnIdeal.main (F := Ideal))) ⟨m, fun _ => 0, g⟩ (fun r => ∀ c : Dev Cert.XattnIdeal.nD,
          r.2.mem ((c.tc : Thread Cert.XattnIdeal.nD Cert.XattnIdeal.τ).loc Cert.XattnIdeal.main_v5) = v0 c
          ∧ r.2.mem ((c.tc : Thread Cert.XattnIdeal.nD Cert.XattnIdeal.τ).loc Cert.XattnIdeal.main_arg0) = m ((c.tc : Thread Cert.XattnIdeal.nD Cert.XattnIdeal.τ).loc Cert.XattnIdeal.main_arg0)
          ∧ r.2.mem ((c.tc : Thread Cert.XattnIdeal.nD Cert.XattnIdeal.τ).loc Cert.XattnIdeal.main_arg1) = m ((c.tc : Thread Cert.XattnIdeal.nD Cert.XattnIdeal.τ).loc Cert.XattnIdeal.main_arg1)
          ∧ r.2.mem ((c.tc : Thread Cert.XattnIdeal.nD Cert.XattnIdeal.τ).loc Cert.XattnIdeal.main_arg2) = m ((c.tc : Thread Cert.XattnIdeal.nD Cert.XattnIdeal.τ).loc Cert.XattnIdeal.main_arg2)
          ∧ r.2.mem ((c.tc : Thread Cert.XattnIdeal.nD Cert.XattnIdeal.τ).loc Cert.XattnIdeal.main_arg3) = m ((c.tc : Thread Cert.XattnIdeal.nD Cert.XattnIdeal.τ).loc Cert.XattnIdeal.main_arg3)
          ∧ r.2.mem ((c.tc : Thread Cert.XattnIdeal.nD Cert.XattnIdeal.τ).loc Cert.XattnIdeal.main_arg4) = m ((c.tc : Thread Cert.XattnIdeal.nD Cert.XattnIdeal.τ).loc Cert.XattnIdeal.main_arg4)
          ∧ r.2.mem ((c.tc : Thread Cert.XattnIdeal.nD Cert.XattnIdeal.τ).loc Cert.XattnIdeal.main_arg5) = m ((c.tc : Thread Cert.XattnIdeal.nD Cert.XattnIdeal.τ).loc Cert.XattnIdeal.main_arg5)
          ∧ r.2.mem ((c.tc : Thread Cert.XattnIdeal.nD Cert.XattnIdeal.τ).loc Cert.XattnIdeal.main_arg6) = m ((c.tc : Thread Cert.XattnIdeal.nD Cert.XattnIdeal.τ).loc Cert.XattnIdeal.main_arg6))
      ∧ θ_run (Cert.XattnRefIdeal.defs (F := Ideal)) (onTc (τ := Cert.XattnRefIdeal.τ) (Cert.XattnRefIdeal.main (F := Ideal))) ⟨m', fun _ => 0, g'⟩ (fun r => ∀ c : Dev Cert.XattnRefIdeal.nD,
          r.2.mem ((c.tc : Thread Cert.XattnRefIdeal.nD Cert.XattnRefIdeal.τ).loc Cert.XattnRefIdeal.main_v62) = v0 c
          ∧ r.2.mem ((c.tc : Thread Cert.XattnRefIdeal.nD Cert.XattnRefIdeal.τ).loc Cert.XattnRefIdeal.main_arg0) = m' ((c.tc : Thread Cert.XattnRefIdeal.nD Cert.XattnRefIdeal.τ).loc Cert.XattnRefIdeal.main_arg0)
          ∧ r.2.mem ((c.tc : Thread Cert.XattnRefIdeal.nD Cert.XattnRefIdeal.τ).loc Cert.XattnRefIdeal.main_arg1) = m' ((c.tc : Thread Cert.XattnRefIdeal.nD Cert.XattnRefIdeal.τ).loc Cert.XattnRefIdeal.main_arg1)
          ∧ r.2.mem ((c.tc : Thread Cert.XattnRefIdeal.nD Cert.XattnRefIdeal.τ).loc Cert.XattnRefIdeal.main_arg2) = m' ((c.tc : Thread Cert.XattnRefIdeal.nD Cert.XattnRefIdeal.τ).loc Cert.XattnRefIdeal.main_arg2)
          ∧ r.2.mem ((c.tc : Thread Cert.XattnRefIdeal.nD Cert.XattnRefIdeal.τ).loc Cert.XattnRefIdeal.main_arg3) = m' ((c.tc : Thread Cert.XattnRefIdeal.nD Cert.XattnRefIdeal.τ).loc Cert.XattnRefIdeal.main_arg3)
          ∧ r.2.mem ((c.tc : Thread Cert.XattnRefIdeal.nD Cert.XattnRefIdeal.τ).loc Cert.XattnRefIdeal.main_arg4) = m' ((c.tc : Thread Cert.XattnRefIdeal.nD Cert.XattnRefIdeal.τ).loc Cert.XattnRefIdeal.main_arg4)
          ∧ r.2.mem ((c.tc : Thread Cert.XattnRefIdeal.nD Cert.XattnRefIdeal.τ).loc Cert.XattnRefIdeal.main_arg5) = m' ((c.tc : Thread Cert.XattnRefIdeal.nD Cert.XattnRefIdeal.τ).loc Cert.XattnRefIdeal.main_arg5)
          ∧ r.2.mem ((c.tc : Thread Cert.XattnRefIdeal.nD Cert.XattnRefIdeal.τ).loc Cert.XattnRefIdeal.main_arg6) = m' ((c.tc : Thread Cert.XattnRefIdeal.nD Cert.XattnRefIdeal.τ).loc Cert.XattnRefIdeal.main_arg6))

def preserves_Prep_PrepIdeal : Prop :=
  IdealRules.named_const.Statement Cert.PrepIdeal.κ "q_scale" .f32 0x3E0293EE#32 (((Real.sqrt 128)⁻¹ * (Real.log 2)⁻¹ : ℝ) : EReal)

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v6_0)) (v1 : (c : Dev Cert.PrepIdeal.nD) → Buf (Elt Ideal) ((c.tc : Thread Cert.PrepIdeal.nD Cert.PrepIdeal.τ).loc Cert.PrepIdeal.main_v6_1)) (v2 : (c : Dev Cert.PrepIdeal.nD) → Buf (Elt Ideal) ((c.tc : Thread Cert.PrepIdeal.nD Cert.PrepIdeal.τ).loc Cert.PrepIdeal.main_v6_2)) (v3 : (c : Dev Cert.PrepIdeal.nD) → Buf (Elt Ideal) ((c.tc : Thread Cert.PrepIdeal.nD Cert.PrepIdeal.τ).loc Cert.PrepIdeal.main_v6_3)) (v4 : (c : Dev Cert.PrepIdeal.nD) → Buf (Elt Ideal) ((c.tc : Thread Cert.PrepIdeal.nD Cert.PrepIdeal.τ).loc Cert.PrepIdeal.main_v6_4)) (v5 : (c : Dev Cert.PrepIdeal.nD) → Buf (Elt Ideal) ((c.tc : Thread Cert.PrepIdeal.nD Cert.PrepIdeal.τ).loc Cert.PrepIdeal.main_v6_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v6_0) = v0 c
          ∧ r.2.mem ((c.tc : Thread Cert.PrepIdeal.nD Cert.PrepIdeal.τ).loc Cert.PrepIdeal.main_v6_1) = v1 c
          ∧ r.2.mem ((c.tc : Thread Cert.PrepIdeal.nD Cert.PrepIdeal.τ).loc Cert.PrepIdeal.main_v6_2) = v2 c
          ∧ r.2.mem ((c.tc : Thread Cert.PrepIdeal.nD Cert.PrepIdeal.τ).loc Cert.PrepIdeal.main_v6_3) = v3 c
          ∧ r.2.mem ((c.tc : Thread Cert.PrepIdeal.nD Cert.PrepIdeal.τ).loc Cert.PrepIdeal.main_v6_4) = v4 c
          ∧ r.2.mem ((c.tc : Thread Cert.PrepIdeal.nD Cert.PrepIdeal.τ).loc Cert.PrepIdeal.main_v6_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v95) = v0 c
          ∧ r.2.mem ((c.tc : Thread Cert.PrepRefIdeal.nD Cert.PrepRefIdeal.τ).loc Cert.PrepRefIdeal.main_v97) = v1 c
          ∧ r.2.mem ((c.tc : Thread Cert.PrepRefIdeal.nD Cert.PrepRefIdeal.τ).loc Cert.PrepRefIdeal.main_v98) = v2 c
          ∧ r.2.mem ((c.tc : Thread Cert.PrepRefIdeal.nD Cert.PrepRefIdeal.τ).loc Cert.PrepRefIdeal.main_v99) = v3 c
          ∧ r.2.mem ((c.tc : Thread Cert.PrepRefIdeal.nD Cert.PrepRefIdeal.τ).loc Cert.PrepRefIdeal.main_v100) = v4 c
          ∧ r.2.mem ((c.tc : Thread Cert.PrepRefIdeal.nD Cert.PrepRefIdeal.τ).loc Cert.PrepRefIdeal.main_v94) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def preserves_Memory_MemoryIdeal : Prop :=
  True

def algebraic_MemoryIdeal_MemoryRefIdeal [hMemoryIdeal : Cert.MemoryIdeal.Facts] [hMemoryRefIdeal : Cert.MemoryRefIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryRefIdeal.nD Cert.MemoryRefIdeal.τ Cert.MemoryRefIdeal.sig) → Buf (Elt Ideal) ℓ) (g' : Dev Cert.MemoryRefIdeal.nD → PrngReg), Pre_MemoryIdeal m →
    (∀ c : Dev Cert.MemoryIdeal.nD,
      m' ((c.tc : Thread Cert.MemoryRefIdeal.nD Cert.MemoryRefIdeal.τ).loc Cert.MemoryRefIdeal.main_arg0) = m ((c.tc : Thread Cert.MemoryIdeal.nD Cert.MemoryIdeal.τ).loc Cert.MemoryIdeal.main_arg0)
      ∧ m' ((c.tc : Thread Cert.MemoryRefIdeal.nD Cert.MemoryRefIdeal.τ).loc Cert.MemoryRefIdeal.main_arg1) = m ((c.tc : Thread Cert.MemoryIdeal.nD Cert.MemoryIdeal.τ).loc Cert.MemoryIdeal.main_arg1)
      ∧ m' ((c.tc : Thread Cert.MemoryRefIdeal.nD Cert.MemoryRefIdeal.τ).loc Cert.MemoryRefIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryRefIdeal.defs (F := Ideal)) (onTc (τ := Cert.MemoryRefIdeal.τ) (Cert.MemoryRefIdeal.main (F := Ideal))) ⟨m', fun _ => 0, g'⟩ (fun r => ∀ c : Dev Cert.MemoryRefIdeal.nD,
          r.2.mem ((c.tc : Thread Cert.MemoryRefIdeal.nD Cert.MemoryRefIdeal.τ).loc Cert.MemoryRefIdeal.main_v13) = v0 c
          ∧ r.2.mem ((c.tc : Thread Cert.MemoryRefIdeal.nD Cert.MemoryRefIdeal.τ).loc Cert.MemoryRefIdeal.main_arg0) = m' ((c.tc : Thread Cert.MemoryRefIdeal.nD Cert.MemoryRefIdeal.τ).loc Cert.MemoryRefIdeal.main_arg0)
          ∧ r.2.mem ((c.tc : Thread Cert.MemoryRefIdeal.nD Cert.MemoryRefIdeal.τ).loc Cert.MemoryRefIdeal.main_arg1) = m' ((c.tc : Thread Cert.MemoryRefIdeal.nD Cert.MemoryRefIdeal.τ).loc Cert.MemoryRefIdeal.main_arg1)
          ∧ r.2.mem ((c.tc : Thread Cert.MemoryRefIdeal.nD Cert.MemoryRefIdeal.τ).loc Cert.MemoryRefIdeal.main_arg2) = m' ((c.tc : Thread Cert.MemoryRefIdeal.nD Cert.MemoryRefIdeal.τ).loc Cert.MemoryRefIdeal.main_arg2))

def Claim : Prop :=
  ∃ (hKernel : Cert.Kernel.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hXattn : Cert.Xattn.Facts) (hXattnIdeal : Cert.XattnIdeal.Facts) (hXattnRefIdeal : Cert.XattnRefIdeal.Facts) (hPrep : Cert.Prep.Facts) (hPrepIdeal : Cert.PrepIdeal.Facts) (hPrepRefIdeal : Cert.PrepRefIdeal.Facts) (hMemory : Cert.Memory.Facts) (hMemoryIdeal : Cert.MemoryIdeal.Facts) (hMemoryRefIdeal : Cert.MemoryRefIdeal.Facts) (hMlstm : Cert.Mlstm.Facts) (hSsd : Cert.Ssd.Facts),
    quiescent_Kernel (hKernel := hKernel)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Xattn (hXattn := hXattn)
    ∧ quiescent_XattnIdeal (hXattnIdeal := hXattnIdeal)
    ∧ quiescent_XattnRefIdeal (hXattnRefIdeal := hXattnRefIdeal)
    ∧ quiescent_Prep (hPrep := hPrep)
    ∧ quiescent_PrepIdeal (hPrepIdeal := hPrepIdeal)
    ∧ quiescent_PrepRefIdeal (hPrepRefIdeal := hPrepRefIdeal)
    ∧ quiescent_Memory (hMemory := hMemory)
    ∧ quiescent_MemoryIdeal (hMemoryIdeal := hMemoryIdeal)
    ∧ quiescent_MemoryRefIdeal (hMemoryRefIdeal := hMemoryRefIdeal)
    ∧ quiescent_Mlstm (hMlstm := hMlstm)
    ∧ quiescent_Ssd (hSsd := hSsd)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Xattn_XattnIdeal
    ∧ algebraic_XattnIdeal_XattnRefIdeal (hXattnIdeal := hXattnIdeal) (hXattnRefIdeal := hXattnRefIdeal)
    ∧ preserves_Prep_PrepIdeal
    ∧ algebraic_PrepIdeal_PrepRefIdeal (hPrepIdeal := hPrepIdeal) (hPrepRefIdeal := hPrepRefIdeal)
    ∧ preserves_Memory_MemoryIdeal
    ∧ algebraic_MemoryIdeal_MemoryRefIdeal (hMemoryIdeal := hMemoryIdeal) (hMemoryRefIdeal := hMemoryRefIdeal)
-- ==== Kernel.lean ====
abbrev S2x128x4x256x256 : Shape := ⟨5, ![2, 128, 4, 256, 256]⟩
abbrev S2x16384x1024 : Shape := ⟨3, ![2, 16384, 1024]⟩
abbrev S2x1152x16384 : Shape := ⟨3, ![2, 1152, 16384]⟩
abbrev S2x128x64x2048 : Shape := ⟨4, ![2, 128, 64, 2048]⟩
abbrev S2x16384x64 : Shape := ⟨3, ![2, 16384, 64]⟩
abbrev S2x128x1x2048 : Shape := ⟨4, ![2, 128, 1, 2048]⟩
abbrev S1088 : Shape := ⟨1, ![1088]⟩
abbrev S1x16384x64 : Shape := ⟨3, ![1, 16384, 64]⟩
abbrev S1x1x64x2048 : Shape := ⟨4, ![1, 1, 64, 2048]⟩
abbrev S1 : Shape := ⟨1, ![1]⟩
abbrev S1x1x1x2048 : Shape := ⟨4, ![1, 1, 1, 2048]⟩
abbrev S1x1x4x256x256 : Shape := ⟨5, ![1, 1, 4, 256, 256]⟩
abbrev S1x1024x1024 : Shape := ⟨3, ![1, 1024, 1024]⟩
abbrev S1x1152x1024 : Shape := ⟨3, ![1, 1152, 1024]⟩
abbrev S1x128x1024 : Shape := ⟨3, ![1, 128, 1024]⟩
abbrev S16384x128 : Shape := ⟨2, ![16384, 128]⟩
abbrev S256x128 : Shape := ⟨2, ![256, 128]⟩
abbrev S8x128 : Shape := ⟨2, ![8, 128]⟩
abbrev S8x256 : Shape := ⟨2, ![8, 256]⟩
abbrev S8x144x128 : Shape := ⟨3, ![8, 144, 128]⟩
abbrev S1024x256 : Shape := ⟨2, ![1024, 256]⟩
abbrev S1x128 : Shape := ⟨2, ![1, 128]⟩
abbrev S128x128 : Shape := ⟨2, ![128, 128]⟩
abbrev S1x128x64 : Shape := ⟨3, ![1, 128, 64]⟩
abbrev S128x64 : Shape := ⟨2, ![128, 64]⟩
abbrev S128x256 : Shape := ⟨2, ![128, 256]⟩
abbrev S1x1x64x256 : Shape := ⟨4, ![1, 1, 64, 256]⟩
abbrev S64x256 : Shape := ⟨2, ![64, 256]⟩
abbrev S1x1x1x256 : Shape := ⟨4, ![1, 1, 1, 256]⟩
abbrev S1x256 : Shape := ⟨2, ![1, 256]⟩
abbrev S128 : Shape := ⟨1, ![128]⟩
abbrev S1x1x128 : Shape := ⟨3, ![1, 1, 128]⟩
abbrev S1x1x1 : Shape := ⟨3, ![1, 1, 1]⟩
abbrev S32x128 : Shape := ⟨2, ![32, 128]⟩
abbrev S1024x128 : Shape := ⟨2, ![1024, 128]⟩
abbrev S32x32x128 : Shape := ⟨3, ![32, 32, 128]⟩
abbrev S1x1024x256 : Shape := ⟨3, ![1, 1024, 256]⟩
abbrev S1x1x1x256x256 : Shape := ⟨5, ![1, 1, 1, 256, 256]⟩
abbrev S256x256 : Shape := ⟨2, ![256, 256]⟩
abbrev S16x8x128 : Shape := ⟨3, ![16, 8, 128]⟩
abbrev S1x144x128 : Shape := ⟨3, ![1, 144, 128]⟩
abbrev S144x128 : Shape := ⟨2, ![144, 128]⟩
abbrev S1x144x1024 : Shape := ⟨3, ![1, 144, 1024]⟩
abbrev S144x1024 : Shape := ⟨2, ![144, 1024]⟩
abbrev S1x128x128 : Shape := ⟨3, ![1, 128, 128]⟩

abbrev nBuf : Space → Nat
  | .hbm => 7
  | .vmem => 27
  | .smem => 3
  | _ => 0

abbrev bufTy : (tb : Table) → Fin (tcTables nBuf tb) → BufTy
  | .hbm, ⟨0, _⟩ => ⟨S2x128x4x256x256, .bf16⟩
  | .hbm, ⟨1, _⟩ => ⟨S2x16384x1024, .bf16⟩
  | .hbm, ⟨2, _⟩ => ⟨S2x1152x16384, .bf16⟩
  | .hbm, ⟨3, _⟩ => ⟨S2x128x64x2048, .bf16⟩
  | .hbm, ⟨4, _⟩ => ⟨S2x16384x64, .bf16⟩
  | .hbm, ⟨5, _⟩ => ⟨S2x128x1x2048, .f32⟩
  | .hbm, ⟨6, _⟩ => ⟨S2x16384x1024, .bf16⟩
  | .local _ .vmem, ⟨0, _⟩ => ⟨S1x16384x64, .bf16⟩
  | .local _ .vmem, ⟨1, _⟩ => ⟨S1x16384x64, .bf16⟩
  | .local _ .vmem, ⟨2, _⟩ => ⟨S1x1x64x2048, .bf16⟩
  | .local _ .vmem, ⟨3, _⟩ => ⟨S1x1x64x2048, .bf16⟩
  | .local _ .vmem, ⟨4, _⟩ => ⟨S1x1x1x2048, .f32⟩
  | .local _ .vmem, ⟨5, _⟩ => ⟨S1x1x1x2048, .f32⟩
  | .local _ .vmem, ⟨6, _⟩ => ⟨S1x1x4x256x256, .bf16⟩
  | .local _ .vmem, ⟨7, _⟩ => ⟨S1x1x4x256x256, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1152x1024, .bf16⟩
  | .local _ .vmem, ⟨11, _⟩ => ⟨S1x1152x1024, .bf16⟩
  | .local _ .vmem, ⟨12, _⟩ => ⟨S1x128x1024, .bf16⟩
  | .local _ .vmem, ⟨13, _⟩ => ⟨S1x128x1024, .bf16⟩
  | .local _ .vmem, ⟨14, _⟩ => ⟨S16384x128, .i32⟩
  | .local _ .vmem, ⟨15, _⟩ => ⟨S256x128, .i32⟩
  | .local _ .vmem, ⟨16, _⟩ => ⟨S8x128, .i32⟩
  | .local _ .vmem, ⟨17, _⟩ => ⟨S8x256, .f32⟩
  | .local _ .vmem, ⟨18, _⟩ => ⟨S8x144x128, .f32⟩
  | .local _ .vmem, ⟨19, _⟩ => ⟨S1024x256, .f32⟩
  | .local _ .vmem, ⟨20, _⟩ => ⟨S1024x256, .f32⟩
  | .local _ .vmem, ⟨21, _⟩ => ⟨S1024x256, .f32⟩
  | .local _ .vmem, ⟨22, _⟩ => ⟨S1024x256, .f32⟩
  | .local _ .vmem, ⟨23, _⟩ => ⟨S1024x256, .bf16⟩
  | .local _ .vmem, ⟨24, _⟩ => ⟨S1024x256, .bf16⟩
  | .local _ .vmem, ⟨25, _⟩ => ⟨S1024x256, .bf16⟩
  | .local _ .vmem, ⟨26, _⟩ => ⟨S1024x256, .bf16⟩
  | .local _ .smem, ⟨0, _⟩ => ⟨S1088, .i32⟩
  | .local _ .smem, ⟨1, _⟩ => ⟨S1088, .i32⟩
  | .local _ .smem, ⟨2, _⟩ => ⟨S1088, .i32⟩
  | _, _ => ⟨S2x128x4x256x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_scratch8 : Ref sig .tc := ⟨.vmem, 22, rfl⟩
abbrev cc0_scratch9 : Ref sig .tc := ⟨.vmem, 23, rfl⟩
abbrev cc0_scratch10 : Ref sig .tc := ⟨.vmem, 24, rfl⟩
abbrev cc0_scratch11 : Ref sig .tc := ⟨.vmem, 25, rfl⟩
abbrev cc0_scratch12 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![2, 1088], ![false, false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
@[reducible] def k0_t1_loop (v5 : BitVec 32) : Scf.Loop 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_624 : BitVec 32 := 1#32
  ⟨c0_i32_622, v1019, c1_i32_624⟩
def k0_cond1 (v3 : BitVec 32) : BitVec 1 :=
  let c0_i32 : BitVec 32 := 0#32
  let v7 : BitVec 1 := Scalar.cmpi .eq v3 c0_i32
  let v8 : BitVec 32 := Scalar.extui v7
  let c0_i32_0 : BitVec 32 := 0#32
  let v9 : BitVec 1 := Scalar.cmpi .ne v8 c0_i32_0
  v9

def k0_mult1 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_651 : BitVec 32 := 1024#32
  let v1066 : BitVec 32 := Scalar.muli arg25 c1024_i32_651
  let c0_i32_652 : BitVec 32 := 0#32
  let v1067 : BitVec 32 := Scalar.addi v1066 c0_i32_652
  v1067
def k0_off2 (v5 : BitVec 32) (k0_t1 : Fin (k0_t1_loop v5).trips) (c0_i32_652 : BitVec 32) : Fin 3 → Nat :=
  let c0_653 : Index := 0#32
  let c0_i32_622 : BitVec 32 := 0#32
  let c1_i32_624 : BitVec 32 := 1#32
  let arg25 : BitVec 32 := Scf.iv c0_i32_622 c1_i32_624 k0_t1
  let c1024_i32_651 : BitVec 32 := 1024#32
  let v1066 : BitVec 32 := Scalar.muli arg25 c1024_i32_651
  let v1067 : BitVec 32 := Scalar.addi v1066 c0_i32_652
  let v1068 : BitVec 32 := v1067
  let v1069 : Index := Scalar.indexCast v1068
  let c0_654 : Index := 0#32
  ![0, v1069.toNat, 0]
def k0_off3 (v5 : BitVec 32) (k0_t1 : Fin (k0_t1_loop v5).trips) (c0_i32_652 : BitVec 32) : Fin 2 → Nat :=
  let c0_i32_622 : BitVec 32 := 0#32
  let c1_i32_624 : BitVec 32 := 1#32
  let arg25 : BitVec 32 := Scf.iv c0_i32_622 c1_i32_624 k0_t1
  let c1024_i32_651 : BitVec 32 := 1024#32
  let v1066 : BitVec 32 := Scalar.muli arg25 c1024_i32_651
  let v1067 : BitVec 32 := Scalar.addi v1066 c0_i32_652
  let v1068 : BitVec 32 := v1067
  let v1168 : Index := Scalar.indexCast v1068
  let c0_734 : Index := 0#32
  ![v1168.toNat, 0]
def k0_mult2 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_739 : BitVec 32 := 1024#32
  let v1177 : BitVec 32 := Scalar.muli arg25 c1024_i32_739
  let c128_i32_740 : BitVec 32 := 128#32
  let v1178 : BitVec 32 := Scalar.addi v1177 c128_i32_740
  v1178
def k0_mult3 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_832 : BitVec 32 := 1024#32
  let v1288 : BitVec 32 := Scalar.muli arg25 c1024_i32_832
  let c256_i32_833 : BitVec 32 := 256#32
  let v1289 : BitVec 32 := Scalar.addi v1288 c256_i32_833
  v1289
def k0_mult4 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_925 : BitVec 32 := 1024#32
  let v1399 : BitVec 32 := Scalar.muli arg25 c1024_i32_925
  let c384_i32_926 : BitVec 32 := 384#32
  let v1400 : BitVec 32 := Scalar.addi v1399 c384_i32_926
  v1400
def k0_mult5 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_1018 : BitVec 32 := 1024#32
  let v1510 : BitVec 32 := Scalar.muli arg25 c1024_i32_1018
  let c512_i32_1019 : BitVec 32 := 512#32
  let v1511 : BitVec 32 := Scalar.addi v1510 c512_i32_1019
  v1511
def k0_mult6 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_1111 : BitVec 32 := 1024#32
  let v1621 : BitVec 32 := Scalar.muli arg25 c1024_i32_1111
  let c640_i32_1112 : BitVec 32 := 640#32
  let v1622 : BitVec 32 := Scalar.addi v1621 c640_i32_1112
  v1622
def k0_mult7 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_1204 : BitVec 32 := 1024#32
  let v1732 : BitVec 32 := Scalar.muli arg25 c1024_i32_1204
  let c768_i32_1205 : BitVec 32 := 768#32
  let v1733 : BitVec 32 := Scalar.addi v1732 c768_i32_1205
  v1733
def k0_mult8 (v5 : BitVec 32) (k0_t1 : Fin (k0_t1_loop v5).trips) : BitVec 32 :=
  let c0_i32_622 : BitVec 32 := 0#32
  let c1_i32_624 : BitVec 32 := 1#32
  let arg25 : BitVec 32 := Scf.iv c0_i32_622 c1_i32_624 k0_t1
  let c1024_i32_1297 : BitVec 32 := 1024#32
  let v1843 : BitVec 32 := Scalar.muli arg25 c1024_i32_1297
  let c896_i32_1298 : BitVec 32 := 896#32
  let v1844 : BitVec 32 := Scalar.addi v1843 c896_i32_1298
  v1844
@[reducible] def k0_t2_loop (v5 : BitVec 32) : Scf.Loop 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let v1016 : BitVec 32 := Scalar.addi c0_i32_622 v1015
  let c1_i32_625 : BitVec 32 := 1#32
  ⟨v1019, v1016, c1_i32_625⟩
def k0_mult9 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_651 : BitVec 32 := 1024#32
  let v1066 : BitVec 32 := Scalar.muli arg25 c1024_i32_651
  let c0_i32_652 : BitVec 32 := 0#32
  let v1067 : BitVec 32 := Scalar.addi v1066 c0_i32_652
  v1067
def k0_off4 (v5 : BitVec 32) (k0_t2 : Fin (k0_t2_loop v5).trips) (c0_i32_652 : BitVec 32) : Fin 3 → Nat :=
  let c0_653 : Index := 0#32
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_651 : BitVec 32 := 1024#32
  let v1066 : BitVec 32 := Scalar.muli arg25 c1024_i32_651
  let v1067 : BitVec 32 := Scalar.addi v1066 c0_i32_652
  let v1068 : BitVec 32 := v1067
  let v1069 : Index := Scalar.indexCast v1068
  let c0_654 : Index := 0#32
  ![0, v1069.toNat, 0]
def k0_off5 (v5 : BitVec 32) (k0_t2 : Fin (k0_t2_loop v5).trips) (c0_i32_652 : BitVec 32) : Fin 2 → Nat :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_651 : BitVec 32 := 1024#32
  let v1066 : BitVec 32 := Scalar.muli arg25 c1024_i32_651
  let v1067 : BitVec 32 := Scalar.addi v1066 c0_i32_652
  let v1068 : BitVec 32 := v1067
  let v1168 : Index := Scalar.indexCast v1068
  let c0_734 : Index := 0#32
  ![v1168.toNat, 0]
def k0_mult10 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_739 : BitVec 32 := 1024#32
  let v1177 : BitVec 32 := Scalar.muli arg25 c1024_i32_739
  let c128_i32_740 : BitVec 32 := 128#32
  let v1178 : BitVec 32 := Scalar.addi v1177 c128_i32_740
  v1178
def k0_mult11 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_832 : BitVec 32 := 1024#32
  let v1288 : BitVec 32 := Scalar.muli arg25 c1024_i32_832
  let c256_i32_833 : BitVec 32 := 256#32
  let v1289 : BitVec 32 := Scalar.addi v1288 c256_i32_833
  v1289
def k0_mult12 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_925 : BitVec 32 := 1024#32
  let v1399 : BitVec 32 := Scalar.muli arg25 c1024_i32_925
  let c384_i32_926 : BitVec 32 := 384#32
  let v1400 : BitVec 32 := Scalar.addi v1399 c384_i32_926
  v1400
def k0_mult13 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_1018 : BitVec 32 := 1024#32
  let v1510 : BitVec 32 := Scalar.muli arg25 c1024_i32_1018
  let c512_i32_1019 : BitVec 32 := 512#32
  let v1511 : BitVec 32 := Scalar.addi v1510 c512_i32_1019
  v1511
def k0_mult14 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_1111 : BitVec 32 := 1024#32
  let v1621 : BitVec 32 := Scalar.muli arg25 c1024_i32_1111
  let c640_i32_1112 : BitVec 32 := 640#32
  let v1622 : BitVec 32 := Scalar.addi v1621 c640_i32_1112
  v1622
def k0_mult15 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_1204 : BitVec 32 := 1024#32
  let v1732 : BitVec 32 := Scalar.muli arg25 c1024_i32_1204
  let c768_i32_1205 : BitVec 32 := 768#32
  let v1733 : BitVec 32 := Scalar.addi v1732 c768_i32_1205
  v1733
def k0_mult16 (v5 : BitVec 32) (k0_t2 : Fin (k0_t2_loop v5).trips) : BitVec 32 :=
  let c0_i32_622 : BitVec 32 := 0#32
  let c1_i32 : BitVec 32 := 1#32
  let v6 : BitVec 32 := Scalar.addi v5 c1_i32
  let v1015 : BitVec 32 := Scalar.subi v6 c0_i32_622
  let c1_i32_623 : BitVec 32 := 1#32
  let v1017 : BitVec 32 := Scalar.divsi v1015 c1_i32_623
  let v1018 : BitVec 32 := Scalar.muli v1017 c1_i32_623
  let v1019 : BitVec 32 := Scalar.addi c0_i32_622 v1018
  let c1_i32_625 : BitVec 32 := 1#32
  let arg25 : BitVec 32 := Scf.iv v1019 c1_i32_625 k0_t2
  let c1024_i32_1297 : BitVec 32 := 1024#32
  let v1843 : BitVec 32 := Scalar.muli arg25 c1024_i32_1297
  let c896_i32_1298 : BitVec 32 := 896#32
  let v1844 : BitVec 32 := Scalar.addi v1843 c896_i32_1298
  v1844

def k0_chk1 (v3 : BitVec 32) (v5 : BitVec 32) : Prop :=
  (∀ (k0_h1 : k0_cond1 v3 = 1#1), (k0_t1_loop v5).OK) ∧
  (∀ k0_t1 : Fin (k0_t1_loop v5).trips, ∀ (k0_h1 : k0_cond1 v3 = 1#1), 128 ∣ (k0_mult1 v5 k0_t1).toNat) ∧
  (∀ k0_t1 : Fin (k0_t1_loop v5).trips, ∀ (k0_h1 : k0_cond1 v3 = 1#1), ∀ (r : Fin 8), ∀ a, (k0_off2 v5 k0_t1 (BitVec.ofNat 32 (128 * r.val))) a + S1x128x64.size a ≤ S1x16384x64.size a) ∧
  (∀ k0_t1 : Fin (k0_t1_loop v5).trips, ∀ (k0_h1 : k0_cond1 v3 = 1#1), ∀ (r : Fin 8), ∀ a, (k0_off3 v5 k0_t1 (BitVec.ofNat 32 (128 * r.val))) a + S128x128.size a ≤ S16384x128.size a) ∧
  (∀ k0_t1 : Fin (k0_t1_loop v5).trips, ∀ (k0_h1 : k0_cond1 v3 = 1#1), 128 ∣ (k0_mult2 v5 k0_t1).toNat) ∧
  (∀ k0_t1 : Fin (k0_t1_loop v5).trips, ∀ (k0_h1 : k0_cond1 v3 = 1#1), 128 ∣ (k0_mult3 v5 k0_t1).toNat) ∧
  (∀ k0_t1 : Fin (k0_t1_loop v5).trips, ∀ (k0_h1 : k0_cond1 v3 = 1#1), 128 ∣ (k0_mult4 v5 k0_t1).toNat) ∧
  (∀ k0_t1 : Fin (k0_t1_loop v5).trips, ∀ (k0_h1 : k0_cond1 v3 = 1#1), 128 ∣ (k0_mult5 v5 k0_t1).toNat) ∧
  (∀ k0_t1 : Fin (k0_t1_loop v5).trips, ∀ (k0_h1 : k0_cond1 v3 = 1#1), 128 ∣ (k0_mult6 v5 k0_t1).toNat) ∧
  (∀ k0_t1 : Fin (k0_t1_loop v5).trips, ∀ (k0_h1 : k0_cond1 v3 = 1#1), 128 ∣ (k0_mult7 v5 k0_t1).toNat) ∧
  (∀ k0_t1 : Fin (k0_t1_loop v5).trips, ∀ (k0_h1 : k0_cond1 v3 = 1#1), 128 ∣ (k0_mult8 v5 k0_t1).toNat) ∧
  (∀ (k0_h1 : k0_cond1 v3 = 1#1), (k0_t2_loop v5).OK) ∧
  (∀ k0_t2 : Fin (k0_t2_loop v5).trips, ∀ (k0_h1 : k0_cond1 v3 = 1#1), 128 ∣ (k0_mult9 v5 k0_t2).toNat) ∧
  (∀ k0_t2 : Fin (k0_t2_loop v5).trips, ∀ (k0_h1 : k0_cond1 v3 = 1#1), ∀ (r : Fin 8), ∀ a, (k0_off4 v5 k0_t2 (BitVec.ofNat 32 (128 * r.val))) a + S1x128x64.size a ≤ S1x16384x64.size a) ∧
  (∀ k0_t2 : Fin (k0_t2_loop v5).trips, ∀ (k0_h1 : k0_cond1 v3 = 1#1), ∀ (r : Fin 8), ∀ a, (k0_off5 v5 k0_t2 (BitVec.ofNat 32 (128 * r.val))) a + S128x128.size a ≤ S16384x128.size a) ∧
  (∀ k0_t2 : Fin (k0_t2_loop v5).trips, ∀ (k0_h1 : k0_cond1 v3 = 1#1), 128 ∣ (k0_mult10 v5 k0_t2).toNat) ∧
  (∀ k0_t2 : Fin (k0_t2_loop v5).trips, ∀ (k0_h1 : k0_cond1 v3 = 1#1), 128 ∣ (k0_mult11 v5 k0_t2).toNat) ∧
  (∀ k0_t2 : Fin (k0_t2_loop v5).trips, ∀ (k0_h1 : k0_cond1 v3 = 1#1), 128 ∣ (k0_mult12 v5 k0_t2).toNat) ∧
  (∀ k0_t2 : Fin (k0_t2_loop v5).trips, ∀ (k0_h1 : k0_cond1 v3 = 1#1), 128 ∣ (k0_mult13 v5 k0_t2).toNat) ∧
  (∀ k0_t2 : Fin (k0_t2_loop v5).trips, ∀ (k0_h1 : k0_cond1 v3 = 1#1), 128 ∣ (k0_mult14 v5 k0_t2).toNat) ∧
  (∀ k0_t2 : Fin (k0_t2_loop v5).trips, ∀ (k0_h1 : k0_cond1 v3 = 1#1), 128 ∣ (k0_mult15 v5 k0_t2).toNat) ∧
  (∀ k0_t2 : Fin (k0_t2_loop v5).trips, ∀ (k0_h1 : k0_cond1 v3 = 1#1), 128 ∣ (k0_mult16 v5 k0_t2).toNat)
theorem k0_t1_ok : ∀ (v3 : BitVec 32) (v5 : BitVec 32) (k0_hw1 : k0_chk1 v3 v5), ∀ (k0_h1 : k0_cond1 v3 = 1#1), (k0_t1_loop v5).OK := fun v3 v5 k0_hw1 k0_h1 => k0_hw1.1 k0_h1
theorem k0_mult1_dvd : ∀ (v3 : BitVec 32) (v5 : BitVec 32) (k0_hw1 : k0_chk1 v3 v5) (k0_t1 : Fin (k0_t1_loop v5).trips), ∀ (k0_h1 : k0_cond1 v3 = 1#1), 128 ∣ (k0_mult1 v5 k0_t1).toNat := fun v3 v5 k0_hw1 k0_t1 k0_h1 => k0_hw1.2.1 k0_t1 k0_h1
theorem k0_off2_inb : ∀ (v3 : BitVec 32) (v5 : BitVec 32) (k0_hw1 : k0_chk1 v3 v5) (k0_t1 : Fin (k0_t1_loop v5).trips), ∀ (k0_h1 : k0_cond1 v3 = 1#1), ∀ (r : Fin 8), ∀ a, (k0_off2 v5 k0_t1 (BitVec.ofNat 32 (128 * r.val))) a + S1x128x64.size a ≤ S1x16384x64.size a := fun v3 v5 k0_hw1 k0_t1 k0_h1 r => k0_hw1.2.2.1 k0_t1 k0_h1 r
theorem k0_off3_inb : ∀ (v3 : BitVec 32) (v5 : BitVec 32) (k0_hw1 : k0_chk1 v3 v5) (k0_t1 : Fin (k0_t1_loop v5).trips), ∀ (k0_h1 : k0_cond1 v3 = 1#1), ∀ (r : Fin 8), ∀ a, (k0_off3 v5 k0_t1 (BitVec.ofNat 32 (128 * r.val))) a + S128x128.size a ≤ S16384x128.size a := fun v3 v5 k0_hw1 k0_t1 k0_h1 r => k0_hw1.2.2.2.1 k0_t1 k0_h1 r
theorem k0_mult2_dvd : ∀ (v3 : BitVec 32) (v5 : BitVec 32) (k0_hw1 : k0_chk1 v3 v5) (k0_t1 : Fin (k0_t1_loop v5).trips), ∀ (k0_h1 : k0_cond1 v3 = 1#1), 128 ∣ (k0_mult2 v5 k0_t1).toNat := fun v3 v5 k0_hw1 k0_t1 k0_h1 => k0_hw1.2.2.2.2.1 k0_t1 k0_h1
theorem k0_mult3_dvd : ∀ (v3 : BitVec 32) (v5 : BitVec 32) (k0_hw1 : k0_chk1 v3 v5) (k0_t1 : Fin (k0_t1_loop v5).trips), ∀ (k0_h1 : k0_cond1 v3 = 1#1), 128 ∣ (k0_mult3 v5 k0_t1).toNat := fun v3 v5 k0_hw1 k0_t1 k0_h1 => k0_hw1.2.2.2.2.2.1 k0_t1 k0_h1
theorem k0_mult4_dvd : ∀ (v3 : BitVec 32) (v5 : BitVec 32) (k0_hw1 : k0_chk1 v3 v5) (k0_t1 : Fin (k0_t1_loop v5).trips), ∀ (k0_h1 : k0_cond1 v3 = 1#1), 128 ∣ (k0_mult4 v5 k0_t1).toNat := fun v3 v5 k0_hw1 k0_t1 k0_h1 => k0_hw1.2.2.2.2.2.2.1 k0_t1 k0_h1
theorem k0_mult5_dvd : ∀ (v3 : BitVec 32) (v5 : BitVec 32) (k0_hw1 : k0_chk1 v3 v5) (k0_t1 : Fin (k0_t1_loop v5).trips), ∀ (k0_h1 : k0_cond1 v3 = 1#1), 128 ∣ (k0_mult5 v5 k0_t1).toNat := fun v3 v5 k0_hw1 k0_t1 k0_h1 => k0_hw1.2.2.2.2.2.2.2.1 k0_t1 k0_h1
theorem k0_mult6_dvd : ∀ (v3 : BitVec 32) (v5 : BitVec 32) (k0_hw1 : k0_chk1 v3 v5) (k0_t1 : Fin (k0_t1_loop v5).trips), ∀ (k0_h1 : k0_cond1 v3 = 1#1), 128 ∣ (k0_mult6 v5 k0_t1).toNat := fun v3 v5 k0_hw1 k0_t1 k0_h1 => k0_hw1.2.2.2.2.2.2.2.2.1 k0_t1 k0_h1
theorem k0_mult7_dvd : ∀ (v3 : BitVec 32) (v5 : BitVec 32) (k0_hw1 : k0_chk1 v3 v5) (k0_t1 : Fin (k0_t1_loop v5).trips), ∀ (k0_h1 : k0_cond1 v3 = 1#1), 128 ∣ (k0_mult7 v5 k0_t1).toNat := fun v3 v5 k0_hw1 k0_t1 k0_h1 => k0_hw1.2.2.2.2.2.2.2.2.2.1 k0_t1 k0_h1
theorem k0_mult8_dvd : ∀ (v3 : BitVec 32) (v5 : BitVec 32) (k0_hw1 : k0_chk1 v3 v5) (k0_t1 : Fin (k0_t1_loop v5).trips), ∀ (k0_h1 : k0_cond1 v3 = 1#1), 128 ∣ (k0_mult8 v5 k0_t1).toNat := fun v3 v5 k0_hw1 k0_t1 k0_h1 => k0_hw1.2.2.2.2.2.2.2.2.2.2.1 k0_t1 k0_h1
theorem k0_t2_ok : ∀ (v3 : BitVec 32) (v5 : BitVec 32) (k0_hw1 : k0_chk1 v3 v5), ∀ (k0_h1 : k0_cond1 v3 = 1#1), (k0_t2_loop v5).OK := fun v3 v5 k0_hw1 k0_h1 => k0_hw1.2.2.2.2.2.2.2.2.2.2.2.1 k0_h1
theorem k0_mult9_dvd : ∀ (v3 : BitVec 32) (v5 : BitVec 32) (k0_hw1 : k0_chk1 v3 v5) (k0_t2 : Fin (k0_t2_loop v5).trips), ∀ (k0_h1 : k0_cond1 v3 = 1#1), 128 ∣ (k0_mult9 v5 k0_t2).toNat := fun v3 v5 k0_hw1 k0_t2 k0_h1 => k0_hw1.2.2.2.2.2.2.2.2.2.2.2.2.1 k0_t2 k0_h1
theorem k0_off4_inb : ∀ (v3 : BitVec 32) (v5 : BitVec 32) (k0_hw1 : k0_chk1 v3 v5) (k0_t2 : Fin (k0_t2_loop v5).trips), ∀ (k0_h1 : k0_cond1 v3 = 1#1), ∀ (r : Fin 8), ∀ a, (k0_off4 v5 k0_t2 (BitVec.ofNat 32 (128 * r.val))) a + S1x128x64.size a ≤ S1x16384x64.size a := fun v3 v5 k0_hw1 k0_t2 k0_h1 r => k0_hw1.2.2.2.2.2.2.2.2.2.2.2.2.2.1 k0_t2 k0_h1 r
theorem k0_off5_inb : ∀ (v3 : BitVec 32) (v5 : BitVec 32) (k0_hw1 : k0_chk1 v3 v5) (k0_t2 : Fin (k0_t2_loop v5).trips), ∀ (k0_h1 : k0_cond1 v3 = 1#1), ∀ (r : Fin 8), ∀ a, (k0_off5 v5 k0_t2 (BitVec.ofNat 32 (128 * r.val))) a + S128x128.size a ≤ S16384x128.size a := fun v3 v5 k0_hw1 k0_t2 k0_h1 r => k0_hw1.2.2.2.2.2.2.2.2.2.2.2.2.2.2.1 k0_t2 k0_h1 r
theorem k0_mult10_dvd : ∀ (v3 : BitVec 32) (v5 : BitVec 32) (k0_hw1 : k0_chk1 v3 v5) (k0_t2 : Fin (k0_t2_loop v5).trips), ∀ (k0_h1 : k0_cond1 v3 = 1#1), 128 ∣ (k0_mult10 v5 k0_t2).toNat := fun v3 v5 k0_hw1 k0_t2 k0_h1 => k0_hw1.2.2.2.2.2.2.2.2.2.2.2.2.2.2.2.1 k0_t2 k0_h1
theorem k0_mult11_dvd : ∀ (v3 : BitVec 32) (v5 : BitVec 32) (k0_hw1 : k0_chk1 v3 v5) (k0_t2 : Fin (k0_t2_loop v5).trips), ∀ (k0_h1 : k0_cond1 v3 = 1#1), 128 ∣ (k0_mult11 v5 k0_t2).toNat := fun v3 v5 k0_hw1 k0_t2 k0_h1 => k0_hw1.2.2.2.2.2.2.2.2.2.2.2.2.2.2.2.2.1 k0_t2 k0_h1
theorem k0_mult12_dvd : ∀ (v3 : BitVec 32) (v5 : BitVec 32) (k0_hw1 : k0_chk1 v3 v5) (k0_t2 : Fin (k0_t2_loop v5).trips), ∀ (k0_h1 : k0_cond1 v3 = 1#1), 128 ∣ (k0_mult12 v5 k0_t2).toNat := fun v3 v5 k0_hw1 k0_t2 k0_h1 => k0_hw1.2.2.2.2.2.2.2.2.2.2.2.2.2.2.2.2.2.1 k0_t2 k0_h1
theorem k0_mult13_dvd : ∀ (v3 : BitVec 32) (v5 : BitVec 32) (k0_hw1 : k0_chk1 v3 v5) (k0_t2 : Fin (k0_t2_loop v5).trips), ∀ (k0_h1 : k0_cond1 v3 = 1#1), 128 ∣ (k0_mult13 v5 k0_t2).toNat := fun v3 v5 k0_hw1 k0_t2 k0_h1 => k0_hw1.2.2.2.2.2.2.2.2.2.2.2.2.2.2.2.2.2.2.1 k0_t2 k0_h1
theorem k0_mult14_dvd : ∀ (v3 : BitVec 32) (v5 : BitVec 32) (k0_hw1 : k0_chk1 v3 v5) (k0_t2 : Fin (k0_t2_loop v5).trips), ∀ (k0_h1 : k0_cond1 v3 = 1#1), 128 ∣ (k0_mult14 v5 k0_t2).toNat := fun v3 v5 k0_hw1 k0_t2 k0_h1 => k0_hw1.2.2.2.2.2.2.2.2.2.2.2.2.2.2.2.2.2.2.2.1 k0_t2 k0_h1
theorem k0_mult15_dvd : ∀ (v3 : BitVec 32) (v5 : BitVec 32) (k0_hw1 : k0_chk1 v3 v5) (k0_t2 : Fin (k0_t2_loop v5).trips), ∀ (k0_h1 : k0_cond1 v3 = 1#1), 128 ∣ (k0_mult15 v5 k0_t2).toNat := fun v3 v5 k0_hw1 k0_t2 k0_h1 => k0_hw1.2.2.2.2.2.2.2.2.2.2.2.2.2.2.2.2.2.2.2.2.1 k0_t2 k0_h1
theorem k0_mult16_dvd : ∀ (v3 : BitVec 32) (v5 : BitVec 32) (k0_hw1 : k0_chk1 v3 v5) (k0_t2 : Fin (k0_t2_loop v5).trips), ∀ (k0_h1 : k0_cond1 v3 = 1#1), 128 ∣ (k0_mult16 v5 k0_t2).toNat := fun v3 v5 k0_hw1 k0_t2 k0_h1 => k0_hw1.2.2.2.2.2.2.2.2.2.2.2.2.2.2.2.2.2.2.2.2.2 k0_t2 k0_h1

@[reducible] def k0_t3_loop (v1030 : BitVec 32) : Scf.Loop 32 :=
  let c0_i32_638 : BitVec 32 := 0#32
  let c32_i32 : BitVec 32 := 32#32
  let v1031 : BitVec 32 := Scalar.subi c32_i32 v1030
  let v1044 : BitVec 32 := Scalar.subi v1031 c0_i32_638
  let c1_i32_639 : BitVec 32 := 1#32
  let v1046 : BitVec 32 := Scalar.divsi v1044 c1_i32_639
  let v1047 : BitVec 32 := Scalar.muli v1046 c1_i32_639
  let v1048 : BitVec 32 := Scalar.addi c0_i32_638 v1047
  let c1_i32_640 : BitVec 32 := 1#32
  ⟨c0_i32_638, v1048, c1_i32_640⟩

@[reducible] def k0_t4_loop (v5 : BitVec 32) : Scf.Loop 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_656 : BitVec 32 := 1#32
  ⟨c0_i32_654, v1076, c1_i32_656⟩
def k0_mult17 (v5 : BitVec 32) (k0_t4 : Fin (k0_t4_loop v5).trips) : BitVec 32 :=
  let c0_i32_654 : BitVec 32 := 0#32
  let c1_i32_656 : BitVec 32 := 1#32
  let arg27 : BitVec 32 := Scf.iv c0_i32_654 c1_i32_656 k0_t4
  let c1024_i32_660 : BitVec 32 := 1024#32
  let v1084 : BitVec 32 := Scalar.muli arg27 c1024_i32_660
  v1084
def k0_off6 (v5 : BitVec 32) (k0_t4 : Fin (k0_t4_loop v5).trips) : Fin 2 → Nat :=
  let c0_i32_654 : BitVec 32 := 0#32
  let c1_i32_656 : BitVec 32 := 1#32
  let arg27 : BitVec 32 := Scf.iv c0_i32_654 c1_i32_656 k0_t4
  let c1024_i32_660 : BitVec 32 := 1024#32
  let v1084 : BitVec 32 := Scalar.muli arg27 c1024_i32_660
  let v1085 : BitVec 32 := v1084
  let v1086 : Index := Scalar.indexCast v1085
  let c0_661 : Index := 0#32
  ![v1086.toNat, 0]
@[reducible] def k0_t5_loop (v5 : BitVec 32) : Scf.Loop 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let v1073 : BitVec 32 := Scalar.addi c0_i32_654 v1072
  let c1_i32_657 : BitVec 32 := 1#32
  ⟨v1076, v1073, c1_i32_657⟩
def k0_mult18 (v5 : BitVec 32) (k0_t5 : Fin (k0_t5_loop v5).trips) : BitVec 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_657 : BitVec 32 := 1#32
  let arg27 : BitVec 32 := Scf.iv v1076 c1_i32_657 k0_t5
  let c1024_i32_660 : BitVec 32 := 1024#32
  let v1084 : BitVec 32 := Scalar.muli arg27 c1024_i32_660
  v1084
def k0_off7 (v5 : BitVec 32) (k0_t5 : Fin (k0_t5_loop v5).trips) : Fin 2 → Nat :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_657 : BitVec 32 := 1#32
  let arg27 : BitVec 32 := Scf.iv v1076 c1_i32_657 k0_t5
  let c1024_i32_660 : BitVec 32 := 1024#32
  let v1084 : BitVec 32 := Scalar.muli arg27 c1024_i32_660
  let v1085 : BitVec 32 := v1084
  let v1086 : Index := Scalar.indexCast v1085
  let c0_661 : Index := 0#32
  ![v1086.toNat, 0]
@[reducible] def k0_t6_loop (v1030 : BitVec 32) : Scf.Loop 32 :=
  let c0_i32_638 : BitVec 32 := 0#32
  let c32_i32 : BitVec 32 := 32#32
  let v1031 : BitVec 32 := Scalar.subi c32_i32 v1030
  let v1044 : BitVec 32 := Scalar.subi v1031 c0_i32_638
  let c1_i32_639 : BitVec 32 := 1#32
  let v1046 : BitVec 32 := Scalar.divsi v1044 c1_i32_639
  let v1047 : BitVec 32 := Scalar.muli v1046 c1_i32_639
  let v1048 : BitVec 32 := Scalar.addi c0_i32_638 v1047
  let v1045 : BitVec 32 := Scalar.addi c0_i32_638 v1044
  let c1_i32_641 : BitVec 32 := 1#32
  ⟨v1048, v1045, c1_i32_641⟩
@[reducible] def k0_t7_loop (v5 : BitVec 32) : Scf.Loop 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_656 : BitVec 32 := 1#32
  ⟨c0_i32_654, v1076, c1_i32_656⟩
def k0_mult19 (v5 : BitVec 32) (k0_t7 : Fin (k0_t7_loop v5).trips) : BitVec 32 :=
  let c0_i32_654 : BitVec 32 := 0#32
  let c1_i32_656 : BitVec 32 := 1#32
  let arg27 : BitVec 32 := Scf.iv c0_i32_654 c1_i32_656 k0_t7
  let c1024_i32_660 : BitVec 32 := 1024#32
  let v1084 : BitVec 32 := Scalar.muli arg27 c1024_i32_660
  v1084
def k0_off8 (v5 : BitVec 32) (k0_t7 : Fin (k0_t7_loop v5).trips) : Fin 2 → Nat :=
  let c0_i32_654 : BitVec 32 := 0#32
  let c1_i32_656 : BitVec 32 := 1#32
  let arg27 : BitVec 32 := Scf.iv c0_i32_654 c1_i32_656 k0_t7
  let c1024_i32_660 : BitVec 32 := 1024#32
  let v1084 : BitVec 32 := Scalar.muli arg27 c1024_i32_660
  let v1085 : BitVec 32 := v1084
  let v1086 : Index := Scalar.indexCast v1085
  let c0_661 : Index := 0#32
  ![v1086.toNat, 0]
@[reducible] def k0_t8_loop (v5 : BitVec 32) : Scf.Loop 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let v1073 : BitVec 32 := Scalar.addi c0_i32_654 v1072
  let c1_i32_657 : BitVec 32 := 1#32
  ⟨v1076, v1073, c1_i32_657⟩
def k0_mult20 (v5 : BitVec 32) (k0_t8 : Fin (k0_t8_loop v5).trips) : BitVec 32 :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_657 : BitVec 32 := 1#32
  let arg27 : BitVec 32 := Scf.iv v1076 c1_i32_657 k0_t8
  let c1024_i32_660 : BitVec 32 := 1024#32
  let v1084 : BitVec 32 := Scalar.muli arg27 c1024_i32_660
  v1084
def k0_off9 (v5 : BitVec 32) (k0_t8 : Fin (k0_t8_loop v5).trips) : Fin 2 → Nat :=
  let c0_i32_654 : BitVec 32 := 0#32
  let c1_i32 : BitVec 32 := 1#32
  let v6 : BitVec 32 := Scalar.addi v5 c1_i32
  let c1_i32_637 : BitVec 32 := 1#32
  let v1043 : BitVec 32 := Scalar.muli v6 c1_i32_637
  let v1072 : BitVec 32 := Scalar.subi v1043 c0_i32_654
  let c1_i32_655 : BitVec 32 := 1#32
  let v1074 : BitVec 32 := Scalar.divsi v1072 c1_i32_655
  let v1075 : BitVec 32 := Scalar.muli v1074 c1_i32_655
  let v1076 : BitVec 32 := Scalar.addi c0_i32_654 v1075
  let c1_i32_657 : BitVec 32 := 1#32
  let arg27 : BitVec 32 := Scf.iv v1076 c1_i32_657 k0_t8
  let c1024_i32_660 : BitVec 32 := 1024#32
  let v1084 : BitVec 32 := Scalar.muli arg27 c1024_i32_660
  let v1085 : BitVec 32 := v1084
  let v1086 : Index := Scalar.indexCast v1085
  let c0_661 : Index := 0#32
  ![v1086.toNat, 0]

def k0_chk2 (v3 : BitVec 32) (v5 : BitVec 32) (v1030 : BitVec 32) : Prop :=
  (∀ (k0_h1 : k0_cond1 v3 = 1#1), (k0_t3_loop v1030).OK) ∧
  (∀ k0_t3 : Fin (k0_t3_loop v1030).trips, ∀ (k0_h1 : k0_cond1 v3 = 1#1), (k0_t4_loop v5).OK) ∧
  (∀ (k0_t3 : Fin (k0_t3_loop v1030).trips) (k0_t4 : Fin (k0_t4_loop v5).trips), ∀ (k0_h1 : k0_cond1 v3 = 1#1), 1024 ∣ (k0_mult17 v5 k0_t4).toNat) ∧
  (∀ (k0_t3 : Fin (k0_t3_loop v1030).trips) (k0_t4 : Fin (k0_t4_loop v5).trips), ∀ (k0_h1 : k0_cond1 v3 = 1#1), ∀ a, (k0_off6 v5 k0_t4) a + S1024x128.size a ≤ S16384x128.size a) ∧
  (∀ k0_t3 : Fin (k0_t3_loop v1030).trips, ∀ (k0_h1 : k0_cond1 v3 = 1#1), (k0_t5_loop v5).OK) ∧
  (∀ (k0_t3 : Fin (k0_t3_loop v1030).trips) (k0_t5 : Fin (k0_t5_loop v5).trips), ∀ (k0_h1 : k0_cond1 v3 = 1#1), 1024 ∣ (k0_mult18 v5 k0_t5).toNat) ∧
  (∀ (k0_t3 : Fin (k0_t3_loop v1030).trips) (k0_t5 : Fin (k0_t5_loop v5).trips), ∀ (k0_h1 : k0_cond1 v3 = 1#1), ∀ a, (k0_off7 v5 k0_t5) a + S1024x128.size a ≤ S16384x128.size a) ∧
  (∀ (k0_h1 : k0_cond1 v3 = 1#1), (k0_t6_loop v1030).OK) ∧
  (∀ k0_t6 : Fin (k0_t6_loop v1030).trips, ∀ (k0_h1 : k0_cond1 v3 = 1#1), (k0_t7_loop v5).OK) ∧
  (∀ (k0_t6 : Fin (k0_t6_loop v1030).trips) (k0_t7 : Fin (k0_t7_loop v5).trips), ∀ (k0_h1 : k0_cond1 v3 = 1#1), 1024 ∣ (k0_mult19 v5 k0_t7).toNat) ∧
  (∀ (k0_t6 : Fin (k0_t6_loop v1030).trips) (k0_t7 : Fin (k0_t7_loop v5).trips), ∀ (k0_h1 : k0_cond1 v3 = 1#1), ∀ a, (k0_off8 v5 k0_t7) a + S1024x128.size a ≤ S16384x128.size a) ∧
  (∀ k0_t6 : Fin (k0_t6_loop v1030).trips, ∀ (k0_h1 : k0_cond1 v3 = 1#1), (k0_t8_loop v5).OK) ∧
  (∀ (k0_t6 : Fin (k0_t6_loop v1030).trips) (k0_t8 : Fin (k0_t8_loop v5).trips), ∀ (k0_h1 : k0_cond1 v3 = 1#1), 1024 ∣ (k0_mult20 v5 k0_t8).toNat) ∧
  (∀ (k0_t6 : Fin (k0_t6_loop v1030).trips) (k0_t8 : Fin (k0_t8_loop v5).trips), ∀ (k0_h1 : k0_cond1 v3 = 1#1), ∀ a, (k0_off9 v5 k0_t8) a + S1024x128.size a ≤ S16384x128.size a)
theorem k0_t3_ok : ∀ (v3 : BitVec 32) (v5 : BitVec 32) (v1030 : BitVec 32) (k0_hw2 : k0_chk2 v3 v5 v1030), ∀ (k0_h1 : k0_cond1 v3 = 1#1), (k0_t3_loop v1030).OK := fun v3 v5 v1030 k0_hw2 k0_h1 => k0_hw2.1 k0_h1
theorem k0_t4_ok : ∀ (v3 : BitVec 32) (v5 : BitVec 32) (v1030 : BitVec 32) (k0_hw2 : k0_chk2 v3 v5 v1030) (k0_t3 : Fin (k0_t3_loop v1030).trips), ∀ (k0_h1 : k0_cond1 v3 = 1#1), (k0_t4_loop v5).OK := fun v3 v5 v1030 k0_hw2 k0_t3 k0_h1 => k0_hw2.2.1 k0_t3 k0_h1
theorem k0_mult17_dvd : ∀ (v3 : BitVec 32) (v5 : BitVec 32) (v1030 : BitVec 32) (k0_hw2 : k0_chk2 v3 v5 v1030) (k0_t3 : Fin (k0_t3_loop v1030).trips) (k0_t4 : Fin (k0_t4_loop v5).trips), ∀ (k0_h1 : k0_cond1 v3 = 1#1), 1024 ∣ (k0_mult17 v5 k0_t4).toNat := fun v3 v5 v1030 k0_hw2 k0_t3 k0_t4 k0_h1 => k0_hw2.2.2.1 k0_t3 k0_t4 k0_h1
theorem k0_off6_inb : ∀ (v3 : BitVec 32) (v5 : BitVec 32) (v1030 : BitVec 32) (k0_hw2 : k0_chk2 v3 v5 v1030) (k0_t3 : Fin (k0_t3_loop v1030).trips) (k0_t4 : Fin (k0_t4_loop v5).trips), ∀ (k0_h1 : k0_cond1 v3 = 1#1), ∀ a, (k0_off6 v5 k0_t4) a + S1024x128.size a ≤ S16384x128.size a := fun v3 v5 v1030 k0_hw2 k0_t3 k0_t4 k0_h1 => k0_hw2.2.2.2.1 k0_t3 k0_t4 k0_h1
theorem k0_t5_ok : ∀ (v3 : BitVec 32) (v5 : BitVec 32) (v1030 : BitVec 32) (k0_hw2 : k0_chk2 v3 v5 v1030) (k0_t3 : Fin (k0_t3_loop v1030).trips), ∀ (k0_h1 : k0_cond1 v3 = 1#1), (k0_t5_loop v5).OK := fun v3 v5 v1030 k0_hw2 k0_t3 k0_h1 => k0_hw2.2.2.2.2.1 k0_t3 k0_h1
theorem k0_mult18_dvd : ∀ (v3 : BitVec 32) (v5 : BitVec 32) (v1030 : BitVec 32) (k0_hw2 : k0_chk2 v3 v5 v1030) (k0_t3 : Fin (k0_t3_loop v1030).trips) (k0_t5 : Fin (k0_t5_loop v5).trips), ∀ (k0_h1 : k0_cond1 v3 = 1#1), 1024 ∣ (k0_mult18 v5 k0_t5).toNat := fun v3 v5 v1030 k0_hw2 k0_t3 k0_t5 k0_h1 => k0_hw2.2.2.2.2.2.1 k0_t3 k0_t5 k0_h1
theorem k0_off7_inb : ∀ (v3 : BitVec 32) (v5 : BitVec 32) (v1030 : BitVec 32) (k0_hw2 : k0_chk2 v3 v5 v1030) (k0_t3 : Fin (k0_t3_loop v1030).trips) (k0_t5 : Fin (k0_t5_loop v5).trips), ∀ (k0_h1 : k0_cond1 v3 = 1#1), ∀ a, (k0_off7 v5 k0_t5) a + S1024x128.size a ≤ S16384x128.size a := fun v3 v5 v1030 k0_hw2 k0_t3 k0_t5 k0_h1 => k0_hw2.2.2.2.2.2.2.1 k0_t3 k0_t5 k0_h1
theorem k0_t6_ok : ∀ (v3 : BitVec 32) (v5 : BitVec 32) (v1030 : BitVec 32) (k0_hw2 : k0_chk2 v3 v5 v1030), ∀ (k0_h1 : k0_cond1 v3 = 1#1), (k0_t6_loop v1030).OK := fun v3 v5 v1030 k0_hw2 k0_h1 => k0_hw2.2.2.2.2.2.2.2.1 k0_h1
theorem k0_t7_ok : ∀ (v3 : BitVec 32) (v5 : BitVec 32) (v1030 : BitVec 32) (k0_hw2 : k0_chk2 v3 v5 v1030) (k0_t6 : Fin (k0_t6_loop v1030).trips), ∀ (k0_h1 : k0_cond1 v3 = 1#1), (k0_t7_loop v5).OK := fun v3 v5 v1030 k0_hw2 k0_t6 k0_h1 => k0_hw2.2.2.2.2.2.2.2.2.1 k0_t6 k0_h1
theorem k0_mult19_dvd : ∀ (v3 : BitVec 32) (v5 : BitVec 32) (v1030 : BitVec 32) (k0_hw2 : k0_chk2 v3 v5 v1030) (k0_t6 : Fin (k0_t6_loop v1030).trips) (k0_t7 : Fin (k0_t7_loop v5).trips), ∀ (k0_h1 : k0_cond1 v3 = 1#1), 1024 ∣ (k0_mult19 v5 k0_t7).toNat := fun v3 v5 v1030 k0_hw2 k0_t6 k0_t7 k0_h1 => k0_hw2.2.2.2.2.2.2.2.2.2.1 k0_t6 k0_t7 k0_h1
theorem k0_off8_inb : ∀ (v3 : BitVec 32) (v5 : BitVec 32) (v1030 : BitVec 32) (k0_hw2 : k0_chk2 v3 v5 v1030) (k0_t6 : Fin (k0_t6_loop v1030).trips) (k0_t7 : Fin (k0_t7_loop v5).trips), ∀ (k0_h1 : k0_cond1 v3 = 1#1), ∀ a, (k0_off8 v5 k0_t7) a + S1024x128.size a ≤ S16384x128.size a := fun v3 v5 v1030 k0_hw2 k0_t6 k0_t7 k0_h1 => k0_hw2.2.2.2.2.2.2.2.2.2.2.1 k0_t6 k0_t7 k0_h1
theorem k0_t8_ok : ∀ (v3 : BitVec 32) (v5 : BitVec 32) (v1030 : BitVec 32) (k0_hw2 : k0_chk2 v3 v5 v1030) (k0_t6 : Fin (k0_t6_loop v1030).trips), ∀ (k0_h1 : k0_cond1 v3 = 1#1), (k0_t8_loop v5).OK := fun v3 v5 v1030 k0_hw2 k0_t6 k0_h1 => k0_hw2.2.2.2.2.2.2.2.2.2.2.2.1 k0_t6 k0_h1
theorem k0_mult20_dvd : ∀ (v3 : BitVec 32) (v5 : BitVec 32) (v1030 : BitVec 32) (k0_hw2 : k0_chk2 v3 v5 v1030) (k0_t6 : Fin (k0_t6_loop v1030).trips) (k0_t8 : Fin (k0_t8_loop v5).trips), ∀ (k0_h1 : k0_cond1 v3 = 1#1), 1024 ∣ (k0_mult20 v5 k0_t8).toNat := fun v3 v5 v1030 k0_hw2 k0_t6 k0_t8 k0_h1 => k0_hw2.2.2.2.2.2.2.2.2.2.2.2.2.1 k0_t6 k0_t8 k0_h1
theorem k0_off9_inb : ∀ (v3 : BitVec 32) (v5 : BitVec 32) (v1030 : BitVec 32) (k0_hw2 : k0_chk2 v3 v5 v1030) (k0_t6 : Fin (k0_t6_loop v1030).trips) (k0_t8 : Fin (k0_t8_loop v5).trips), ∀ (k0_h1 : k0_cond1 v3 = 1#1), ∀ a, (k0_off9 v5 k0_t8) a + S1024x128.size a ≤ S16384x128.size a := fun v3 v5 v1030 k0_hw2 k0_t6 k0_t8 k0_h1 => k0_hw2.2.2.2.2.2.2.2.2.2.2.2.2.2 k0_t6 k0_t8 k0_h1

def k0_mult21 (v3 : BitVec 32) : BitVec 32 :=
  let c1024_i32 : BitVec 32 := 1024#32
  let v10 : BitVec 32 := Scalar.muli v3 c1024_i32
  v10

def k0_off10 (v3 : BitVec 32) (c0_i32_23 : BitVec 32) : Fin 2 → Nat :=
  let c1024_i32 : BitVec 32 := 1024#32
  let v10 : BitVec 32 := Scalar.muli v3 c1024_i32
  let v11 : BitVec 32 := v10
  let v31 : BitVec 32 := Scalar.addi v11 c0_i32_23
  let v32 : Index := Scalar.indexCast v31
  let c0_24 : Index := 0#32
  ![v32.toNat, 0]

def k0_chk3 (v3 : BitVec 32) : Prop :=
  (1024 ∣ (k0_mult21 v3).toNat) ∧
  (∀ (r : Fin 8), ∀ a, (k0_off10 v3 (BitVec.ofNat 32 (128 * r.val))) a + S128x128.size a ≤ S16384x128.size a)
theorem k0_mult21_dvd : ∀ (v3 : BitVec 32) (k0_hw3 : k0_chk3 v3), 1024 ∣ (k0_mult21 v3).toNat := fun v3 k0_hw3 => k0_hw3.1
theorem k0_off10_inb : ∀ (v3 : BitVec 32) (k0_hw3 : k0_chk3 v3), ∀ (r : Fin 8), ∀ a, (k0_off10 v3 (BitVec.ofNat 32 (128 * r.val))) a + S128x128.size a ≤ S16384x128.size a := fun v3 k0_hw3 r => k0_hw3.2 r

def k0_off11 (i : grid0.Coords) : Fin 1 → Nat :=
  let arg1 : BitVec 32 := BitVec.ofNat 32 (i 1).val
  let v973 : Index := Scalar.indexCast arg1
  ![v973.toNat]
def k0_cond2 (v3 : BitVec 32) (v974 : BitVec 32) : BitVec 1 :=
  let v975 : BitVec 1 := Scalar.cmpi .eq v3 v974
  let v976 : BitVec 32 := Scalar.extui v975
  let c0_i32_609 : BitVec 32 := 0#32
  let v977 : BitVec 1 := Scalar.cmpi .ne v976 c0_i32_609
  v977

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S1088.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_2 (k0_off1_inb : ∀ i : grid0.Coords, ∀ a, (k0_off1 i) a + S1.size a ≤ S1088.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  ![arg0.toNat, v1.toNat, c0_i32.toNat, c0_i32_0.toNat]

def cc0_transform_3 (k0_off1_inb : ∀ i : grid0.Coords, ∀ a, (k0_off1 i) a + S1.size a ≤ S1088.size a) (numel1_S1 : S1.numel = 1) (pf : pre0.Contents (Elt F)) (i : grid0.Coords) : Fin 5 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1088) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![arg0.toNat, v1.toNat, c0_i32.toNat, c0_i32_0.toNat, c0_i32_1.toNat]

def cc0_transform_4 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S1088) ![v0.toNat] S1.size (k0_off1_inb i)) numel1_S1
  let c0_i32 : BitVec 32 := 0#32
  let c0_i32_0 : BitVec 32 := 0#32
  ![arg0.toNat, v1.toNat, c0_i32.toNat]

def cc0_transform_5 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S1088) ![v0.toNat] S1.size (k0_off1_inb i)) numel1_S1
  let c0_i32 : BitVec 32 := 0#32
  let c0_i32_0 : BitVec 32 := 0#32
  ![arg0.toNat, c0_i32.toNat, v1.toNat]

def cc0_transform_6 (k0_off1_inb : ∀ i : grid0.Coords, ∀ a, (k0_off1 i) a + S1.size a ≤ S1088.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S1088) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S1x16384x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x64x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1152x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048x11264, .bf16⟩
  | .hbm, ⟨5, _⟩ => ⟨S5632x2048, .bf16⟩
  | .hbm, ⟨6, _⟩ => ⟨S1x2048, .f32⟩
  | .hbm, ⟨7, _⟩ => ⟨S32768x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S32768x2048 : Shape := ⟨2, ![32768, 2048]⟩
abbrev S2048 : Shape := ⟨1, ![2048]⟩
abbrev S2048x11264 : Shape := ⟨2, ![2048, 11264]⟩
abbrev S5632x2048 : Shape := ⟨2, ![5632, 2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x11264 : Shape := ⟨2, ![32768, 11264]⟩
abbrev S32768x5632 : Shape := ⟨2, ![32768, 5632]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S32768x2048, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x2048, .f32⟩
  | .hbm, ⟨16, _⟩ => ⟨S32768x2048, .f32⟩
  | .hbm, ⟨17, _⟩ => ⟨S1x2048, .f32⟩
  | .hbm, ⟨18, _⟩ => ⟨S32768x2048, .f32⟩
  | .hbm, ⟨19, _⟩ => ⟨S32768x2048, .f32⟩
  | .hbm, ⟨20, _⟩ => ⟨S32768x11264, .f32⟩
  | .hbm, ⟨21, _⟩ => ⟨S32768x5632, .f32⟩
  | .hbm, ⟨22, _⟩ => ⟨S32768x5632, .f32⟩
  | .hbm, ⟨23, _⟩ => ⟨S32768x5632, .f32⟩
  | .hbm, ⟨24, _⟩ => ⟨S32768x5632, .f32⟩
  | .hbm, ⟨25, _⟩ => ⟨S_, .f32⟩
  | .hbm, ⟨26, _⟩ => ⟨S32768x5632, .f32⟩
  | .hbm, ⟨27, _⟩ => ⟨S32768x5632, .f32⟩
  | .hbm, ⟨28, _⟩ => ⟨S_, .f32⟩
  | .hbm, ⟨29, _⟩ => ⟨S32768x5632, .f32⟩
  | .hbm, ⟨30, _⟩ => ⟨S32768x5632, .f32⟩
  | .hbm, ⟨31, _⟩ => ⟨S32768x5632, .f32⟩
  | .hbm, ⟨32, _⟩ => ⟨S32768x5632, .f32⟩
  | .hbm, ⟨33, _⟩ => ⟨S32768x2048, .f32⟩
  | .hbm, ⟨34, _⟩ => ⟨S_, .f32⟩
  | .hbm, ⟨35, _⟩ => ⟨S32768x2048, .f32⟩
  | .hbm, ⟨36, _⟩ => ⟨S32768x2048, .f32⟩
  | .hbm, ⟨37, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Proj.lean ====
abbrev S32768x2048 : Shape := ⟨2, ![32768, 2048]⟩
abbrev S2048 : Shape := ⟨1, ![2048]⟩
abbrev S2048x14848 : Shape := ⟨2, ![2048, 14848]⟩
abbrev S1x2048 : Shape := ⟨2, ![1, 2048]⟩
abbrev S32768x14848 : Shape := ⟨2, ![32768, 14848]⟩
abbrev S1024x2048 : Shape := ⟨2, ![1024, 2048]⟩
abbrev S2048x512 : Shape := ⟨2, ![2048, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x14848, .f32⟩
  | .hbm, ⟨3, _⟩ => ⟨S2048x14848, .bf16⟩
  | .hbm, ⟨4, _⟩ => ⟨S1x2048, .f32⟩
  | .hbm, ⟨5, _⟩ => ⟨S32768x14848, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S1024x512, .f32⟩
  | .local _ .vmem, ⟨6, _⟩ => ⟨S1024x512, .f32⟩
  | .local _ .vmem, ⟨7, _⟩ => ⟨S1024x2048, .bf16⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 29], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x2048 : Shape := ⟨2, ![32768, 2048]⟩
abbrev S2048 : Shape := ⟨1, ![2048]⟩
abbrev S2048x14848 : Shape := ⟨2, ![2048, 14848]⟩
abbrev S_ : Shape := ⟨0, ![]⟩
abbrev S32768 : Shape := ⟨1, ![32768]⟩
abbrev S32768x1 : Shape := ⟨2, ![32768, 1]⟩
abbrev S1x2048 : Shape := ⟨2, ![1, 2048]⟩
abbrev S32768x14848 : Shape := ⟨2, ![32768, 14848]⟩

abbrev nBuf : Space → Nat
  | .hbm => 20
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048x14848, .f32⟩
  | .hbm, ⟨3, _⟩ => ⟨S32768x2048, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S32768x14848, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Merge.lean ====
abbrev S32768x2048 : Shape := ⟨2, ![32768, 2048]⟩
abbrev S32768x14848 : Shape := ⟨2, ![32768, 14848]⟩
abbrev S32768x1024 : Shape := ⟨2, ![32768, 1024]⟩
abbrev S3x1024x2048 : Shape := ⟨3, ![3, 1024, 2048]⟩
abbrev S2048x2048 : Shape := ⟨2, ![2048, 2048]⟩
abbrev S512x2048 : Shape := ⟨2, ![512, 2048]⟩
abbrev S512x512 : Shape := ⟨2, ![512, 512]⟩
abbrev S512x1024 : Shape := ⟨2, ![512, 1024]⟩
abbrev S3x1024x512 : Shape := ⟨3, ![3, 1024, 512]⟩
abbrev S1x1024x512 : Shape := ⟨3, ![1, 1024, 512]⟩
abbrev S1024x512 : Shape := ⟨2, ![1024, 512]⟩

abbrev nBuf : Space → Nat
  | .hbm => 10
  | .vmem => 20
  | .smem => 0
  | _ => 0

abbrev bufTy : (tb : Table) → Fin (tcTables nBuf tb) → BufTy
  | .hbm, ⟨0, _⟩ => ⟨S32768x2048, .f32⟩
  | .hbm, ⟨1, _⟩ => ⟨S32768x14848, .f32⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S3x1024x2048, .f32⟩
  | .hbm, ⟨6, _⟩ => ⟨S2048x2048, .f32⟩
  | .hbm, ⟨7, _⟩ => ⟨S3x1024x2048, .bf16⟩
  | .hbm, ⟨8, _⟩ => ⟨S2048x2048, .bf16⟩
  | .hbm, ⟨9, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S3x1024x512, .bf16⟩
  | .local _ .vmem, ⟨15, _⟩ => ⟨S3x1024x512, .bf16⟩
  | .local _ .vmem, ⟨16, _⟩ => ⟨S512x2048, .bf16⟩
  | .local _ .vmem, ⟨17, _⟩ => ⟨S512x2048, .bf16⟩
  | .local _ .vmem, ⟨18, _⟩ => ⟨S512x2048, .f32⟩
  | .local _ .vmem, ⟨19, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![64, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S3x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MergeRefIdeal.lean ====
abbrev S32768x2048 : Shape := ⟨2, ![32768, 2048]⟩
abbrev S32768x14848 : Shape := ⟨2, ![32768, 14848]⟩
abbrev S32768x1024 : Shape := ⟨2, ![32768, 1024]⟩
abbrev S3x1024x2048 : Shape := ⟨3, ![3, 1024, 2048]⟩
abbrev S2048x2048 : Shape := ⟨2, ![2048, 2048]⟩
abbrev S_ : Shape := ⟨0, ![]⟩
abbrev S1x1024x2048 : Shape := ⟨3, ![1, 1024, 2048]⟩
abbrev S1024x2048 : Shape := ⟨2, ![1024, 2048]⟩

abbrev nBuf : Space → Nat
  | .hbm => 53
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768x14848, .f32⟩
  | .hbm, ⟨2, _⟩ => ⟨S32768x1024, .bf16⟩
  | .hbm, ⟨3, _⟩ => ⟨S32768x1024, .bf16⟩
  | .hbm, ⟨4, _⟩ => ⟨S32768x1024, .bf16⟩
  | .hbm, ⟨5, _⟩ => ⟨S3x1024x2048, .f32⟩
  | .hbm, ⟨6, _⟩ => ⟨S2048x2048, .f32⟩
  | .hbm, ⟨7, _⟩ => ⟨S32768x2048, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x1024, .f32⟩
  | .hbm, ⟨19, _⟩ => ⟨S1x1024x2048, .f32⟩
  | .hbm, ⟨20, _⟩ => ⟨S1024x2048, .f32⟩
  | .hbm, ⟨21, _⟩ => ⟨S32768x2048, .f32⟩
  | .hbm, ⟨22, _⟩ => ⟨S32768x2048, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x1024, .f32⟩
  | .hbm, ⟨32, _⟩ => ⟨S1x1024x2048, .f32⟩
  | .hbm, ⟨33, _⟩ => ⟨S1024x2048, .f32⟩
  | .hbm, ⟨34, _⟩ => ⟨S32768x2048, .f32⟩
  | .hbm, ⟨35, _⟩ => ⟨S32768x2048, .f32⟩
  | .hbm, ⟨36, _⟩ => ⟨S32768x2048, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S_, .f32⟩
  | .hbm, ⟨43, _⟩ => ⟨S32768x2048, .f32⟩
  | .hbm, ⟨44, _⟩ => ⟨S32768x2048, .f32⟩
  | .hbm, ⟨45, _⟩ => ⟨S32768x1024, .f32⟩
  | .hbm, ⟨46, _⟩ => ⟨S1x1024x2048, .f32⟩
  | .hbm, ⟨47, _⟩ => ⟨S1024x2048, .f32⟩
  | .hbm, ⟨48, _⟩ => ⟨S32768x2048, .f32⟩
  | .hbm, ⟨49, _⟩ => ⟨S32768x2048, .f32⟩
  | .hbm, ⟨50, _⟩ => ⟨S32768x2048, .f32⟩
  | .hbm, ⟨51, _⟩ => ⟨S32768x2048, .f32⟩
  | .hbm, ⟨52, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Xattn.lean ====
abbrev S2x16384x2048 : Shape := ⟨3, ![2, 16384, 2048]⟩
abbrev S2048 : Shape := ⟨1, ![2048]⟩
abbrev S2048x512 : Shape := ⟨2, ![2048, 512]⟩
abbrev S2x256x1024 : Shape := ⟨3, ![2, 256, 1024]⟩
abbrev S128 : Shape := ⟨1, ![128]⟩
abbrev S512x2048 : Shape := ⟨2, ![512, 2048]⟩
abbrev S1x2048 : Shape := ⟨2, ![1, 2048]⟩
abbrev S1x128 : Shape := ⟨2, ![1, 128]⟩
abbrev S1x512x2048 : Shape := ⟨3, ![1, 512, 2048]⟩
abbrev S1x256x1024 : Shape := ⟨3, ![1, 256, 1024]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x128 : Shape := ⟨2, ![512, 128]⟩
abbrev S256x128 : Shape := ⟨2, ![256, 128]⟩
abbrev S256 : Shape := ⟨1, ![256]⟩
abbrev S256x1 : Shape := ⟨2, ![256, 1]⟩
abbrev S512x256 : Shape := ⟨2, ![512, 256]⟩

abbrev nBuf : Space → Nat
  | .hbm => 13
  | .vmem => 11
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x512, .f32⟩
  | .hbm, ⟨3, _⟩ => ⟨S2x256x1024, .f32⟩
  | .hbm, ⟨4, _⟩ => ⟨S128, .f32⟩
  | .hbm, ⟨5, _⟩ => ⟨S128, .f32⟩
  | .hbm, ⟨6, _⟩ => ⟨S512x2048, .f32⟩
  | .hbm, ⟨7, _⟩ => ⟨S2048x512, .bf16⟩
  | .hbm, ⟨8, _⟩ => ⟨S512x2048, .bf16⟩
  | .hbm, ⟨9, _⟩ => ⟨S1x2048, .f32⟩
  | .hbm, ⟨10, _⟩ => ⟨S1x128, .f32⟩
  | .hbm, ⟨11, _⟩ => ⟨S1x128, .f32⟩
  | .hbm, ⟨12, _⟩ => ⟨S2x16384x2048, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S2048x512, .bf16⟩
  | .local _ .vmem, ⟨4, _⟩ => ⟨S1x256x1024, .f32⟩
  | .local _ .vmem, ⟨5, _⟩ => ⟨S1x256x1024, .f32⟩
  | .local _ .vmem, ⟨6, _⟩ => ⟨S1x128, .f32⟩
  | .local _ .vmem, ⟨7, _⟩ => ⟨S1x128, .f32⟩
  | .local _ .vmem, ⟨8, _⟩ => ⟨S512x2048, .bf16⟩
  | .local _ .vmem, ⟨9, _⟩ => ⟨S1x512x2048, .f32⟩
  | .local _ .vmem, ⟨10, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== XattnIdeal.lean ====
variable {F : FTy → Type} [FloatOps F] [Named F]
def κ : String → Option EReal := fun
  | "xa_scale" => some (((Real.sqrt 128)⁻¹ : ℝ) : EReal)
  | _ => none
-- ==== XattnRefIdeal.lean ====
abbrev S2x16384x2048 : Shape := ⟨3, ![2, 16384, 2048]⟩
abbrev S2048 : Shape := ⟨1, ![2048]⟩
abbrev S2048x512 : Shape := ⟨2, ![2048, 512]⟩
abbrev S2x256x1024 : Shape := ⟨3, ![2, 256, 1024]⟩
abbrev S128 : Shape := ⟨1, ![128]⟩
abbrev S512x2048 : Shape := ⟨2, ![512, 2048]⟩
abbrev S_ : Shape := ⟨0, ![]⟩
abbrev S2x16384 : Shape := ⟨2, ![2, 16384]⟩
abbrev S2x16384x1 : Shape := ⟨3, ![2, 16384, 1]⟩
abbrev S1x1x2048 : Shape := ⟨3, ![1, 1, 2048]⟩
abbrev S2x16384x512 : Shape := ⟨3, ![2, 16384, 512]⟩
abbrev S2x16384x4x128 : Shape := ⟨4, ![2, 16384, 4, 128]⟩
abbrev S2x16384x4 : Shape := ⟨3, ![2, 16384, 4]⟩
abbrev S2x16384x4x1 : Shape := ⟨4, ![2, 16384, 4, 1]⟩
abbrev S1x1x1x128 : Shape := ⟨4, ![1, 1, 1, 128]⟩
abbrev S2x256x512 : Shape := ⟨3, ![2, 256, 512]⟩
abbrev S2x256x4x128 : Shape := ⟨4, ![2, 256, 4, 128]⟩
abbrev S2x256x4 : Shape := ⟨3, ![2, 256, 4]⟩
abbrev S2x256x4x1 : Shape := ⟨4, ![2, 256, 4, 1]⟩
abbrev S2x4x16384x256 : Shape := ⟨4, ![2, 4, 16384, 256]⟩
abbrev S2x4x16384 : Shape := ⟨3, ![2, 4, 16384]⟩
abbrev S2x4x16384x1 : Shape := ⟨4, ![2, 4, 16384, 1]⟩
abbrev S2x4x128x16384 : Shape := ⟨4, ![2, 4, 128, 16384]⟩

abbrev nBuf : Space → Nat
  | .hbm => 82
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2048, .f32⟩
  | .hbm, ⟨2, _⟩ => ⟨S2048x512, .f32⟩
  | .hbm, ⟨3, _⟩ => ⟨S2x256x1024, .f32⟩
  | .hbm, ⟨4, _⟩ => ⟨S128, .f32⟩
  | .hbm, ⟨5, _⟩ => ⟨S128, .f32⟩
  | .hbm, ⟨6, _⟩ => ⟨S512x2048, .f32⟩
  | .hbm, ⟨7, _⟩ => ⟨S2x16384x2048, .f32⟩
  | .hbm, ⟨8, _⟩ => ⟨S_, .f32⟩
  | .hbm, ⟨9, _⟩ => ⟨S2x16384, .f32⟩
  | .hbm, ⟨10, _⟩ => ⟨S2x16384x1, .f32⟩
  | .hbm, ⟨11, _⟩ => ⟨S_, .f32⟩
  | .hbm, ⟨12, _⟩ => ⟨S2x16384x1, .f32⟩
  | .hbm, ⟨13, _⟩ => ⟨S2x16384x1, .f32⟩
  | .hbm, ⟨14, _⟩ => ⟨S_, .f32⟩
  | .hbm, ⟨15, _⟩ => ⟨S2x16384x1, .f32⟩
  | .hbm, ⟨16, _⟩ => ⟨S2x16384x1, .f32⟩
  | .hbm, ⟨17, _⟩ => ⟨S2x16384x1, .f32⟩
  | .hbm, ⟨18, _⟩ => ⟨S2x16384x2048, .f32⟩
  | .hbm, ⟨19, _⟩ => ⟨S2x16384x2048, .f32⟩
  | .hbm, ⟨20, _⟩ => ⟨S1x1x2048, .f32⟩
  | .hbm, ⟨21, _⟩ => ⟨S2x16384x2048, .f32⟩
  | .hbm, ⟨22, _⟩ => ⟨S2x16384x2048, .f32⟩
  | .hbm, ⟨23, _⟩ => ⟨S2x16384x512, .f32⟩
  | .hbm, ⟨24, _⟩ => ⟨S2x16384x4x128, .f32⟩
  | .hbm, ⟨25, _⟩ => ⟨S2x16384x4x128, .f32⟩
  | .hbm, ⟨26, _⟩ => ⟨S_, .f32⟩
  | .hbm, ⟨27, _⟩ => ⟨S2x16384x4, .f32⟩
  | .hbm, ⟨28, _⟩ => ⟨S2x16384x4x1, .f32⟩
  | .hbm, ⟨29, _⟩ => ⟨S_, .f32⟩
  | .hbm, ⟨30, _⟩ => ⟨S2x16384x4x1, .f32⟩
  | .hbm, ⟨31, _⟩ => ⟨S2x16384x4x1, .f32⟩
  | .hbm, ⟨32, _⟩ => ⟨S_, .f32⟩
  | .hbm, ⟨33, _⟩ => ⟨S2x16384x4x1, .f32⟩
  | .hbm, ⟨34, _⟩ => ⟨S2x16384x4x1, .f32⟩
  | .hbm, ⟨35, _⟩ => ⟨S2x16384x4x1, .f32⟩
  | .hbm, ⟨36, _⟩ => ⟨S2x16384x4x128, .f32⟩
  | .hbm, ⟨37, _⟩ => ⟨S2x16384x4x128, .f32⟩
  | .hbm, ⟨38, _⟩ => ⟨S1x1x1x128, .f32⟩
  | .hbm, ⟨39, _⟩ => ⟨S2x16384x4x128, .f32⟩
  | .hbm, ⟨40, _⟩ => ⟨S2x16384x4x128, .f32⟩
  | .hbm, ⟨41, _⟩ => ⟨S_, .f32⟩
  | .hbm, ⟨42, _⟩ => ⟨S_, .f32⟩
  | .hbm, ⟨43, _⟩ => ⟨S2x16384x4x128, .f32⟩
  | .hbm, ⟨44, _⟩ => ⟨S2x16384x4x128, .f32⟩
  | .hbm, ⟨45, _⟩ => ⟨S2x256x512, .f32⟩
  | .hbm, ⟨46, _⟩ => ⟨S2x256x4x128, .f32⟩
  | .hbm, ⟨47, _⟩ => ⟨S2x256x4x128, .f32⟩
  | .hbm, ⟨48, _⟩ => ⟨S_, .f32⟩
  | .hbm, ⟨49, _⟩ => ⟨S2x256x4, .f32⟩
  | .hbm, ⟨50, _⟩ => ⟨S2x256x4x1, .f32⟩
  | .hbm, ⟨51, _⟩ => ⟨S_, .f32⟩
  | .hbm, ⟨52, _⟩ => ⟨S2x256x4x1, .f32⟩
  | .hbm, ⟨53, _⟩ => ⟨S2x256x4x1, .f32⟩
  | .hbm, ⟨54, _⟩ => ⟨S_, .f32⟩
  | .hbm, ⟨55, _⟩ => ⟨S2x256x4x1, .f32⟩
  | .hbm, ⟨56, _⟩ => ⟨S2x256x4x1, .f32⟩
  | .hbm, ⟨57, _⟩ => ⟨S2x256x4x1, .f32⟩
  | .hbm, ⟨58, _⟩ => ⟨S2x256x4x128, .f32⟩
  | .hbm, ⟨59, _⟩ => ⟨S2x256x4x128, .f32⟩
  | .hbm, ⟨60, _⟩ => ⟨S1x1x1x128, .f32⟩
  | .hbm, ⟨61, _⟩ => ⟨S2x256x4x128, .f32⟩
  | .hbm, ⟨62, _⟩ => ⟨S2x256x4x128, .f32⟩
  | .hbm, ⟨63, _⟩ => ⟨S2x256x512, .f32⟩
  | .hbm, ⟨64, _⟩ => ⟨S2x256x4x128, .f32⟩
  | .hbm, ⟨65, _⟩ => ⟨S2x4x16384x256, .f32⟩
  | .hbm, ⟨66, _⟩ => ⟨S_, .f32⟩
  | .hbm, ⟨67, _⟩ => ⟨S2x4x16384, .f32⟩
  | .hbm, ⟨68, _⟩ => ⟨S2x4x16384x1, .f32⟩
  | .hbm, ⟨69, _⟩ => ⟨S2x4x16384x256, .f32⟩
  | .hbm, ⟨70, _⟩ => ⟨S2x4x16384x256, .f32⟩
  | .hbm, ⟨71, _⟩ => ⟨S2x4x16384x256, .f32⟩
  | .hbm, ⟨72, _⟩ => ⟨S_, .f32⟩
  | .hbm, ⟨73, _⟩ => ⟨S2x4x16384, .f32⟩
  | .hbm, ⟨74, _⟩ => ⟨S2x4x16384x1, .f32⟩
  | .hbm, ⟨75, _⟩ => ⟨S2x4x16384x256, .f32⟩
  | .hbm, ⟨76, _⟩ => ⟨S2x4x16384x256, .f32⟩
  | .hbm, ⟨77, _⟩ => ⟨S2x4x128x16384, .f32⟩
  | .hbm, ⟨78, _⟩ => ⟨S2x16384x4x128, .f32⟩
  | .hbm, ⟨79, _⟩ => ⟨S2x16384x512, .f32⟩
  | .hbm, ⟨80, _⟩ => ⟨S2x16384x2048, .f32⟩
  | .hbm, ⟨81, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_9 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_10 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩

abbrev nD : Nat := 1
abbrev τ : Topo := Topo.v7x

variable {F : FTy → Type} [FloatOps F]
-- ==== Prep.lean ====
abbrev S2x16384x14848 : Shape := ⟨3, ![2, 16384, 14848]⟩
abbrev S128 : Shape := ⟨1, ![128]⟩
abbrev S512 : Shape := ⟨1, ![512]⟩
abbrev S512x1024 : Shape := ⟨2, ![512, 1024]⟩
abbrev S64 : Shape := ⟨1, ![64]⟩
abbrev S1x128 : Shape := ⟨2, ![1, 128]⟩
abbrev S1x512 : Shape := ⟨2, ![1, 512]⟩
abbrev S1x64 : Shape := ⟨2, ![1, 64]⟩
abbrev S2x128x4x256x256 : Shape := ⟨5, ![2, 128, 4, 256, 256]⟩
abbrev S2x16384x1024 : Shape := ⟨3, ![2, 16384, 1024]⟩
abbrev S2x1152x16384 : Shape := ⟨3, ![2, 1152, 16384]⟩
abbrev S2x128x64x2048 : Shape := ⟨4, ![2, 128, 64, 2048]⟩
abbrev S2x16384x64 : Shape := ⟨3, ![2, 16384, 64]⟩
abbrev S2x128x1x2048 : Shape := ⟨4, ![2, 128, 1, 2048]⟩
abbrev S1x256x1024 : Shape := ⟨3, ![1, 256, 1024]⟩
abbrev S1x256x512 : Shape := ⟨3, ![1, 256, 512]⟩
abbrev S1x256x128 : Shape := ⟨3, ![1, 256, 128]⟩
abbrev S1x2x4x256x256 : Shape := ⟨5, ![1, 2, 4, 256, 256]⟩
abbrev S1x1152x256 : Shape := ⟨3, ![1, 1152, 256]⟩
abbrev S1x2x64x2048 : Shape := ⟨4, ![1, 2, 64, 2048]⟩
abbrev S1x256x64 : Shape := ⟨3, ![1, 256, 64]⟩
abbrev S1x2x1x2048 : Shape := ⟨4, ![1, 2, 1, 2048]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S128x1024 : Shape := ⟨2, ![128, 1024]⟩
abbrev S128x128 : Shape := ⟨2, ![128, 128]⟩
abbrev S1024x128 : Shape := ⟨2, ![1024, 128]⟩
abbrev S1024x256 : Shape := ⟨2, ![1024, 256]⟩
abbrev S16x256 : Shape := ⟨2, ![16, 256]⟩
abbrev S128x256 : Shape := ⟨2, ![128, 256]⟩
abbrev S1152x256 : Shape := ⟨2, ![1152, 256]⟩
abbrev S256x64 : Shape := ⟨2, ![256, 64]⟩
abbrev S256x256 : Shape := ⟨2, ![256, 256]⟩
abbrev S1x1x1x256x256 : Shape := ⟨5, ![1, 1, 1, 256, 256]⟩
abbrev S64x128 : Shape := ⟨2, ![64, 128]⟩
abbrev S64x2048 : Shape := ⟨2, ![64, 2048]⟩
abbrev S1x1x64x2048 : Shape := ⟨4, ![1, 1, 64, 2048]⟩
abbrev S1x2048 : Shape := ⟨2, ![1, 2048]⟩
abbrev S1x1x1x2048 : Shape := ⟨4, ![1, 1, 1, 2048]⟩

abbrev nBuf : Space → Nat
  | .hbm => 19
  | .vmem => 26
  | .smem => 0
  | _ => 0

abbrev bufTy : (tb : Table) → Fin (tcTables nBuf tb) → BufTy
  | .hbm, ⟨0, _⟩ => ⟨S2x16384x14848, .f32⟩
  | .hbm, ⟨1, _⟩ => ⟨S128, .f32⟩
  | .hbm, ⟨2, _⟩ => ⟨S128, .f32⟩
  | .hbm, ⟨3, _⟩ => ⟨S512, .f32⟩
  | .hbm, ⟨4, _⟩ => ⟨S512x1024, .f32⟩
  | .hbm, ⟨5, _⟩ => ⟨S512x1024, .f32⟩
  | .hbm, ⟨6, _⟩ => ⟨S64, .f32⟩
  | .hbm, ⟨7, _⟩ => ⟨S512x1024, .bf16⟩
  | .hbm, ⟨8, _⟩ => ⟨S512x1024, .bf16⟩
  | .hbm, ⟨9, _⟩ => ⟨S1x128, .f32⟩
  | .hbm, ⟨10, _⟩ => ⟨S1x128, .f32⟩
  | .hbm, ⟨11, _⟩ => ⟨S1x512, .f32⟩
  | .hbm, ⟨12, _⟩ => ⟨S1x64, .f32⟩
  | .hbm, ⟨13, _⟩ => ⟨S2x128x4x256x256, .bf16⟩
  | .hbm, ⟨14, _⟩ => ⟨S2x16384x1024, .bf16⟩
  | .hbm, ⟨15, _⟩ => ⟨S2x1152x16384, .bf16⟩
  | .hbm, ⟨16, _⟩ => ⟨S2x128x64x2048, .bf16⟩
  | .hbm, ⟨17, _⟩ => ⟨S2x16384x64, .bf16⟩
  | .hbm, ⟨18, _⟩ => ⟨S2x128x1x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .f32⟩
  | .local _ .vmem, ⟨3, _⟩ => ⟨S1x256x512, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S512x1024, .bf16⟩
  | .local _ .vmem, ⟨12, _⟩ => ⟨S512x1024, .bf16⟩
  | .local _ .vmem, ⟨13, _⟩ => ⟨S1x64, .f32⟩
  | .local _ .vmem, ⟨14, _⟩ => ⟨S1x2x4x256x256, .bf16⟩
  | .local _ .vmem, ⟨15, _⟩ => ⟨S1x2x4x256x256, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x1152x256, .bf16⟩
  | .local _ .vmem, ⟨19, _⟩ => ⟨S1x1152x256, .bf16⟩
  | .local _ .vmem, ⟨20, _⟩ => ⟨S1x2x64x2048, .bf16⟩
  | .local _ .vmem, ⟨21, _⟩ => ⟨S1x2x64x2048, .bf16⟩
  | .local _ .vmem, ⟨22, _⟩ => ⟨S1x256x64, .bf16⟩
  | .local _ .vmem, ⟨23, _⟩ => ⟨S1x256x64, .bf16⟩
  | .local _ .vmem, ⟨24, _⟩ => ⟨S1x2x1x2048, .f32⟩
  | .local _ .vmem, ⟨25, _⟩ => ⟨S1x2x1x2048, .f32⟩
  | _, _ => ⟨S2x16384x14848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev main_v6_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c9_i32 : BitVec 32 := 9#32
  let c0_i32 : BitVec 32 := 0#32
  ![arg0.toNat, arg1.toNat, c9_i32.toNat]

def cc0_transform_1 (i : grid0.Coords) : Fin 3 → Nat :=
  let arg0 : BitVec 32 := BitVec.ofNat 32 (i 0).val
  let arg1 : BitVec 32 := BitVec.ofNat 32 (i 1).val
  let c27_i32 : BitVec 32 := 27#32
  let c0_i32 : BitVec 32 := 0#32
  ![arg0.toNat, arg1.toNat, c27_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg0.toNat, arg1.toNat, c10_i32.toNat]

def cc0_transform_3 (i : grid0.Coords) : Fin 3 → Nat :=
  let arg0 : BitVec 32 := BitVec.ofNat 32 (i 0).val
  let arg1 : BitVec 32 := BitVec.ofNat 32 (i 1).val
  let c112_i32 : BitVec 32 := 112#32
  let c0_i32 : BitVec 32 := 0#32
  ![arg0.toNat, arg1.toNat, c112_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x2x4x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1152x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x64 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x1x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== PrepIdeal.lean ====
variable {F : FTy → Type} [FloatOps F] [Named F]
def κ : String → Option EReal := fun
  | "q_scale" => some (((Real.sqrt 128)⁻¹ * (Real.log 2)⁻¹ : ℝ) : EReal)
  | _ => none
-- ==== PrepRefIdeal.lean ====
abbrev S2x16384x14848 : Shape := ⟨3, ![2, 16384, 14848]⟩
abbrev S128 : Shape := ⟨1, ![128]⟩
abbrev S512 : Shape := ⟨1, ![512]⟩
abbrev S512x1024 : Shape := ⟨2, ![512, 1024]⟩
abbrev S64 : Shape := ⟨1, ![64]⟩
abbrev S2x16384x1024 : Shape := ⟨3, ![2, 16384, 1024]⟩
abbrev S2x16384x512 : Shape := ⟨3, ![2, 16384, 512]⟩
abbrev S2x16384x64 : Shape := ⟨3, ![2, 16384, 64]⟩
abbrev S2x16384x16 : Shape := ⟨3, ![2, 16384, 16]⟩
abbrev S2x16384x8x128 : Shape := ⟨4, ![2, 16384, 8, 128]⟩
abbrev S_ : Shape := ⟨0, ![]⟩
abbrev S2x16384x8 : Shape := ⟨3, ![2, 16384, 8]⟩
abbrev S2x16384x8x1 : Shape := ⟨4, ![2, 16384, 8, 1]⟩
abbrev S1x1x1x128 : Shape := ⟨4, ![1, 1, 1, 128]⟩
abbrev S2x16384 : Shape := ⟨2, ![2, 16384]⟩
abbrev S2x16384x1 : Shape := ⟨3, ![2, 16384, 1]⟩
abbrev S1x1x512 : Shape := ⟨3, ![1, 1, 512]⟩
abbrev S2x16384x16x64 : Shape := ⟨4, ![2, 16384, 16, 64]⟩
abbrev S1x1x64 : Shape := ⟨3, ![1, 1, 64]⟩
abbrev S2x128x128x4x2x128 : Shape := ⟨6, ![2, 128, 128, 4, 2, 128]⟩
abbrev S2x128x4x2x128x128 : Shape := ⟨6, ![2, 128, 4, 2, 128, 128]⟩
abbrev S2x128x4x1x128x128 : Shape := ⟨6, ![2, 128, 4, 1, 128, 128]⟩
abbrev S2x128x4x128x128 : Shape := ⟨5, ![2, 128, 4, 128, 128]⟩
abbrev S2x128x4x128x256 : Shape := ⟨5, ![2, 128, 4, 128, 256]⟩
abbrev S2x128x4x256x256 : Shape := ⟨5, ![2, 128, 4, 256, 256]⟩
abbrev S2x8x16x16384 : Shape := ⟨4, ![2, 8, 16, 16384]⟩
abbrev S2x8x128x16384 : Shape := ⟨4, ![2, 8, 128, 16384]⟩
abbrev S2x8x144x16384 : Shape := ⟨4, ![2, 8, 144, 16384]⟩
abbrev S2x1152x16384 : Shape := ⟨3, ![2, 1152, 16384]⟩
abbrev S2x128x128x16x64 : Shape := ⟨5, ![2, 128, 128, 16, 64]⟩
abbrev S2x128x64x16x128 : Shape := ⟨5, ![2, 128, 64, 16, 128]⟩
abbrev S2x128x64x2048 : Shape := ⟨4, ![2, 128, 64, 2048]⟩
abbrev S2x128x128x16 : Shape := ⟨4, ![2, 128, 128, 16]⟩
abbrev S2x128x16x128 : Shape := ⟨4, ![2, 128, 16, 128]⟩
abbrev S2x128x1x2048 : Shape := ⟨4, ![2, 128, 1, 2048]⟩

abbrev nBuf : Space → Nat
  | .hbm => 126
  | .vmem => 0
  | .smem => 0
  | _ => 0

abbrev bufTy : (tb : Table) → Fin (tcTables nBuf tb) → BufTy
  | .hbm, ⟨0, _⟩ => ⟨S2x16384x14848, .f32⟩
  | .hbm, ⟨1, _⟩ => ⟨S128, .f32⟩
  | .hbm, ⟨2, _⟩ => ⟨S128, .f32⟩
  | .hbm, ⟨3, _⟩ => ⟨S512, .f32⟩
  | .hbm, ⟨4, _⟩ => ⟨S512x1024, .f32⟩
  | .hbm, ⟨5, _⟩ => ⟨S512x1024, .f32⟩
  | .hbm, ⟨6, _⟩ => ⟨S64, .f32⟩
  | .hbm, ⟨7, _⟩ => ⟨S2x16384x1024, .f32⟩
  | .hbm, ⟨8, _⟩ => ⟨S2x16384x1024, .f32⟩
  | .hbm, ⟨9, _⟩ => ⟨S2x16384x512, .f32⟩
  | .hbm, ⟨10, _⟩ => ⟨S2x16384x64, .f32⟩
  | .hbm, ⟨11, _⟩ => ⟨S2x16384x16, .f32⟩
  | .hbm, ⟨12, _⟩ => ⟨S2x16384x8x128, .f32⟩
  | .hbm, ⟨13, _⟩ => ⟨S2x16384x8x128, .f32⟩
  | .hbm, ⟨14, _⟩ => ⟨S_, .f32⟩
  | .hbm, ⟨15, _⟩ => ⟨S2x16384x8, .f32⟩
  | .hbm, ⟨16, _⟩ => ⟨S2x16384x8x1, .f32⟩
  | .hbm, ⟨17, _⟩ => ⟨S_, .f32⟩
  | .hbm, ⟨18, _⟩ => ⟨S2x16384x8x1, .f32⟩
  | .hbm, ⟨19, _⟩ => ⟨S2x16384x8x1, .f32⟩
  | .hbm, ⟨20, _⟩ => ⟨S_, .f32⟩
  | .hbm, ⟨21, _⟩ => ⟨S2x16384x8x1, .f32⟩
  | .hbm, ⟨22, _⟩ => ⟨S2x16384x8x1, .f32⟩
  | .hbm, ⟨23, _⟩ => ⟨S2x16384x8x1, .f32⟩
  | .hbm, ⟨24, _⟩ => ⟨S2x16384x8x128, .f32⟩
  | .hbm, ⟨25, _⟩ => ⟨S2x16384x8x128, .f32⟩
  | .hbm, ⟨26, _⟩ => ⟨S1x1x1x128, .f32⟩
  | .hbm, ⟨27, _⟩ => ⟨S2x16384x8x128, .f32⟩
  | .hbm, ⟨28, _⟩ => ⟨S2x16384x8x128, .f32⟩
  | .hbm, ⟨29, _⟩ => ⟨S_, .f32⟩
  | .hbm, ⟨30, _⟩ => ⟨S_, .f32⟩
  | .hbm, ⟨31, _⟩ => ⟨S2x16384x8x128, .f32⟩
  | .hbm, ⟨32, _⟩ => ⟨S2x16384x8x128, .f32⟩
  | .hbm, ⟨33, _⟩ => ⟨S_, .f32⟩
  | .hbm, ⟨34, _⟩ => ⟨S_, .f32⟩
  | .hbm, ⟨35, _⟩ => ⟨S2x16384x8x128, .f32⟩
  | .hbm, ⟨36, _⟩ => ⟨S2x16384x8x128, .f32⟩
  | .hbm, ⟨37, _⟩ => ⟨S2x16384x512, .f32⟩
  | .hbm, ⟨38, _⟩ => ⟨S_, .f32⟩
  | .hbm, ⟨39, _⟩ => ⟨S2x16384, .f32⟩
  | .hbm, ⟨40, _⟩ => ⟨S2x16384x1, .f32⟩
  | .hbm, ⟨41, _⟩ => ⟨S_, .f32⟩
  | .hbm, ⟨42, _⟩ => ⟨S2x16384x1, .f32⟩
  | .hbm, ⟨43, _⟩ => ⟨S2x16384x1, .f32⟩
  | .hbm, ⟨44, _⟩ => ⟨S_, .f32⟩
  | .hbm, ⟨45, _⟩ => ⟨S2x16384x1, .f32⟩
  | .hbm, ⟨46, _⟩ => ⟨S2x16384x1, .f32⟩
  | .hbm, ⟨47, _⟩ => ⟨S2x16384x1, .f32⟩
  | .hbm, ⟨48, _⟩ => ⟨S2x16384x512, .f32⟩
  | .hbm, ⟨49, _⟩ => ⟨S2x16384x512, .f32⟩
  | .hbm, ⟨50, _⟩ => ⟨S1x1x512, .f32⟩
  | .hbm, ⟨51, _⟩ => ⟨S2x16384x512, .f32⟩
  | .hbm, ⟨52, _⟩ => ⟨S2x16384x512, .f32⟩
  | .hbm, ⟨53, _⟩ => ⟨S2x16384x1024, .f32⟩
  | .hbm, ⟨54, _⟩ => ⟨S2x16384x8x128, .f32⟩
  | .hbm, ⟨55, _⟩ => ⟨S2x16384x8x128, .f32⟩
  | .hbm, ⟨56, _⟩ => ⟨S_, .f32⟩
  | .hbm, ⟨57, _⟩ => ⟨S2x16384x8, .f32⟩
  | .hbm, ⟨58, _⟩ => ⟨S2x16384x8x1, .f32⟩
  | .hbm, ⟨59, _⟩ => ⟨S_, .f32⟩
  | .hbm, ⟨60, _⟩ => ⟨S2x16384x8x1, .f32⟩
  | .hbm, ⟨61, _⟩ => ⟨S2x16384x8x1, .f32⟩
  | .hbm, ⟨62, _⟩ => ⟨S_, .f32⟩
  | .hbm, ⟨63, _⟩ => ⟨S2x16384x8x1, .f32⟩
  | .hbm, ⟨64, _⟩ => ⟨S2x16384x8x1, .f32⟩
  | .hbm, ⟨65, _⟩ => ⟨S2x16384x8x1, .f32⟩
  | .hbm, ⟨66, _⟩ => ⟨S2x16384x8x128, .f32⟩
  | .hbm, ⟨67, _⟩ => ⟨S2x16384x8x128, .f32⟩
  | .hbm, ⟨68, _⟩ => ⟨S1x1x1x128, .f32⟩
  | .hbm, ⟨69, _⟩ => ⟨S2x16384x8x128, .f32⟩
  | .hbm, ⟨70, _⟩ => ⟨S2x16384x8x128, .f32⟩
  | .hbm, ⟨71, _⟩ => ⟨S2x16384x1024, .f32⟩
  | .hbm, ⟨72, _⟩ => ⟨S2x16384x8x128, .f32⟩
  | .hbm, ⟨73, _⟩ => ⟨S2x16384x16x64, .f32⟩
  | .hbm, ⟨74, _⟩ => ⟨S_, .f32⟩
  | .hbm, ⟨75, _⟩ => ⟨S2x16384x16x64, .f32⟩
  | .hbm, ⟨76, _⟩ => ⟨S2x16384x16x64, .f32⟩
  | .hbm, ⟨77, _⟩ => ⟨S2x16384x64, .f32⟩
  | .hbm, ⟨78, _⟩ => ⟨S_, .f32⟩
  | .hbm, ⟨79, _⟩ => ⟨S2x16384, .f32⟩
  | .hbm, ⟨80, _⟩ => ⟨S2x16384x1, .f32⟩
  | .hbm, ⟨81, _⟩ => ⟨S_, .f32⟩
  | .hbm, ⟨82, _⟩ => ⟨S2x16384x1, .f32⟩
  | .hbm, ⟨83, _⟩ => ⟨S2x16384x1, .f32⟩
  | .hbm, ⟨84, _⟩ => ⟨S_, .f32⟩
  | .hbm, ⟨85, _⟩ => ⟨S2x16384x1, .f32⟩
  | .hbm, ⟨86, _⟩ => ⟨S2x16384x1, .f32⟩
  | .hbm, ⟨87, _⟩ => ⟨S2x16384x1, .f32⟩
  | .hbm, ⟨88, _⟩ => ⟨S2x16384x64, .f32⟩
  | .hbm, ⟨89, _⟩ => ⟨S2x16384x64, .f32⟩
  | .hbm, ⟨90, _⟩ => ⟨S1x1x64, .f32⟩
  | .hbm, ⟨91, _⟩ => ⟨S2x16384x64, .f32⟩
  | .hbm, ⟨92, _⟩ => ⟨S2x16384x64, .f32⟩
  | .hbm, ⟨93, _⟩ => ⟨S_, .f32⟩
  | .hbm, ⟨94, _⟩ => ⟨S2x16384x16, .f32⟩
  | .hbm, ⟨95, _⟩ => ⟨S2x16384x16, .f32⟩
  | .hbm, ⟨96, _⟩ => ⟨S2x128x128x4x2x128, .f32⟩
  | .hbm, ⟨97, _⟩ => ⟨S2x128x4x2x128x128, .f32⟩
  | .hbm, ⟨98, _⟩ => ⟨S2x128x4x1x128x128, .f32⟩
  | .hbm, ⟨99, _⟩ => ⟨S2x128x4x128x128, .f32⟩
  | .hbm, ⟨100, _⟩ => ⟨S_, .f32⟩
  | .hbm, ⟨101, _⟩ => ⟨S2x128x4x128x128, .f32⟩
  | .hbm, ⟨102, _⟩ => ⟨S2x128x4x1x128x128, .f32⟩
  | .hbm, ⟨103, _⟩ => ⟨S2x128x4x128x128, .f32⟩
  | .hbm, ⟨104, _⟩ => ⟨S2x128x4x128x256, .f32⟩
  | .hbm, ⟨105, _⟩ => ⟨S2x128x4x1x128x128, .f32⟩
  | .hbm, ⟨106, _⟩ => ⟨S2x128x4x128x128, .f32⟩
  | .hbm, ⟨107, _⟩ => ⟨S2x128x4x128x256, .f32⟩
  | .hbm, ⟨108, _⟩ => ⟨S2x128x4x256x256, .f32⟩
  | .hbm, ⟨109, _⟩ => ⟨S_, .f32⟩
  | .hbm, ⟨110, _⟩ => ⟨S2x8x16x16384, .f32⟩
  | .hbm, ⟨111, _⟩ => ⟨S2x8x128x16384, .f32⟩
  | .hbm, ⟨112, _⟩ => ⟨S2x8x144x16384, .f32⟩
  | .hbm, ⟨113, _⟩ => ⟨S2x1152x16384, .f32⟩
  | .hbm, ⟨114, _⟩ => ⟨S2x128x128x16x64, .f32⟩
  | .hbm, ⟨115, _⟩ => ⟨S2x128x64x16x128, .f32⟩
  | .hbm, ⟨116, _⟩ => ⟨S2x128x64x2048, .f32⟩
  | .hbm, ⟨117, _⟩ => ⟨S2x128x128x16, .f32⟩
  | .hbm, ⟨118, _⟩ => ⟨S2x128x16x128, .f32⟩
  | .hbm, ⟨119, _⟩ => ⟨S2x128x1x2048, .f32⟩
  | .hbm, ⟨120, _⟩ => ⟨S2x128x4x256x256, .bf16⟩
  | .hbm, ⟨121, _⟩ => ⟨S2x16384x1024, .f32⟩
  | .hbm, ⟨122, _⟩ => ⟨S2x16384x1024, .bf16⟩
  | .hbm, ⟨123, _⟩ => ⟨S2x1152x16384, .bf16⟩
  | .hbm, ⟨124, _⟩ => ⟨S2x128x64x2048, .bf16⟩
  | .hbm, ⟨125, _⟩ => ⟨S2x16384x64, .bf16⟩
  | _, _ => ⟨S2x16384x14848, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_11 : Ref sig .tc := ⟨.hbm, 78, rfl⟩
abbrev main_v59 : Ref sig .tc := ⟨.hbm, 79, rfl⟩
abbrev main_v60 : Ref sig .tc := ⟨.hbm, 80, rfl⟩
abbrev main_cst_12 : Ref sig .tc := ⟨.hbm, 81, rfl⟩
abbrev main_v61 : Ref sig .tc := ⟨.hbm, 82, rfl⟩
abbrev main_v62 : Ref sig .tc := ⟨.hbm, 83, rfl⟩
abbrev main_cst_13 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_15 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_16 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩

abbrev nD : Nat := 1
abbrev τ : Topo := Topo.v7x

variable {F : FTy → Type} [FloatOps F]
-- ==== Memory.lean ====
abbrev S512x2048 : Shape := ⟨2, ![512, 2048]⟩
abbrev S2048 : Shape := ⟨1, ![2048]⟩
abbrev S2048x1024 : Shape := ⟨2, ![2048, 1024]⟩
abbrev S1x2048 : Shape := ⟨2, ![1, 2048]⟩
abbrev S512x1024 : Shape := ⟨2, ![512, 1024]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S2048x1024, .bf16⟩
  | .hbm, ⟨4, _⟩ => ⟨S1x2048, .f32⟩
  | .hbm, ⟨5, _⟩ => ⟨S512x1024, .f32⟩
  | .local _ .vmem, ⟨0, _⟩ => ⟨S512x2048, .f32⟩
  | .local _ .vmem, ⟨1, _⟩ => ⟨S1x2048, .f32⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MemoryRefIdeal.lean ====
abbrev S512x2048 : Shape := ⟨2, ![512, 2048]⟩
abbrev S2048 : Shape := ⟨1, ![2048]⟩
abbrev S2048x1024 : Shape := ⟨2, ![2048, 1024]⟩
abbrev S_ : Shape := ⟨0, ![]⟩
abbrev S512 : Shape := ⟨1, ![512]⟩
abbrev S512x1 : Shape := ⟨2, ![512, 1]⟩
abbrev S1x2048 : Shape := ⟨2, ![1, 2048]⟩
abbrev S512x1024 : Shape := ⟨2, ![512, 1024]⟩

abbrev nBuf : Space → Nat
  | .hbm => 20
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048, .f32⟩
  | .hbm, ⟨2, _⟩ => ⟨S2048x1024, .f32⟩
  | .hbm, ⟨3, _⟩ => ⟨S512x2048, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x2048, .f32⟩
  | .hbm, ⟨15, _⟩ => ⟨S512x2048, .f32⟩
  | .hbm, ⟨16, _⟩ => ⟨S1x2048, .f32⟩
  | .hbm, ⟨17, _⟩ => ⟨S512x2048, .f32⟩
  | .hbm, ⟨18, _⟩ => ⟨S512x2048, .f32⟩
  | .hbm, ⟨19, _⟩ => ⟨S512x1024, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Mlstm.lean ====
abbrev S2x16384x14848 : Shape := ⟨3, ![2, 16384, 14848]⟩
abbrev S4x1024 : Shape := ⟨2, ![4, 1024]⟩
abbrev S4 : Shape := ⟨1, ![4]⟩
abbrev S1024 : Shape := ⟨1, ![1024]⟩
abbrev S_ : Shape := ⟨0, ![]⟩
abbrev S1x128 : Shape := ⟨2, ![1, 128]⟩
abbrev S1 : Shape := ⟨1, ![1]⟩
abbrev S2 : Shape := ⟨1, ![2]⟩
abbrev S1x1024 : Shape := ⟨2, ![1, 1024]⟩
abbrev S2x16384x1024 : Shape := ⟨3, ![2, 16384, 1024]⟩
abbrev S1x256x1024 : Shape := ⟨3, ![1, 256, 1024]⟩
abbrev S1x256x128 : Shape := ⟨3, ![1, 256, 128]⟩
abbrev S8x1024 : Shape := ⟨2, ![8, 1024]⟩
abbrev S264x1024 : Shape := ⟨2, ![264, 1024]⟩
abbrev S256x512 : Shape := ⟨2, ![256, 512]⟩
abbrev S4x128x256 : Shape := ⟨3, ![4, 128, 256]⟩
abbrev S8x128 : Shape := ⟨2, ![8, 128]⟩
abbrev S256x1024 : Shape := ⟨2, ![256, 1024]⟩
abbrev S1x8x1024 : Shape := ⟨3, ![1, 8, 1024]⟩
abbrev S64x64 : Shape := ⟨2, ![64, 64]⟩
abbrev S1x64x128 : Shape := ⟨3, ![1, 64, 128]⟩
abbrev S64x128 : Shape := ⟨2, ![64, 128]⟩
abbrev S128x64 : Shape := ⟨2, ![128, 64]⟩
abbrev S64x1 : Shape := ⟨2, ![64, 1]⟩
abbrev S1x64 : Shape := ⟨2, ![1, 64]⟩
abbrev S1x1 : Shape := ⟨2, ![1, 1]⟩
abbrev S64 : Shape := ⟨1, ![64]⟩
abbrev S1x64x256 : Shape := ⟨3, ![1, 64, 256]⟩
abbrev S64x256 : Shape := ⟨2, ![64, 256]⟩
abbrev S1x128x256 : Shape := ⟨3, ![1, 128, 256]⟩
abbrev S128x256 : Shape := ⟨2, ![128, 256]⟩
abbrev S1x256 : Shape := ⟨2, ![1, 256]⟩
abbrev S128 : Shape := ⟨1, ![128]⟩

abbrev nBuf : Space → Nat
  | .hbm => 21
  | .vmem => 20
  | .smem => 0
  | _ => 0

abbrev bufTy : (tb : Table) → Fin (tcTables nBuf tb) → BufTy
  | .hbm, ⟨0, _⟩ => ⟨S2x16384x14848, .f32⟩
  | .hbm, ⟨1, _⟩ => ⟨S4x1024, .f32⟩
  | .hbm, ⟨2, _⟩ => ⟨S4, .f32⟩
  | .hbm, ⟨3, _⟩ => ⟨S4, .f32⟩
  | .hbm, ⟨4, _⟩ => ⟨S1024, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S1x128, .f32⟩
  | .hbm, ⟨19, _⟩ => ⟨S1x1024, .f32⟩
  | .hbm, ⟨20, _⟩ => ⟨S2x16384x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x128, .f32⟩
  | .local _ .vmem, ⟨7, _⟩ => ⟨S1x256x128, .f32⟩
  | .local _ .vmem, ⟨8, _⟩ => ⟨S4x1024, .f32⟩
  | .local _ .vmem, ⟨9, _⟩ => ⟨S1x128, .f32⟩
  | .local _ .vmem, ⟨10, _⟩ => ⟨S1x1024, .f32⟩
  | .local _ .vmem, ⟨11, _⟩ => ⟨S1x256x1024, .bf16⟩
  | .local _ .vmem, ⟨12, _⟩ => ⟨S1x256x1024, .bf16⟩
  | .local _ .vmem, ⟨13, _⟩ => ⟨S8x1024, .f32⟩
  | .local _ .vmem, ⟨14, _⟩ => ⟨S264x1024, .f32⟩
  | .local _ .vmem, ⟨15, _⟩ => ⟨S256x512, .bf16⟩
  | .local _ .vmem, ⟨16, _⟩ => ⟨S256x512, .bf16⟩
  | .local _ .vmem, ⟨17, _⟩ => ⟨S4x128x256, .f32⟩
  | .local _ .vmem, ⟨18, _⟩ => ⟨S8x128, .f32⟩
  | .local _ .vmem, ⟨19, _⟩ => ⟨S8x128, .f32⟩
  | _, _ => ⟨S2x16384x14848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c6_i32 : BitVec 32 := 6#32
  let c0_i32 : BitVec 32 := 0#32
  ![arg0.toNat, arg1.toNat, c6_i32.toNat]

def cc0_transform_1 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_3 (i : grid0.Coords) : Fin 3 → Nat :=
  let arg0 : BitVec 32 := BitVec.ofNat 32 (i 0).val
  let arg1 : BitVec 32 := BitVec.ofNat 32 (i 1).val
  let c112_i32 : BitVec 32 := 112#32
  let c0_i32 : BitVec 32 := 0#32
  ![arg0.toNat, arg1.toNat, c112_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ssd.lean ====
abbrev S2x16384x14848 : Shape := ⟨3, ![2, 16384, 14848]⟩
abbrev S4x1536 : Shape := ⟨2, ![4, 1536]⟩
abbrev S1536 : Shape := ⟨1, ![1536]⟩
abbrev S16 : Shape := ⟨1, ![16]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩
abbrev S128x1024 : Shape := ⟨2, ![128, 1024]⟩
abbrev S1x128 : Shape := ⟨2, ![1, 128]⟩
abbrev S1 : Shape := ⟨1, ![1]⟩
abbrev S2 : Shape := ⟨1, ![2]⟩
abbrev S16x64 : Shape := ⟨2, ![16, 64]⟩
abbrev S1x1536 : Shape := ⟨2, ![1, 1536]⟩
abbrev S2x16384x1024 : Shape := ⟨3, ![2, 16384, 1024]⟩
abbrev S1x256x1536 : Shape := ⟨3, ![1, 256, 1536]⟩
abbrev S1x256x1024 : Shape := ⟨3, ![1, 256, 1024]⟩
abbrev S1x256x128 : Shape := ⟨3, ![1, 256, 128]⟩
abbrev S8x1536 : Shape := ⟨2, ![8, 1536]⟩
abbrev S264x1536 : Shape := ⟨2, ![264, 1536]⟩
abbrev S256x1536 : Shape := ⟨2, ![256, 1536]⟩
abbrev S256x128 : Shape := ⟨2, ![256, 128]⟩
abbrev S256x1024 : Shape := ⟨2, ![256, 1024]⟩
abbrev S2x128x512 : Shape := ⟨3, ![2, 128, 512]⟩
abbrev S1x8x1536 : Shape := ⟨3, ![1, 8, 1536]⟩
abbrev S64x64 : Shape := ⟨2, ![64, 64]⟩
abbrev S64x128 : Shape := ⟨2, ![64, 128]⟩
abbrev S128x64 : Shape := ⟨2, ![128, 64]⟩
abbrev S64x1024 : Shape := ⟨2, ![64, 1024]⟩
abbrev S8x128 : Shape := ⟨2, ![8, 128]⟩
abbrev S8x1024 : Shape := ⟨2, ![8, 1024]⟩
abbrev S1x128x512 : Shape := ⟨3, ![1, 128, 512]⟩
abbrev S128x512 : Shape := ⟨2, ![128, 512]⟩
abbrev S64x512 : Shape := ⟨2, ![64, 512]⟩
abbrev S64x1 : Shape := ⟨2, ![64, 1]⟩
abbrev S1x64 : Shape := ⟨2, ![1, 64]⟩
abbrev S1x512 : Shape := ⟨2, ![1, 512]⟩
abbrev S256 : Shape := ⟨1, ![256]⟩
abbrev S256x1 : Shape := ⟨2, ![256, 1]⟩

abbrev nBuf : Space → Nat
  | .hbm => 58
  | .vmem => 21
  | .smem => 0
  | _ => 0

abbrev bufTy : (tb : Table) → Fin (tcTables nBuf tb) → BufTy
  | .hbm, ⟨0, _⟩ => ⟨S2x16384x14848, .f32⟩
  | .hbm, ⟨1, _⟩ => ⟨S4x1536, .f32⟩
  | .hbm, ⟨2, _⟩ => ⟨S1536, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S1024, .f32⟩
  | .hbm, ⟨7, _⟩ => ⟨S1024, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S1024, .i32⟩
  | .hbm, ⟨15, _⟩ => ⟨S1024, .i1⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S1024, .i1⟩
  | .hbm, ⟨22, _⟩ => ⟨S_, .i32⟩
  | .hbm, ⟨23, _⟩ => ⟨S1024, .i32⟩
  | .hbm, ⟨24, _⟩ => ⟨S1024, .i32⟩
  | .hbm, ⟨25, _⟩ => ⟨S1024, .i32⟩
  | .hbm, ⟨26, _⟩ => ⟨S128, .i32⟩
  | .hbm, ⟨27, _⟩ => ⟨S128x1, .i32⟩
  | .hbm, ⟨28, _⟩ => ⟨S_, .i32⟩
  | .hbm, ⟨29, _⟩ => ⟨S1024, .i32⟩
  | .hbm, ⟨30, _⟩ => ⟨S1024, .i32⟩
  | .hbm, ⟨31, _⟩ => ⟨S1x1024, .i32⟩
  | .hbm, ⟨32, _⟩ => ⟨S128x1024, .i32⟩
  | .hbm, ⟨33, _⟩ => ⟨S128x1024, .i32⟩
  | .hbm, ⟨34, _⟩ => ⟨S128x1024, .i1⟩
  | .hbm, ⟨35, _⟩ => ⟨S128x1024, .bf16⟩
  | .hbm, ⟨36, _⟩ => ⟨S_, .f32⟩
  | .hbm, ⟨37, _⟩ => ⟨S1x128, .f32⟩
  | .hbm, ⟨38, _⟩ => ⟨S_, .i32⟩
  | .hbm, ⟨39, _⟩ => ⟨S1, .i32⟩
  | .hbm, ⟨40, _⟩ => ⟨S_, .i32⟩
  | .hbm, ⟨41, _⟩ => ⟨S1, .i32⟩
  | .hbm, ⟨42, _⟩ => ⟨S2, .i32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S_, .i32⟩
  | .hbm, ⟨47, _⟩ => ⟨S1, .i32⟩
  | .hbm, ⟨48, _⟩ => ⟨S_, .i32⟩
  | .hbm, ⟨49, _⟩ => ⟨S1, .i32⟩
  | .hbm, ⟨50, _⟩ => ⟨S2, .i32⟩
  | .hbm, ⟨51, _⟩ => ⟨S1x128, .f32⟩
  | .hbm, ⟨52, _⟩ => ⟨S16x64, .f32⟩
  | .hbm, ⟨53, _⟩ => ⟨S1024, .f32⟩
  | .hbm, ⟨54, _⟩ => ⟨S1x1024, .f32⟩
  | .hbm, ⟨55, _⟩ => ⟨S1x1536, .f32⟩
  | .hbm, ⟨56, _⟩ => ⟨S1x1024, .f32⟩
  | .hbm, ⟨57, _⟩ => ⟨S2x16384x1024, .bf16⟩
  | .local _ .vmem, ⟨0, _⟩ => ⟨S1x256x1536, .f32⟩
  | .local _ .vmem, ⟨1, _⟩ => ⟨S1x256x1536, .f32⟩
  | .local _ .vmem, ⟨2, _⟩ => ⟨S1x256x1024, .f32⟩
  | .local _ .vmem, ⟨3, _⟩ => ⟨S1x256x1024, .f32⟩
  | .local _ .vmem, ⟨4, _⟩ => ⟨S1x256x128, .f32⟩
  | .local _ .vmem, ⟨5, _⟩ => ⟨S1x256x128, .f32⟩
  | .local _ .vmem, ⟨6, _⟩ => ⟨S4x1536, .f32⟩
  | .local _ .vmem, ⟨7, _⟩ => ⟨S1x1536, .f32⟩
  | .local _ .vmem, ⟨8, _⟩ => ⟨S1x128, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S128x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S8x1536, .f32⟩
  | .local _ .vmem, ⟨16, _⟩ => ⟨S264x1536, .f32⟩
  | .local _ .vmem, ⟨17, _⟩ => ⟨S256x1536, .f32⟩
  | .local _ .vmem, ⟨18, _⟩ => ⟨S256x128, .f32⟩
  | .local _ .vmem, ⟨19, _⟩ => ⟨S256x1024, .f32⟩
  | .local _ .vmem, ⟨20, _⟩ => ⟨S2x128x512, .f32⟩
  | _, _ => ⟨S2x16384x14848, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_c_0 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_c_1 : Ref sig .tc := ⟨.hbm, 38, rfl⟩
abbrev main_v12 : Ref sig .tc := ⟨.hbm, 39, rfl⟩
abbrev main_c_2 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨2, ![2, 64], ![false, false]⟩

def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let c0_i32 : BitVec 32 := 0#32
  ![arg0.toNat, arg1.toNat, c11_i32.toNat]

def cc0_transform_2 (i : grid0.Coords) : Fin 3 → Nat :=
  let arg0 : BitVec 32 := BitVec.ofNat 32 (i 0).val
  let arg1 : BitVec 32 := BitVec.ofNat 32 (i 1).val
  let c112_i32 : BitVec 32 := 112#32
  let c0_i32 : BitVec 32 := 0#32
  ![arg0.toNat, arg1.toNat, c112_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.DsaWords.lean ====
/- The words the attention kernel reads from its three prefetched tables: the tables are constants of
   the program, so the side conditions the body assumes of a word, and the windows' side condition of
   the tables, are decided here. -/
module

public import proofs.«01_k».proof.Proof.Gen.Kernel

@[expose] public section

set_option maxRecDepth 65536

noncomputable section

namespace Cert.Kernel.Dsa

open Cert.Kernel Cert.Kernel.Gen
open Idealize.ShloMosaic Idealize.ShloMosaic.TcCoe

/-- A key-tile number below sixteen names a tile of the keys. -/
theorem chk3_of (v3 : BitVec 32) (h : v3.toNat < 16) : k0_chk3 v3 := by
  obtain ⟨n, rfl⟩ : ∃ n : Fin 16, v3 = BitVec.ofNat 32 n.val := ⟨⟨v3.toNat, h⟩, by simp⟩
  unfold k0_chk3
  revert n
  decide +kernel

/-- The score loops stay inside the sixteen key tiles. -/
theorem chk1_of (v3 v5 : BitVec 32) (h : v5.toNat < 16) : k0_chk1 v3 v5 := by
  obtain ⟨n, rfl⟩ : ∃ n : Fin 16, v5 = BitVec.ofNat 32 n.val := ⟨⟨v5.toNat, h⟩, by simp⟩
  unfold k0_chk1
  refine ⟨fun _ => ?_, fun t _ => ?_, fun t _ => ?_, fun t _ => ?_, fun t _ => ?_, fun t _ => ?_, fun t _ => ?_,
    fun t _ => ?_, fun t _ => ?_, fun t _ => ?_, fun t _ => ?_, fun _ => ?_, fun t _ => ?_, fun t _ => ?_, fun t _ => ?_,
    fun t _ => ?_, fun t _ => ?_, fun t _ => ?_, fun t _ => ?_, fun t _ => ?_, fun t _ => ?_, fun t _ => ?_⟩
  all_goals first
    | (revert t; revert n; decide +kernel)
    | (revert n; decide +kernel)

/-- A loop counting up from zero to any bound, by ones, never wraps. -/
theorem ok_up (u : BitVec 32) : Scf.OK 0#32 u 1#32 := by
  have h : Scf.trips 0#32 u 1#32 = u.toInt.toNat := by
    unfold Scf.trips
    have h1 : (1#32 : BitVec 32).toInt = 1 := by decide
    have h0 : (0#32 : BitVec 32).toInt = 0 := by decide
    rw [h1, h0]; congr 1; omega
  refine ⟨by decide, ?_⟩
  rw [h]
  have h1 : (1#32 : BitVec 32).toInt = 1 := by decide
  have h0 : (0#32 : BitVec 32).toInt = 0 := by decide
  rw [h1, h0]
  have := @BitVec.toInt_lt 32 u
  omega

/-- A loop from a bound to the same bound makes no trip. -/
theorem ok_same (u : BitVec 32) : Scf.OK u u 1#32 := by
  have h1 : (1#32 : BitVec 32).toInt = 1 := by decide
  have h : Scf.trips u u 1#32 = 0 := by
    unfold Scf.trips
    rw [h1]; simp
  refine ⟨by decide, ?_⟩
  rw [h]
  have := @BitVec.toInt_lt 32 u
  simp
  omega

/-- The bisection's loops: the number of bits is whatever the leading zeros leave, its counting loops stay
    inside the sixteen key tiles. -/
theorem chk2_of (v3 v5 v1030 : BitVec 32) (h : v5.toNat < 16) : k0_chk2 v3 v5 v1030 := by
  obtain ⟨n, rfl⟩ : ∃ n : Fin 16, v5 = BitVec.ofNat 32 n.val := ⟨⟨v5.toNat, h⟩, by simp⟩
  unfold k0_chk2
  refine ⟨fun _ => ?_, fun _ _ => ?_, fun _ t _ => ?_, fun _ t _ => ?_, fun _ _ => ?_, fun _ t _ => ?_, fun _ t _ => ?_,
    fun _ => ?_, fun _ _ => ?_, fun _ t _ => ?_, fun _ t _ => ?_, fun _ _ => ?_, fun _ t _ => ?_, fun _ t _ => ?_⟩
  case refine_1 => exact ok_up _
  case refine_8 =>
    have e : k0_t6_loop v1030 = ⟨Scalar.subi 32#32 v1030, Scalar.subi 32#32 v1030, 1#32⟩ := by
      have hc : ¬ IntOp.SDivCorner (32#32 - v1030) 1#32 := by
        rintro (h | ⟨_, h⟩) <;> exact absurd h (by decide)
      simp [k0_t6_loop, Scalar.addi, Scalar.muli, Scalar.divsi, Scalar.subi, IntOp.addi, IntOp.muli, IntOp.divsi,
        IntOp.subi, hc, BitVec.sdiv_one]
    rw [e]
    exact ok_same _
  all_goals first
    | (revert t; revert n; decide +kernel)
    | (revert n; decide +kernel)

variable {F : FTy → Type} [BitOps F]

/-- The three tables, as the program's constants give them: the query tile, the key tile and the last key tile of
    every grid point. -/
def tabs : pre0.Contents (Elt F) := fun k => match k with
  | 0 => fun i => lit0 (S1088.rowMajor i)
  | 1 => fun i => lit1 (S1088.rowMajor i)
  | 2 => fun i => lit2 (S1088.rowMajor i)
  | ⟨_ + 3, h⟩ => absurd h (Nat.not_lt.2 (Nat.le_add_left _ _))

theorem lit1_lt : ∀ i : Fin 1088, (lit1 i).toNat < 16 := by decide +kernel
theorem lit2_lt : ∀ i : Fin 1088, (lit2 i).toNat < 16 := by decide +kernel
theorem lit0_lt : ∀ i : Fin 1088, (lit0 i).toNat < 128 := by decide +kernel

end Cert.Kernel.Dsa

end
-- ==== Proof.DsaTables.lean ====
/- The prefetched tables satisfy the windows' side condition: every word of a table is a small number, and a
   block at a small number lies in its array and moves whole words. -/
module

public import proofs.«01_k».proof.Proof.Gen.Kernel
public import proofs.«01_k».proof.Proof.DsaWords

@[expose] public section

set_option maxRecDepth 65536

noncomputable section

namespace Cert.Kernel.Dsa

open Cert.Kernel Cert.Kernel.Gen
open Idealize.ShloMosaic Idealize.ShloMosaic.TcCoe

variable {F : FTy → Type} [BitOps F]

/-- A block at `n` of a table's range and `b` of the batch, for every window that reads a table. -/
theorem blocks1 : ∀ (b : Fin 2) (n : Fin 128), ∃ h : (∀ a, ((![(BitVec.ofNat 32 b.val).toNat, n.val, (0#32 : BitVec 32).toNat, (0#32 : BitVec 32).toNat] : Fin 4 → Nat) a + 1) * S1x1x64x2048.size a ≤ S2x128x64x2048.size a), EltTy.bits .bf16 = 32 ∨ (Rect.block (s := S2x128x64x2048) S1x1x64x2048.size _ h).WholeWords (EltTy.packing .bf16) := by
  decide +kernel
theorem blocks2 : ∀ (b : Fin 2) (n : Fin 128), ∃ h : (∀ a, ((![(BitVec.ofNat 32 b.val).toNat, n.val, (0#32 : BitVec 32).toNat, (0#32 : BitVec 32).toNat] : Fin 4 → Nat) a + 1) * S1x1x1x2048.size a ≤ S2x128x1x2048.size a), EltTy.bits .f32 = 32 ∨ (Rect.block (s := S2x128x1x2048) S1x1x1x2048.size _ h).WholeWords (EltTy.packing .f32) := by
  decide +kernel
theorem blocks3 : ∀ (b : Fin 2) (n : Fin 128), ∃ h : (∀ a, ((![(BitVec.ofNat 32 b.val).toNat, n.val, (0#32 : BitVec 32).toNat, (0#32 : BitVec 32).toNat, (0#32 : BitVec 32).toNat] : Fin 5 → Nat) a + 1) * S1x1x4x256x256.size a ≤ S2x128x4x256x256.size a), EltTy.bits .bf16 = 32 ∨ (Rect.block (s := S2x128x4x256x256) S1x1x4x256x256.size _ h).WholeWords (EltTy.packing .bf16) := by
  decide +kernel
theorem blocks4 : ∀ (b : Fin 2) (n : Fin 16), ∃ h : (∀ a, ((![(BitVec.ofNat 32 b.val).toNat, n.val, (0#32 : BitVec 32).toNat] : Fin 3 → Nat) a + 1) * S1x1024x1024.size a ≤ S2x16384x1024.size a), EltTy.bits .bf16 = 32 ∨ (Rect.block (s := S2x16384x1024) S1x1024x1024.size _ h).WholeWords (EltTy.packing .bf16) := by
  decide +kernel
theorem blocks5 : ∀ (b : Fin 2) (n : Fin 16), ∃ h : (∀ a, ((![(BitVec.ofNat 32 b.val).toNat, (0#32 : BitVec 32).toNat, n.val] : Fin 3 → Nat) a + 1) * S1x1152x1024.size a ≤ S2x1152x16384.size a), EltTy.bits .bf16 = 32 ∨ (Rect.block (s := S2x1152x16384) S1x1152x1024.size _ h).WholeWords (EltTy.packing .bf16) := by
  decide +kernel
theorem blocks6 : ∀ (b : Fin 2) (n : Fin 128), ∃ h : (∀ a, ((![(BitVec.ofNat 32 b.val).toNat, n.val, (0#32 : BitVec 32).toNat] : Fin 3 → Nat) a + 1) * S1x128x1024.size a ≤ S2x16384x1024.size a), EltTy.bits .bf16 = 32 ∨ (Rect.block (s := S2x16384x1024) S1x128x1024.size _ h).WholeWords (EltTy.packing .bf16) := by
  decide +kernel

theorem at0 (i : grid0.Coords) : ((tabs (F := F)).at 0 (Rect.unit (s := S1088) (k0_off1 i) S1.size (k0_off1_inb i)) numel1_S1 : BitVec 32).toNat < 128 :=
  lit0_lt _
theorem at1 (i : grid0.Coords) : ((tabs (F := F)).at 1 (Rect.unit (s := S1088) (k0_off1 i) S1.size (k0_off1_inb i)) numel1_S1 : BitVec 32).toNat < 16 :=
  lit1_lt _

theorem tabs_ok : ok0 (tabs (F := F)) :=
  ⟨fun i => blocks1 (i 0) ⟨_, at0 (F := F) i⟩, fun i => blocks2 (i 0) ⟨_, at0 (F := F) i⟩, fun i => blocks3 (i 0) ⟨_, at0 (F := F) i⟩,
    fun i => blocks4 (i 0) ⟨_, at1 (F := F) i⟩, fun i => blocks5 (i 0) ⟨_, at1 (F := F) i⟩, fun i => blocks6 (i 0) ⟨_, at0 (F := F) i⟩⟩

end Cert.Kernel.Dsa

end
-- ==== Proof.DsaLoops.lean ====
/- The two loops of the attention kernel's search which hold further loops: the bisection on the bits above the
   leading zeros (and the empty rest of it the compiler leaves). A trip only reads the keys; what it carries is
   whatever its counting loop finds, so the invariant says nothing of it. -/
module

public import proofs.«01_k».proof.Proof.Gen.Kernel.Skeleton
public import proofs.«01_k».proof.Proof.Gen.Kernel.Loops

@[expose] public section

set_option maxRecDepth 8192
set_option maxHeartbeats 4000000

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

set_option warn.classDefReducibility false in
/-- The bisection's loop: every trip leaves the keys as it found them. -/
@[sl_loop] def loopInv_k0_t3 (𝒱 : Variants) (c : Dev nD) (bd : Option 𝒱.V) (E : Set ℕ) (i : grid0.Coords) (arg2 : Memref sig .tc .smem S1088 .i32) (harg2 : arg2.IsWhole) (arg3 : Memref sig .tc .smem S1088 .i32) (harg3 : arg3.IsWhole) (arg4 : Memref sig .tc .smem S1088 .i32) (harg4 : arg4.IsWhole) (arg5 : Memref sig .tc .vmem S1x16384x64 .bf16) (harg5 : arg5.IsWhole) (arg6 : Memref sig .tc .vmem S1x1x64x2048 .bf16) (harg6 : arg6.IsWhole) (arg7 : Memref sig .tc .vmem S1x1x1x2048 .f32) (harg7 : arg7.IsWhole) (arg8 : Memref sig .tc .vmem S1x1x4x256x256 .bf16) (harg8 : arg8.IsWhole) (arg9 : Memref sig .tc .vmem S1x1024x1024 .bf16) (harg9 : arg9.IsWhole) (arg10 : Memref sig .tc .vmem S1x1152x1024 .bf16) (harg10 : arg10.IsWhole) (arg11 : Memref sig .tc .vmem S1x128x1024 .bf16) (harg11 : arg11.IsWhole) (arg12 : Memref sig .tc .vmem S16384x128 .i32) (harg12 : arg12.IsWhole) (arg13 : Memref sig .tc .vmem S256x128 .i32) (harg13 : arg13.IsWhole) (arg14 : Memref sig .tc .vmem S8x128 .i32) (harg14 : arg14.IsWhole) (arg15 : Memref sig .tc .vmem S8x256 .f32) (harg15 : arg15.IsWhole) (arg16 : Memref sig .tc .vmem S8x144x128 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S1024x256 .bf16) (harg23 : arg23.IsWhole) (arg24 : Memref sig .tc .vmem S1024x256 .bf16) (harg24 : arg24.IsWhole) (v3 : Elt F .i32) (v5 : Elt F .i32) (k0_hw1 : k0_chk1 v3 v5) (v6 : BitVec 32) (k0_h1 : k0_cond1 v3 = 1#1) (v1009 : IVec S1x128 32) (v1010 : IVec S128x128 32) (c0_i32_622 : BitVec 32) (v1019 : BitVec 32) (c1_i32_624 : BitVec 32) (v1020 : Vec F S256x128 .i32) (v1030 : BitVec 32) (k0_hw2 : k0_chk2 v3 v5 v1030) (X_arg12 : BufTy.Contents (Elt F) arg12.view.ty) (init : IVec S1x128 32) :
    LoopInvTy_k0_t3 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v3 v5 k0_hw1 v6 k0_h1 v1009 v1010 c0_i32_622 v1019 c1_i32_624 v1020 v1030 k0_hw2 init where
  inv := fun k acc => iprop(arg12.view.loc (c : Thread nD τ) ↦[arg12.view.set]{fullShare} X_arg12)
  step := fun k acc => by
    unfold k0_t3_body
    iintro HR_arg12
    sl_exec
    sl_step
    iexact HR_arg12

set_option warn.classDefReducibility false in
/-- The bisection's loop: every trip leaves the keys as it found them. -/
@[sl_loop] def loopInv_k0_t6 (𝒱 : Variants) (c : Dev nD) (bd : Option 𝒱.V) (E : Set ℕ) (i : grid0.Coords) (arg2 : Memref sig .tc .smem S1088 .i32) (harg2 : arg2.IsWhole) (arg3 : Memref sig .tc .smem S1088 .i32) (harg3 : arg3.IsWhole) (arg4 : Memref sig .tc .smem S1088 .i32) (harg4 : arg4.IsWhole) (arg5 : Memref sig .tc .vmem S1x16384x64 .bf16) (harg5 : arg5.IsWhole) (arg6 : Memref sig .tc .vmem S1x1x64x2048 .bf16) (harg6 : arg6.IsWhole) (arg7 : Memref sig .tc .vmem S1x1x1x2048 .f32) (harg7 : arg7.IsWhole) (arg8 : Memref sig .tc .vmem S1x1x4x256x256 .bf16) (harg8 : arg8.IsWhole) (arg9 : Memref sig .tc .vmem S1x1024x1024 .bf16) (harg9 : arg9.IsWhole) (arg10 : Memref sig .tc .vmem S1x1152x1024 .bf16) (harg10 : arg10.IsWhole) (arg11 : Memref sig .tc .vmem S1x128x1024 .bf16) (harg11 : arg11.IsWhole) (arg12 : Memref sig .tc .vmem S16384x128 .i32) (harg12 : arg12.IsWhole) (arg13 : Memref sig .tc .vmem S256x128 .i32) (harg13 : arg13.IsWhole) (arg14 : Memref sig .tc .vmem S8x128 .i32) (harg14 : arg14.IsWhole) (arg15 : Memref sig .tc .vmem S8x256 .f32) (harg15 : arg15.IsWhole) (arg16 : Memref sig .tc .vmem S8x144x128 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S1024x256 .bf16) (harg23 : arg23.IsWhole) (arg24 : Memref sig .tc .vmem S1024x256 .bf16) (harg24 : arg24.IsWhole) (v3 : Elt F .i32) (v5 : Elt F .i32) (k0_hw1 : k0_chk1 v3 v5) (v6 : BitVec 32) (k0_h1 : k0_cond1 v3 = 1#1) (v1009 : IVec S1x128 32) (v1010 : IVec S128x128 32) (c0_i32_622 : BitVec 32) (v1019 : BitVec 32) (c1_i32_624 : BitVec 32) (v1020 : Vec F S256x128 .i32) (v1030 : BitVec 32) (k0_hw2 : k0_chk2 v3 v5 v1030) (X_arg12 : BufTy.Contents (Elt F) arg12.view.ty) (init : IVec S1x128 32) :
    LoopInvTy_k0_t6 (F := F) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 v3 v5 k0_hw1 v6 k0_h1 v1009 v1010 c0_i32_622 v1019 c1_i32_624 v1020 v1030 k0_hw2 init where
  inv := fun k acc => iprop(arg12.view.loc (c : Thread nD τ) ↦[arg12.view.set]{fullShare} X_arg12)
  step := fun k acc => by
    unfold k0_t6_body
    iintro HR_arg12
    sl_exec
    sl_step
    iexact HR_arg12

end Cert.Kernel.Dsa

end
-- ==== Proof.DsaBody.lean ====
/- The attention kernel's body, run once at symbolic operands: from every buffer at any contents and the three tables
   held at half a share, to every buffer at some contents and the tables as they were. -/
module

public import proofs.«01_k».proof.Proof.Gen.Kernel.Skeleton
public import proofs.«01_k».proof.Proof.Gen.Kernel.Loops
public import proofs.«01_k».proof.Proof.Gen.Kernel.Launch
public import proofs.«01_k».proof.Proof.DsaWords
public import proofs.«01_k».proof.Proof.DsaLoops
public import Idealize.ShloMosaic.Lib.Pipeline.Frame
public import Idealize.ShloMosaic.Lib.Tactic

@[expose] public section

set_option maxRecDepth 65536
set_option maxHeartbeats 40000000

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

local notation "𝕄" => MT nD τ sig Unit (Elt F) ℕ (UR sig nD τ) ℕ

/-- A prefetched table's buffer on core `c`, held at the half share the region leaves the body. -/
abbrev tbPt (c : Dev nD) {S : Shape} {e : EltTy} (M : Memref sig .tc .smem S e) (f : Buf (Elt F) (M.view.loc (c : Thread nD τ))) : sProp 𝕄 :=
  M.view.loc (c : Thread nD τ) ↦{fullShare.right} f

/-- The side conditions, of a word read from a table of small words. -/
theorem chk3E (c : Dev nD) {S : Shape} (M : Memref sig .tc .smem S .i32) (T : Buf (Elt F) (M.view.loc (c : Thread nD τ)))
    (hT : ∀ (r : LoadRect S) (x : r.shape.Idx), (View.readAt (Elt F) M.view r T x : BitVec 32).toNat < 16)
    (v3 : Elt F .i32) (h : ∃ r x, v3 = View.readAt (Elt F) M.view r T x) : k0_chk3 v3 := by
  obtain ⟨r, x, rfl⟩ := h; exact chk3_of _ (hT r x)
theorem chk1E (c : Dev nD) {S : Shape} (M : Memref sig .tc .smem S .i32) (T : Buf (Elt F) (M.view.loc (c : Thread nD τ)))
    (hT : ∀ (r : LoadRect S) (x : r.shape.Idx), (View.readAt (Elt F) M.view r T x : BitVec 32).toNat < 16)
    (v3 v5 : Elt F .i32) (h : ∃ r x, v5 = View.readAt (Elt F) M.view r T x) : k0_chk1 v3 v5 := by
  obtain ⟨r, x, rfl⟩ := h; exact chk1_of _ _ (hT r x)
theorem chk2E (c : Dev nD) {S : Shape} (M : Memref sig .tc .smem S .i32) (T : Buf (Elt F) (M.view.loc (c : Thread nD τ)))
    (hT : ∀ (r : LoadRect S) (x : r.shape.Idx), (View.readAt (Elt F) M.view r T x : BitVec 32).toNat < 16)
    (v3 v5 : Elt F .i32) (v1030 : BitVec 32) (h : ∃ r x, v5 = View.readAt (Elt F) M.view r T x) : k0_chk2 v3 v5 v1030 := by
  obtain ⟨r, x, rfl⟩ := h; exact chk2_of _ _ _ (hT r x)

theorem kernelRun (c : Dev nD) (i : grid0.Coords) (arg2 : Memref sig .tc .smem S1088 .i32) (harg2 : arg2.IsWhole) (arg3 : Memref sig .tc .smem S1088 .i32) (harg3 : arg3.IsWhole) (arg4 : Memref sig .tc .smem S1088 .i32) (harg4 : arg4.IsWhole) (arg5 : Memref sig .tc .vmem S1x16384x64 .bf16) (harg5 : arg5.IsWhole) (arg6 : Memref sig .tc .vmem S1x1x64x2048 .bf16) (harg6 : arg6.IsWhole) (arg7 : Memref sig .tc .vmem S1x1x1x2048 .f32) (harg7 : arg7.IsWhole) (arg8 : Memref sig .tc .vmem S1x1x4x256x256 .bf16) (harg8 : arg8.IsWhole) (arg9 : Memref sig .tc .vmem S1x1024x1024 .bf16) (harg9 : arg9.IsWhole) (arg10 : Memref sig .tc .vmem S1x1152x1024 .bf16) (harg10 : arg10.IsWhole) (arg11 : Memref sig .tc .vmem S1x128x1024 .bf16) (harg11 : arg11.IsWhole) (arg12 : Memref sig .tc .vmem S16384x128 .i32) (harg12 : arg12.IsWhole) (arg13 : Memref sig .tc .vmem S256x128 .i32) (harg13 : arg13.IsWhole) (arg14 : Memref sig .tc .vmem S8x128 .i32) (harg14 : arg14.IsWhole) (arg15 : Memref sig .tc .vmem S8x256 .f32) (harg15 : arg15.IsWhole) (arg16 : Memref sig .tc .vmem S8x144x128 .f32) (harg16 : arg16.IsWhole) (arg17 : Memref sig .tc .vmem S1024x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .bf16) (harg21 : arg21.IsWhole) (arg22 : Memref sig .tc .vmem S1024x256 .bf16) (harg22 : arg22.IsWhole) (arg23 : Memref sig .tc .vmem S1024x256 .bf16) (harg23 : arg23.IsWhole) (arg24 : Memref sig .tc .vmem S1024x256 .bf16) (harg24 : arg24.IsWhole)
    (T2 : Buf (Elt F) (arg2.view.loc (c : Thread nD τ))) (T3 : Buf (Elt F) (arg3.view.loc (c : Thread nD τ)))
    (T4 : Buf (Elt F) (arg4.view.loc (c : Thread nD τ)))
    (hT3 : ∀ (r : LoadRect S1088) (x : r.shape.Idx), (View.readAt (Elt F) arg3.view r T3 x : BitVec 32).toNat < 16)
    (hT4 : ∀ (r : LoadRect S1088) (x : r.shape.Idx), (View.readAt (Elt F) arg4.view r T4 x : BitVec 32).toNat < 16)
    (K : PUnit → sProp 𝕄) :
    iprop((∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (∃ d, owns (c : Thread nD τ) arg11 fullShare d) ∗ (∃ d, owns (c : Thread nD τ) arg12 fullShare d)
        ∗ (∃ d, owns (c : Thread nD τ) arg13 fullShare d) ∗ (∃ d, owns (c : Thread nD τ) arg14 fullShare d)
        ∗ (∃ d, owns (c : Thread nD τ) arg15 fullShare d) ∗ (∃ d, owns (c : Thread nD τ) arg16 fullShare d)
        ∗ (∃ d, owns (c : Thread nD τ) arg17 fullShare d) ∗ (∃ d, owns (c : Thread nD τ) arg18 fullShare d)
        ∗ (∃ d, owns (c : Thread nD τ) arg19 fullShare d) ∗ (∃ d, owns (c : Thread nD τ) arg20 fullShare d)
        ∗ (∃ d, owns (c : Thread nD τ) arg21 fullShare d) ∗ (∃ d, owns (c : Thread nD τ) arg22 fullShare d)
        ∗ (∃ d, owns (c : Thread nD τ) arg23 fullShare d) ∗ (∃ d, owns (c : Thread nD τ) arg24 fullShare d)
        ∗ tbPt c arg2 T2 ∗ tbPt c arg3 T3 ∗ tbPt c arg4 T4
        ∗ (iprop((∃ d, owns (c : Thread nD τ) arg5 fullShare d) ∗ (∃ d, owns (c : Thread nD τ) arg6 fullShare d)
              ∗ (∃ d, owns (c : Thread nD τ) arg7 fullShare d) ∗ (∃ d, owns (c : Thread nD τ) arg8 fullShare d)
              ∗ (∃ d, owns (c : Thread nD τ) arg9 fullShare d) ∗ (∃ d, owns (c : Thread nD τ) arg10 fullShare d)
              ∗ (∃ d, owns (c : Thread nD τ) arg11 fullShare d) ∗ (∃ d, owns (c : Thread nD τ) arg12 fullShare d)
              ∗ (∃ d, owns (c : Thread nD τ) arg13 fullShare d) ∗ (∃ d, owns (c : Thread nD τ) arg14 fullShare d)
              ∗ (∃ d, owns (c : Thread nD τ) arg15 fullShare d) ∗ (∃ d, owns (c : Thread nD τ) arg16 fullShare d)
              ∗ (∃ d, owns (c : Thread nD τ) arg17 fullShare d) ∗ (∃ d, owns (c : Thread nD τ) arg18 fullShare d)
              ∗ (∃ d, owns (c : Thread nD τ) arg19 fullShare d) ∗ (∃ d, owns (c : Thread nD τ) arg20 fullShare d)
              ∗ (∃ d, owns (c : Thread nD τ) arg21 fullShare d) ∗ (∃ d, owns (c : Thread nD τ) arg22 fullShare d)
              ∗ (∃ d, owns (c : Thread nD τ) arg23 fullShare d) ∗ (∃ d, owns (c : Thread nD τ) arg24 fullShare d)
              ∗ tbPt c arg2 T2 ∗ tbPt c arg3 T3 ∗ tbPt c arg4 T4 ) -∗ K ⟨⟩))
      ⊢ wp frame (wpE (defs₀ (F := F)) Variants.none c none) Set.univ
          (cc0__dsa_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K := by
  simp only [cc0__dsa_body_eq_skeleton]; unfold cc0__dsa_body_skel
  unfold owns
  iintro ⟨⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, HT2, HT3, HT4, Hk⟩
  sl_exec_parts (disch := first
    | (with_reducible refine chk3E (F := F) c _ _ hT3 _ ?_; exact ⟨_, _, rfl⟩)
    | (with_reducible refine chk1E (F := F) c _ _ hT4 _ _ ?_; exact ⟨_, _, rfl⟩)
    | (with_reducible refine chk2E (F := F) c _ _ hT4 _ _ _ ?_; exact ⟨_, _, rfl⟩))
  rcases Classical.em (k0_cond1 (kernelRun.sl.r_1 c i arg3 T3) = 1#1) with hc1 | hc1
  · sl_exec_parts (disch := first
      | sl_exact hc1
      | (with_reducible refine chk3E (F := F) c _ _ hT3 _ ?_; exact ⟨_, _, rfl⟩)
      | (with_reducible refine chk1E (F := F) c _ _ hT4 _ _ ?_; exact ⟨_, _, rfl⟩)
      | (with_reducible refine chk2E (F := F) c _ _ hT4 _ _ _ ?_; exact ⟨_, _, rfl⟩))
    sl_step
    iapply Hk
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [HT2]; · iexact HT2
    isplitl [HT3]; · iexact HT3
    iexact HT4
  · sl_exec_parts (disch := first
      | sl_exact hc1
      | (with_reducible refine chk3E (F := F) c _ _ hT3 _ ?_; exact ⟨_, _, rfl⟩)
      | (with_reducible refine chk1E (F := F) c _ _ hT4 _ _ ?_; exact ⟨_, _, rfl⟩)
      | (with_reducible refine chk2E (F := F) c _ _ hT4 _ _ _ ?_; exact ⟨_, _, rfl⟩))
    sl_step
    iapply Hk
    isplitl [H5]
    · iexists _, _; isplitr; swap; · iexact H5
      ipureintro; rfl
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [H14]
    · iexists _, _; isplitr; swap; · iexact H14
      ipureintro; rfl
    isplitl [H15]
    · iexists _, _; isplitr; swap; · iexact H15
      ipureintro; rfl
    isplitl [H16]
    · iexists _, _; isplitr; swap; · iexact H16
      ipureintro; rfl
    isplitl [H17]
    · iexists _, _; isplitr; swap; · iexact H17
      ipureintro; rfl
    isplitl [H18]
    · iexists _, _; isplitr; swap; · iexact H18
      ipureintro; rfl
    isplitl [H19]
    · iexists _, _; isplitr; swap; · iexact H19
      ipureintro; rfl
    isplitl [H20]
    · iexists _, _; isplitr; swap; · iexact H20
      ipureintro; rfl
    isplitl [H21]
    · iexists _, _; isplitr; swap; · iexact H21
      ipureintro; rfl
    isplitl [H22]
    · iexists _, _; isplitr; swap; · iexact H22
      ipureintro; rfl
    isplitl [H23]
    · iexists _, _; isplitr; swap; · iexact H23
      ipureintro; rfl
    isplitl [H24]
    · iexists _, _; isplitr; swap; · iexact H24
      ipureintro; rfl
    isplitl [HT2]; · iexact HT2
    isplitl [HT3]; · iexact HT3
    iexact HT4

end Cert.Kernel.Dsa

end
-- ==== Proof.DsaFrame.lean ====
/- The attention kernel's frame: the body's obligation at every grid point (what it leaves in its output is not
   named), the launch over the prefetched tables, and the arguments read back at the end. -/
module

public import proofs.«01_k».proof.Defs
public import proofs.«01_k».proof.Proof.Gen.Kernel.Launch
public import proofs.«01_k».proof.Proof.DsaTables
public import proofs.«01_k».proof.Proof.DsaBody
public import Idealize.ShloMosaic.Lib.Pipeline.Frame
public import Idealize.ShloMosaic.Lib.Tactic
public import Idealize.ShloMosaic.Init

@[expose] public section

noncomputable section

namespace Cert.Kernel.Dsa

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-- The tables' contents, admissible. -/
abbrev adm : (p : Fin 1) → (pcfgs (F := F) p).Adm := fun | 0 => ⟨tabs, tabs_ok⟩ | ⟨_ + 1, h⟩ => absurd h (Nat.not_lt.2 (Nat.le_add_left _ _))

abbrev cfgD : Pipeline.Cfg sig Λ₀ := Pipeline.pin (pcfgs (F := F)) adm 0

/-- What every buffer holds when the region is entered: the tables written, all else as at the launch. -/
abbrev V (c : Dev nD) (b : Ref sig .tc) : Buf (Elt F) ((c : Thread nD τ).loc b) :=
  StableHlo.after (hostOps0 (F := F)) (fun b => m (c, b)) b

/-- The proof data on core `c`: nothing is said of what the body leaves in a window. -/
def rdat (c : Dev nD) : Pipeline.RDat τ (Elt F) Unit ℕ (UR sig nD τ) ℕ (cfgD (F := F)) c where
  A w := V m c (Pipeline.arrRef spec0 w)
  after _ _ _ _ := True
  Φ _ := iprop(Pipeline.ΦA spec0 c ∗ Pipeline.ΦT pre0 tabs c)
  q _ := fullShare
  owed _ := 0

/-- The tables the body may read, one by one. -/
theorem PhiT_eq (c : Dev nD) :
    (Pipeline.ΦT pre0 tabs c : sProp 𝕄)
      = iprop(tbPt c (Memref.whole main_c) (tabs 0) ∗ tbPt c (Memref.whole main_c_0) (tabs 1) ∗ tbPt c (Memref.whole main_c_1) (tabs 2)) := by
  unfold Pipeline.ΦT Pipeline.prefHeld
  rw [show (Finset.univ : Finset (Fin 3)) = insert (0) (insert 1 {2}) from by decide, bigSep_insert (by decide), bigSep_insert (by decide), bigSep_singleton]
  rfl

/-- The scratch buffers and the generator register. -/
theorem PhiA_eq (c : Dev nD) :
    (Pipeline.ΦA spec0 c : sProp 𝕄)
      = iprop(iprop((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)
          ∗ (∃ d, owns (c : Thread nD τ) (Memref.whole cc0_scratch5) fullShare d)
          ∗ (∃ d, owns (c : Thread nD τ) (Memref.whole cc0_scratch6) fullShare d)
          ∗ (∃ d, owns (c : Thread nD τ) (Memref.whole cc0_scratch7) fullShare d)
          ∗ (∃ d, owns (c : Thread nD τ) (Memref.whole cc0_scratch8) fullShare d)
          ∗ (∃ d, owns (c : Thread nD τ) (Memref.whole cc0_scratch9) fullShare d)
          ∗ (∃ d, owns (c : Thread nD τ) (Memref.whole cc0_scratch10) fullShare d)
          ∗ (∃ d, owns (c : Thread nD τ) (Memref.whole cc0_scratch11) fullShare d)
          ∗ (∃ d, owns (c : Thread nD τ) (Memref.whole cc0_scratch12) fullShare d)) ∗ (∃ r, prngReg c r)) := by
  unfold Pipeline.ΦA
  rw [scopedRest0_eq]; simp only [owns_whole]

theorem small1 (c : Dev nD) (r : LoadRect S1088) (x : r.shape.Idx) :
    (View.readAt (Elt F) (Memref.whole main_c_0).view r (tabs 1) x : BitVec 32).toNat < 16 := lit1_lt _
theorem small2 (c : Dev nD) (r : LoadRect S1088) (x : r.shape.Idx) :
    (View.readAt (Elt F) (Memref.whole main_c_1).view r (tabs 2) x : BitVec 32).toNat < 16 := lit2_lt _

/-- The body as the region calls it at the point. -/
abbrev bodyAt (t : Fin (cfgD (F := F)).N) : Prog (TpuEff nD τ sig (Elt F) Λ₀ .tc) PUnit :=
  defs₀ (F := F) .tc (cfgD (F := F)).body ((cfgD (F := F)).bodyArgs t ((cfgD (F := F)).slots t))

theorem body_obligation (c : Dev nD) : (rdat m c).BodyObligation (defs₀ (F := F)) Variants.none () Set.univ := fun t Y _ => by
  rw [bigSep_W0, bigSep_W0]
  rw [show (rdat m c).Φ t.castSucc = iprop(Pipeline.ΦA spec0 c ∗ Pipeline.ΦT pre0 tabs c) from rfl,
    show (rdat m c).Φ t.succ = iprop(Pipeline.ΦA spec0 c ∗ Pipeline.ΦT pre0 tabs c) from rfl,
    show (rdat m c).owesAt () t.succ = (rdat m c).owesAt () t.castSucc from rfl, PhiT_eq, PhiA_eq]
  unfold defs₀
  rw [Defs.onTc_tc]
  iintro ⟨⟨⟨⟨S0, S1, S2, S3, S4, S5, S6, S7, S8, S9, S10, S11, S12⟩, Hg⟩, HT2, HT3, HT4⟩, HO, W0, W1, W2, W3, W4, W5, W6⟩
  iapply (kernelRun c (grid0.coords t) (Memref.whole main_c) (Memref.isWhole_whole _) (Memref.whole main_c_0) (Memref.isWhole_whole _) (Memref.whole main_c_1) (Memref.isWhole_whole _)
    (spec0_0.stage ((cfgD (F := F)).slots t 0)) (hstage0_0 (((cfgD (F := F)).slots t 0).cast nbuf0_0))
    (spec0_1.stage ((cfgD (F := F)).slots t 1)) (hstage0_1 (((cfgD (F := F)).slots t 1).cast nbuf0_1))
    (spec0_2.stage ((cfgD (F := F)).slots t 2)) (hstage0_2 (((cfgD (F := F)).slots t 2).cast nbuf0_2))
    (spec0_3.stage ((cfgD (F := F)).slots t 3)) (hstage0_3 (((cfgD (F := F)).slots t 3).cast nbuf0_3))
    (spec0_4.stage ((cfgD (F := F)).slots t 4)) (hstage0_4 (((cfgD (F := F)).slots t 4).cast nbuf0_4))
    (spec0_5.stage ((cfgD (F := F)).slots t 5)) (hstage0_5 (((cfgD (F := F)).slots t 5).cast nbuf0_5))
    (spec0_6.stage ((cfgD (F := F)).slots t 6)) (hstage0_6 (((cfgD (F := F)).slots t 6).cast nbuf0_6))
    (Memref.whole cc0_scratch0) (Memref.isWhole_whole _)
    (Memref.whole cc0_scratch1) (Memref.isWhole_whole _)
    (Memref.whole cc0_scratch2) (Memref.isWhole_whole _)
    (Memref.whole cc0_scratch3) (Memref.isWhole_whole _)
    (Memref.whole cc0_scratch4) (Memref.isWhole_whole _)
    (Memref.whole cc0_scratch5) (Memref.isWhole_whole _)
    (Memref.whole cc0_scratch6) (Memref.isWhole_whole _)
    (Memref.whole cc0_scratch7) (Memref.isWhole_whole _)
    (Memref.whole cc0_scratch8) (Memref.isWhole_whole _)
    (Memref.whole cc0_scratch9) (Memref.isWhole_whole _)
    (Memref.whole cc0_scratch10) (Memref.isWhole_whole _)
    (Memref.whole cc0_scratch11) (Memref.isWhole_whole _)
    (Memref.whole cc0_scratch12) (Memref.isWhole_whole _)
    (tabs 0) (tabs 1) (tabs 2) (small1 c) (small2 c) _)
  isplitl [W0]; · iexists _; iexact W0
  isplitl [W1]; · iexists _; iexact W1
  isplitl [W2]; · iexists _; iexact W2
  isplitl [W3]; · iexists _; iexact W3
  isplitl [W4]; · iexists _; iexact W4
  isplitl [W5]; · iexists _; iexact W5
  isplitl [W6]; · iexists _; iexact W6
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [HT2]; · iexact HT2
  isplitl [HT3]; · iexact HT3
  isplitl [HT4]; · iexact HT4
  iintro ⟨W0, W1, W2, W3, W4, W5, W6, S0, S1, S2, S3, S4, S5, S6, S7, S8, S9, S10, S11, S12, HT2, HT3, HT4⟩
  isplitl [S0 S1 S2 S3 S4 S5 S6 S7 S8 S9 S10 S11 S12 Hg HT2 HT3 HT4]
  · isplitl [S0 S1 S2 S3 S4 S5 S6 S7 S8 S9 S10 S11 S12 Hg]
    · isplitl [S0 S1 S2 S3 S4 S5 S6 S7 S8 S9 S10 S11 S12]
      · isplitl [S0]; · iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        isplitl [S11]; · iexact S11
        iexact S12
      · iexact Hg
    · isplitl [HT2]; · iexact HT2
      isplitl [HT3]; · iexact HT3
      iexact HT4
  isplitl [HO]; · iexact HO
  isplitl [W0]
  · icases W0 with ⟨%d0, W0⟩
    iexists _; isplitr; swap; · iexact W0
    ipureintro; trivial
  isplitl [W1]
  · icases W1 with ⟨%d1, W1⟩
    iexists _; isplitr; swap; · iexact W1
    ipureintro; trivial
  isplitl [W2]
  · icases W2 with ⟨%d2, W2⟩
    iexists _; isplitr; swap; · iexact W2
    ipureintro; trivial
  isplitl [W3]
  · icases W3 with ⟨%d3, W3⟩
    iexists _; isplitr; swap; · iexact W3
    ipureintro; trivial
  isplitl [W4]
  · icases W4 with ⟨%d4, W4⟩
    iexists _; isplitr; swap; · iexact W4
    ipureintro; trivial
  isplitl [W5]
  · icases W5 with ⟨%d5, W5⟩
    iexists _; isplitr; swap; · iexact W5
    ipureintro; trivial
  · icases W6 with ⟨%d6, W6⟩
    iexists _; isplitr; swap; · iexact W6
    ipureintro; trivial

set_option backward.isDefEq.respectTransparency.types false in
/-- Every run from zero counters ends, each argument as the region found it and every counter at zero again. -/
theorem run_main :
    θ_run defs (onTc (τ := τ) (main (F := F))) (s₀ m ρ)
      (fun r => Pipeline.RDat.FramePost (cfgD (F := F)) (rdat m) (V m) r ∧ r.2.sem = fun _ => 0) :=
  Pipeline.RDat.θ_run_frameP (pcfgs (F := F)) adm (0 : Fin 1) launch0 defs₀ Variants.none (rdat m) m ρ main
    (hbody := body_obligation m) (hshare := fun c => (rdat m c).share_full fun _ => rfl)
    (howed := fun _ _ => rfl) (V := V m)
    (hmain := Pipeline.hmainP_prefix (pcfgs (F := F)) 0 defs₀ Variants.none m main hostOps0 hostOps0_sub (by refine ⟨rfl, rfl, rfl⟩) (fun c => main_chain c))
    (hA := fun _ _ => rfl) (hpf := fun c k => by fin_cases k <;> rfl) (hΦ := fun _ _ => rfl)
    (Q' := _) (hQ' := fun _ h => h)

variable {m ρ}

theorem final_in {r : PUnit × MemSt nD τ sig (Elt F)} (h : Pipeline.RDat.FramePost (cfgD (F := F)) (rdat m) (V m) r) (c : Dev nD)
    (w : Fin 7) (hw : ((cfgD (F := F)).win w).isOut = false) :
    r.2.mem ((spec0 w).arr.view.loc (c : Thread nD τ)) = V m c (Pipeline.arrRef spec0 w) := by
  have := (h c).1 w
  rw [(rdat m c).ArrAt_in w hw] at this
  exact this

theorem final_args {r : PUnit × MemSt nD τ sig (Elt F)} (h : Pipeline.RDat.FramePost (cfgD (F := F)) (rdat m) (V m) r) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  ⟨(final_in h c 3 rfl).trans rfl, (final_in h c 4 rfl).trans rfl, (final_in h c 5 rfl).trans rfl,
    (final_in h c 1 rfl).trans rfl, (final_in h c 0 rfl).trans rfl, (final_in h c 2 rfl).trans rfl⟩

end Cert.Kernel.Dsa

end
-- ==== Proof.Rows.lean ====
/- The maths of the large dense calls, as sums over the extended reals. -/
module

public import Idealize.ShloMosaic.Lib.Pointwise
public import Idealize.ShloMosaic.Lib.Pipeline.ValueKit
public import Idealize.ShloMosaic.PureOps.Ideal

@[expose] public section

noncomputable section

namespace Cert.Rows

open Idealize.ShloMosaic

/-- The reciprocal root of a row's mean square. -/
def inv (x : (⟨2, ![32768, 2048]⟩ : Shape).Idx → EReal) (i : Fin 32768) : EReal :=
  Ideal.rsqrt (Ideal.div (∑ k : Fin 2048, x (ix2 i k) * x (ix2 i k)) (Ideal.ofBits FTy.f32 0x45000000#32) + Ideal.ofBits FTy.f32 0x358637BD#32)

/-- A row, normalised and scaled. -/
def norm (x : (⟨2, ![32768, 2048]⟩ : Shape).Idx → EReal) (g : (⟨1, ![2048]⟩ : Shape).Idx → EReal) (i : Fin 32768) (k : Fin 2048) : EReal :=
  x (ix2 i k) * inv x i * g (ix1 k)

/-- The normalised rows times a matrix of `n` columns. -/
def up {n : ℕ} (x : (⟨2, ![32768, 2048]⟩ : Shape).Idx → EReal) (g : (⟨1, ![2048]⟩ : Shape).Idx → EReal)
    (w : (⟨2, ![2048, n]⟩ : Shape).Idx → EReal) (i : Fin 32768) (j : Fin n) : EReal :=
  ∑ k : Fin 2048, norm x g i k * w (ix2 k j)

/-- The logistic function. -/
def sigmoid (a : EReal) : EReal :=
  Ideal.div 1 (1 + Ideal.exp (-a))

/-- One half, as the programs write it. -/
def half : EReal := Ideal.ofBits FTy.f32 0x3F000000#32

theorem half_eq : half = ((1 / 2 : ℝ) : EReal) := by
  unfold half
  simp [Ideal.ofBits, Ideal.ieee, -EReal.coe_mul]
  norm_num

/-- A half of a sum is the sum of the halves. -/
theorem half_mul_sum {ι : Type*} (s : Finset ι) (f : ι → EReal) : half * ∑ i ∈ s, f i = ∑ i ∈ s, half * f i := by
  classical
  have hn : (0 : EReal) ≤ half := by rw [half_eq]; exact_mod_cast (by norm_num : (0 : ℝ) ≤ 1 / 2)
  have ht : half ≠ ⊤ := by rw [half_eq]; exact EReal.coe_ne_top _
  induction s using Finset.induction_on with
  | empty => simp
  | insert a s ha ih =>
    rw [Finset.sum_insert ha, Finset.sum_insert ha, EReal.left_distrib_of_nonneg_of_ne_top hn ht, ih]

/-- An array that starts each run of `K + 1` points at `x` plus the point's part, and adds the point's part at the
    others, holds at the last point of a run what the first put there plus the run's parts. -/
theorem run_sum {N : ℕ} {ι M : Type*} [AddCommMonoid M] (f : (n : ℕ) → n < N → ι → M) (K : ℕ) (x part : Fin N → ι → M)
    (h0 : ∀ t : Fin N, t.val % (K + 1) = 0 → ∀ i, f t.val t.isLt i = x t i + part t i)
    (hs : ∀ t : Fin N, ¬t.val % (K + 1) = 0 → ∀ i,
      f t.val t.isLt i = f (t.val - 1) (Nat.lt_of_le_of_lt (Nat.sub_le _ _) t.isLt) i + part t i)
    (t : Fin N) (hr : t.val % (K + 1) = K + 1 - 1) (i : ι) :
    f t.val t.isLt i = x ⟨(K + 1) * (t.val / (K + 1)), Pipeline.run_point_lt_of_flush t hr 0⟩ i
      + ∑ s : Fin (K + 1), part ⟨(K + 1) * (t.val / (K + 1)) + s.val, Pipeline.run_point_lt_of_flush t hr s⟩ i := by
  have e := Pipeline.eq_sum_fin_of_reset_step_apply_of_flush f (K + 1) (fun _ => 0)
    (fun t i => if t.val % (K + 1) = 0 then x t i + part t i else part t i)
    (fun t h i => by rw [if_pos h, zero_add]; exact h0 t h i) (fun t h i => by rw [if_neg h]; exact hs t h i) t hr i
  rw [e, zero_add, Fin.sum_univ_succ, Fin.sum_univ_succ, ← add_assoc]
  congr 1
  · rw [if_pos (by simp)]
    rfl
  · refine Finset.sum_congr rfl fun s _ => ?_
    rw [if_neg]
    simp only [Fin.val_succ, Nat.mul_add_mod]
    rw [Nat.mod_eq_of_lt (by omega)]
    omega

/-- The gated hidden unit `f` of a row: the first half of the columns through `a * sigmoid a`, times the second half. -/
def unit (x : (⟨2, ![32768, 2048]⟩ : Shape).Idx → EReal) (g : (⟨1, ![2048]⟩ : Shape).Idx → EReal)
    (w : (⟨2, ![2048, 11264]⟩ : Shape).Idx → EReal) (i : Fin 32768) (f : Fin 5632) : EReal :=
  up x g w i ⟨f, by omega⟩ * sigmoid (up x g w i ⟨f, by omega⟩) * up x g w i ⟨5632 + f, by omega⟩

/-- The half step: the row plus half of the hidden units times the second matrix. -/
def ffn (x : (⟨2, ![32768, 2048]⟩ : Shape).Idx → EReal) (g : (⟨1, ![2048]⟩ : Shape).Idx → EReal)
    (w : (⟨2, ![2048, 11264]⟩ : Shape).Idx → EReal) (w' : (⟨2, ![5632, 2048]⟩ : Shape).Idx → EReal) (i : Fin 32768) (j : Fin 2048) : EReal :=
  x (ix2 i j) + half * ∑ f : Fin 5632, unit x g w i f * w' (ix2 f j)

/-- The merged unit `n` of a row: each branch through its matrix and its own gate. -/
def merged (p : (⟨2, ![32768, 14848]⟩ : Shape).Idx → EReal) (ya yb yc : (⟨2, ![32768, 1024]⟩ : Shape).Idx → EReal)
    (w : (⟨3, ![3, 1024, 2048]⟩ : Shape).Idx → EReal) (i : Fin 32768) (n : Fin 2048) : EReal :=
  sigmoid (p (ix2 i ⟨n, by omega⟩)) * (∑ l : Fin 1024, ya (ix2 i l) * w (ix3 0 l n))
    + sigmoid (p (ix2 i ⟨2048 + n, by omega⟩)) * (∑ l : Fin 1024, yb (ix2 i l) * w (ix3 1 l n))
    + sigmoid (p (ix2 i ⟨4096 + n, by omega⟩)) * (∑ l : Fin 1024, yc (ix2 i l) * w (ix3 2 l n))

/-- The merge: the row plus the merged units times the output matrix. -/
def merge (x : (⟨2, ![32768, 2048]⟩ : Shape).Idx → EReal) (p : (⟨2, ![32768, 14848]⟩ : Shape).Idx → EReal)
    (ya yb yc : (⟨2, ![32768, 1024]⟩ : Shape).Idx → EReal) (w : (⟨3, ![3, 1024, 2048]⟩ : Shape).Idx → EReal)
    (w' : (⟨2, ![2048, 2048]⟩ : Shape).Idx → EReal) (i : Fin 32768) (j : Fin 2048) : EReal :=
  x (ix2 i j) + ∑ n : Fin 2048, merged p ya yb yc w i n * w' (ix2 n j)

end Cert.Rows

end
-- ==== Proof.FfnValue.lean ====
/- The feed-forward half step: the array after the run. -/
module

public import proofs.«01_k».proof.Proof.Gen.FfnIdeal.Value
public import Idealize.ShloMosaic.Lib.Pipeline.ValueKit
public import Idealize.ShloMosaic.Lib.Claim
public import proofs.«01_k».proof.Proof.Rows

@[expose] public section

set_option maxRecDepth 16384

noncomputable section

namespace Cert.FfnIdeal.Val

open Cert.FfnIdeal Cert.FfnIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at every point. -/
theorem idx : ∀ t : Fin cfg0.N, win0_0.index t = ![t.val / 11, 0] ∧ win0_1.index t = ![0, 0] ∧ win0_2.index t = ![0, t.val % 11]
    ∧ win0_3.index t = ![0, 11 + t.val % 11] ∧ win0_4.index t = ![t.val % 11, 0] ∧ win0_5.index t = ![t.val / 11, 0] :=
  (by decide +kernel : ∀ t : Fin grid0.N, _)

/-- Two points of one block of rows stage the same rows and the same scales. -/
theorem rows (c : Dev nD) (s t : Fin cfg0.N) (h : s.val / 11 = t.val / 11) : iblk m c 0 s = iblk m c 0 t ∧ iblk m c 1 s = iblk m c 1 t := by
  constructor
  · funext x
    blk_ext [iblk, idx s, idx t]
  · funext x
    blk_ext [iblk, idx s, idx t]

/-- The scratch after a point holds the normalised rows of the point's own block of rows. -/
theorem scratch (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 11 = 0
    · rw [outsAt0_A m c ⟨n + 1, h⟩ h0]
      frame_out
    · rw [outsAt0_B m c ⟨n + 1, h⟩ h0]
      show (outsAt0 m c n (Nat.lt_of_succ_lt h)).2 = _
      rw [ih (Nat.lt_of_succ_lt h)]
      have e := rows m c ⟨n, by omega⟩ ⟨n + 1, h⟩ (by simp only; omega)
      rw [e.1, e.2]

/-- A run's first point leaves the rows plus its own part. -/
theorem out_first (c : Dev nD) (t : Fin cfg0.N) (h0 : t.val % 11 = 0) :
    (outsAt0 m c t.val t.isLt).1
      = k0_pay2 (k0_pay1 (iblk m c 0 t) (iblk m c 1 t)) (iblk m c 2 t) (iblk m c 3 t) (iblk m c 0 t) (iblk m c 4 t) := by
  rw [outsAt0_A m c t h0]
  frame_out

/-- Every other point adds its own part. -/
theorem out_next (c : Dev nD) (t : Fin cfg0.N) (h0 : ¬t.val % 11 = 0) :
    (outsAt0 m c t.val t.isLt).1
      = k0_pay2 (k0_pay1 (iblk m c 0 t) (iblk m c 1 t)) (iblk m c 2 t) (iblk m c 3 t)
          (outsAt0 m c (t.val - 1) (Nat.lt_of_le_of_lt (Nat.sub_le _ _) t.isLt)).1 (iblk m c 4 t) := by
  rw [outsAt0_B m c t h0]
  frame_out
  refine (congrArg (fun s => k0_pay2 s (iblk m c 2 t) (iblk m c 3 t) (outsAt0 m c (t.val - 1) (Nat.lt_of_le_of_lt (Nat.sub_le _ _) t.isLt)).1 (iblk m c 4 t))
    ((Memref.isWhole_whole cc0_scratch0).read_unread _)).trans ?_
  rw [scratch m c (t.val - 1) (by omega)]
  have e := rows m c ⟨t.val - 1, by omega⟩ t (by simp only; omega)
  rw [e.1, e.2]

/-- What a point adds, read at an index. -/
def part (xn : FVec Ideal S1024x2048 .bf16) (wa wb : FVec Ideal S2048x512 .bf16) (wd : FVec Ideal S512x2048 .bf16) (j : S1024x2048.Idx) : EReal :=
  ∑ k : Fin 512, (Cert.Rows.half * ((∑ l : Fin 2048, xn (ix2 (j 0) l) * wa (ix2 l k)) * Cert.Rows.sigmoid (∑ l : Fin 2048, xn (ix2 (j 0) l) * wa (ix2 l k)))
    * (∑ l : Fin 2048, xn (ix2 (j 0) l) * wb (ix2 l k))) * wd (ix2 k (j 1))

theorem pay_at (xn : FVec Ideal S1024x2048 .bf16) (wa wb : FVec Ideal S2048x512 .bf16) (acc : FVec Ideal S1024x2048 .f32) (wd : FVec Ideal S512x2048 .bf16) (j : S1024x2048.Idx) :
    k0_pay2 xn wa wb acc wd j = acc j + part xn wa wb wd j := by
  pointwise [k0_pay2, part, Cert.Rows.half, Cert.Rows.sigmoid]
  simp only [zero_sub]

/-- The array after the run. -/
theorem final (c : Dev nD) :
    (dats m 0 c).arrAt 5 cfg0.N = fun j : S32768x2048.Idx => Cert.Rows.ffn (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 5 _ (by decide +kernel) fun t hf y => ?_
  have hr := (flush0_5 t).mp hf
  blk_simp
  rw [after0_5]
  refine (Cert.Rows.run_sum (M := EReal) (fun n h => (outsAt0 m c n h).1) 10 (fun t => iblk m c 0 t)
    (fun t => part (k0_pay1 (iblk m c 0 t) (iblk m c 1 t)) (iblk m c 2 t) (iblk m c 3 t) (iblk m c 4 t))
    (fun t h i => by rw [out_first m c t h, pay_at]) (fun t h i => by rw [out_next m c t h, pay_at]) t hr _).trans ?_
  unfold Cert.Rows.ffn
  rw [Cert.Rows.half_mul_sum]
  have hN : (cfg0.grid.N : ℕ) = 352 := N_0
  have ht : t.val < 352 := lt_of_lt_of_eq t.isLt N_0
  refine Ideal.add_congr ?_ ?_
  · blk_ext [iblk, V, idx t, idx ⟨11 * (t.val / 11), by rw [show cfg0.N = 352 from N_0]; omega⟩]
  unfold part
  refine Fin.sum_mul_add_congr fun s k hl => ?_
  rw [mul_assoc Cert.Rows.half, mul_assoc Cert.Rows.half]
  pointwise [k0_pay1, Cert.Rows.unit, Cert.Rows.up, Cert.Rows.norm, Cert.Rows.inv]
  blk_point [iblk, V, idx t, idx ⟨11 * (t.val / 11) + s.val, by rw [show cfg0.N = 352 from N_0]; omega⟩]

end Cert.FfnIdeal.Val

end
-- ==== Proof.FfnPair.lean ====
/- The feed-forward half step against its plain lines. -/
module

public import proofs.«01_k».proof.Defs
public import proofs.«01_k».proof.Proof.FfnValue
public import proofs.«01_k».proof.Proof.Gen.FfnRefIdeal

@[expose] public section

set_option maxRecDepth 16384

noncomputable section

namespace Cert.Proof

open Idealize.ShloMosaic Idealize.ShloMosaic.TcCoe Idealize.SL.Sem

/-- The kernel and the plain lines leave the same array. -/
theorem ffn_algebraic : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · hlo_run
    rw [Cert.FfnIdeal.Val.final m c]
    funext j
    idx_vars j
    pointwise [Cert.Rows.ffn, Cert.Rows.unit, Cert.Rows.up, Cert.Rows.norm, Cert.Rows.inv, Cert.Rows.sigmoid, Cert.Rows.half]

end Cert.Proof

end
-- ==== Proof.ProjValue.lean ====
/- The combined input projection: the array after the run. -/
module

public import proofs.«01_k».proof.Proof.Gen.ProjIdeal.Value
public import Idealize.ShloMosaic.Lib.Pipeline.ValueKit
public import Idealize.ShloMosaic.Lib.Claim
public import proofs.«01_k».proof.Proof.Rows

@[expose] public section

set_option maxRecDepth 16384

noncomputable section

namespace Cert.ProjIdeal.Val

open Cert.ProjIdeal Cert.ProjIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at every point. -/
theorem idx : ∀ t : Fin cfg0.N, win0_0.index t = ![t.val / 29, 0] ∧ win0_1.index t = ![0, 0] ∧ win0_2.index t = ![0, t.val % 29]
    ∧ win0_3.index t = ![t.val / 29, t.val % 29] :=
  (by decide +kernel : ∀ t : Fin grid0.N, _)

/-- Two points of one block of rows stage the same rows and the same scales. -/
theorem rows (c : Dev nD) (s t : Fin cfg0.N) (h : s.val / 29 = t.val / 29) : iblk m c 0 s = iblk m c 0 t ∧ iblk m c 1 s = iblk m c 1 t := by
  constructor
  · funext x
    blk_ext [iblk, idx s, idx t]
  · funext x
    blk_ext [iblk, idx s, idx t]

/-- The scratch after a point holds the normalised rows of the point's own block of rows. -/
theorem scratch (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 29 = 0
    · rw [outsAt0_A m c ⟨n + 1, h⟩ h0]
      frame_out
    · rw [outsAt0_B m c ⟨n + 1, h⟩ h0]
      show (outsAt0 m c n (Nat.lt_of_succ_lt h)).2 = _
      rw [ih (Nat.lt_of_succ_lt h)]
      have e := rows m c ⟨n, by omega⟩ ⟨n + 1, h⟩ (by simp only; omega)
      rw [e.1, e.2]

/-- The product of a point, over its own blocks. -/
theorem out (c : Dev nD) (t : Fin cfg0.N) :
    (outsAt0 m c t.val t.isLt).1 = k0_pay2 (k0_pay1 (iblk m c 0 t) (iblk m c 1 t)) (iblk m c 2 t) := by
  by_cases h0 : t.val % 29 = 0
  · rw [outsAt0_A m c t h0]
    frame_out
  · rw [outsAt0_B m c t h0]
    frame_out
    refine (congrArg (fun s => k0_pay2 s (iblk m c 2 t)) ((Memref.isWhole_whole cc0_scratch0).read_unread _)).trans ?_
    rw [scratch m c (t.val - 1) (by omega)]
    have e := rows m c ⟨t.val - 1, by omega⟩ t (by simp only; omega)
    rw [e.1, e.2]

/-- The array after the run. -/
theorem final (c : Dev nD) :
    (dats m 0 c).arrAt 3 cfg0.N = fun j : S32768x14848.Idx => Cert.Rows.up (m ((c : Thread nD τ).loc main_arg0)) (m ((c : Thread nD τ).loc main_arg1)) (m ((c : Thread nD τ).loc main_arg2)) (j 0) (j 1) := by
  refine (dats m 0 c).arrAt_eq_of_covers 3 _ (by decide +kernel) fun t hf y => ?_
  blk_simp
  rw [after0_3, out]
  pointwise [k0_pay2, k0_pay1, Cert.Rows.up, Cert.Rows.norm, Cert.Rows.inv]
  blk_point [iblk, V, idx t]

end Cert.ProjIdeal.Val

end
-- ==== Proof.ProjPair.lean ====
/- The combined input projection against its plain lines. -/
module

public import proofs.«01_k».proof.Defs
public import proofs.«01_k».proof.Proof.ProjValue
public import proofs.«01_k».proof.Proof.Gen.ProjRefIdeal

@[expose] public section

set_option maxRecDepth 16384

noncomputable section

namespace Cert.Proof

open Idealize.ShloMosaic Idealize.ShloMosaic.TcCoe Idealize.SL.Sem

/-- The kernel and the plain lines leave the same array. -/
theorem proj_algebraic : Cert.algebraic_ProjIdeal_ProjRefIdeal (hProjIdeal := Cert.ProjIdeal.Gen.facts) (hProjRefIdeal := Cert.ProjRefIdeal.Gen.facts) := by
  pair_intro
  · run_from Cert.ProjIdeal.Gen.run_main m g
  · hlo_run
    rw [Cert.ProjIdeal.Val.final m c]
    funext j
    idx_vars j
    pointwise [Cert.Rows.up, Cert.Rows.norm, Cert.Rows.inv]

end Cert.Proof

end
-- ==== Proof.MergeValue.lean ====
/- The gated merge of the branches: the array after the run. -/
module

public import proofs.«01_k».proof.Proof.Gen.MergeIdeal.Value
public import Idealize.ShloMosaic.Lib.Pipeline.ValueKit
public import Idealize.ShloMosaic.Lib.Claim
public import proofs.«01_k».proof.Proof.Rows

@[expose] public section

set_option maxRecDepth 16384

noncomputable section

namespace Cert.MergeIdeal.Val

open Cert.MergeIdeal Cert.MergeIdeal.Gen
open Idealize.ShloMosaic Idealize.ShloMosaic.TcCoe Idealize.SL.Sem
open Idealize.ShloMosaic.Pipeline (Dat)

variable (m : (ℓ : Loc nD τ sig) → Buf (Elt Ideal) ℓ)

/-- Every window's block index at every point. -/
theorem idx : ∀ t : Fin cfg0.N, win0_0.index t = ![t.val / 4, 0] ∧ win0_1.index t = ![t.val / 4, t.val % 4]
    ∧ win0_2.index t = ![t.val / 4, 4 + t.val % 4] ∧ win0_3.index t = ![t.val / 4, 8 + t.val % 4]
    ∧ win0_4.index t = ![t.val / 4, 0] ∧ win0_5.index t = ![t.val / 4, 0] ∧ win0_6.index t = ![t.val / 4, 0]
    ∧ win0_7.index t = ![0, 0, t.val % 4] ∧ win0_8.index t = ![t.val % 4, 0] ∧ win0_9.index t = ![t.val / 4, 0] :=
  (by decide +kernel : ∀ t : Fin grid0.N, _)

/-- What a point adds, read at an index. -/
def part (g0 g1 g2 : FVec Ideal S512x512 .f32) (ya yb yc : FVec Ideal S512x1024 .bf16) (w : FVec Ideal S3x1024x512 .bf16)
    (w' : FVec Ideal S512x2048 .bf16) (j : S512x2048.Idx) : EReal :=
  ∑ k : Fin 512, (Cert.Rows.sigmoid (g0 (ix2 (j 0) k)) * (∑ l : Fin 1024, ya (ix2 (j 0) l) * w (ix3 0 l k))
      + Cert.Rows.sigmoid (g1 (ix2 (j 0) k)) * (∑ l : Fin 1024, yb (ix2 (j 0) l) * w (ix3 1 l k))
      + Cert.Rows.sigmoid (g2 (ix2 (j 0) k)) * (∑ l : Fin 1024, yc (ix2 (j 0) l) * w (ix3 2 l k))) * w' (ix2 k (j 1))

/-- A run's first point leaves the rows plus its own part. -/
theorem out_first (c : Dev nD) (t : Fin cfg0.N) (h0 : t.val % 4 = 0) (j : S512x2048.Idx) :
    (show EReal from outsAt0 m c t.val t.isLt j) = (show EReal from iblk m c 0 t j) + part (iblk m c 1 t) (iblk m c 2 t) (iblk m c 3 t) (iblk m c 4 t) (iblk m c 5 t) (iblk m c 6 t) (iblk m c 7 t) (iblk m c 8 t) j := by
  rw [outsAt0_A m c t h0]
  frame_out
  pointwise [k0_pay1, k0_pay2, part, Cert.Rows.sigmoid]
  simp only [zero_sub]

/-- Every other point adds its own part. -/
theorem out_next (c : Dev nD) (t : Fin cfg0.N) (h0 : ¬t.val % 4 = 0) (j : S512x2048.Idx) :
    (show EReal from outsAt0 m c t.val t.isLt j)
      = (show EReal from outsAt0 m c (t.val - 1) (Nat.lt_of_le_of_lt (Nat.sub_le _ _) t.isLt) j) + part (iblk m c 1 t) (iblk m c 2 t) (iblk m c 3 t) (iblk m c 4 t) (iblk m c 5 t) (iblk m c 6 t) (iblk m c 7 t) (iblk m c 8 t) j := by
  rw [outsAt0_B m c t h0]
  frame_out
  pointwise [k0_pay1, k0_pay2, part, Cert.Rows.sigmoid]
  simp only [zero_sub]

/-- The array after the run. -/
theorem final (c : Dev nD) :
    (dats m 0 c).arrAt 9 cfg0.N = fun j : S32768x2048.Idx => Cert.Rows.merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) := by
  refine (dats m 0 c).arrAt_eq_of_covers 9 _ (by decide +kernel) fun t hf y => ?_
  have hr := (flush0_9 t).mp hf
  blk_simp
  rw [after0_9]
  refine (Cert.Rows.run_sum (M := EReal) (fun n h => outsAt0 m c n h) 3 (fun t => iblk m c 0 t)
    (fun t => part (iblk m c 1 t) (iblk m c 2 t) (iblk m c 3 t) (iblk m c 4 t) (iblk m c 5 t) (iblk m c 6 t) (iblk m c 7 t) (iblk m c 8 t)) (fun t h i => out_first m c t h i) (fun t h i => out_next m c t h i) t hr _).trans ?_
  unfold Cert.Rows.merge
  have ht : t.val < 256 := lt_of_lt_of_eq t.isLt N_0
  refine Ideal.add_congr ?_ ?_
  · blk_ext [iblk, V, idx t, idx ⟨4 * (t.val / 4), by rw [show cfg0.N = 256 from N_0]; omega⟩]
  unfold part
  refine Fin.sum_mul_add_congr fun s k hl => ?_
  unfold Cert.Rows.merged
  blk_point [iblk, V, idx t, idx ⟨4 * (t.val / 4) + s.val, by rw [show cfg0.N = 256 from N_0]; omega⟩]

end Cert.MergeIdeal.Val

end
-- ==== Proof.MergePair.lean ====
/- The gated merge of the branches against its plain lines. -/
module

public import proofs.«01_k».proof.Defs
public import proofs.«01_k».proof.Proof.MergeValue
public import proofs.«01_k».proof.Proof.Gen.MergeRefIdeal

@[expose] public section

set_option maxRecDepth 16384

noncomputable section

namespace Cert.Proof

open Idealize.ShloMosaic Idealize.ShloMosaic.TcCoe Idealize.SL.Sem

/-- The kernel and the plain lines leave the same array. -/
theorem merge_algebraic : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · hlo_run
    rw [Cert.MergeIdeal.Val.final m c]
    funext j
    idx_vars j
    pointwise [Cert.Rows.merge, Cert.Rows.merged, Cert.Rows.sigmoid]

end Cert.Proof

end
-- ==== Proof.Heads.lean ====
/- The maths of the cross-attention of one row, over the extended reals. -/
module

public import Idealize.ShloMosaic.Lib.Pointwise
public import Idealize.ShloMosaic.Lib.Pipeline.ValueKit
public import Idealize.ShloMosaic.PureOps.Ideal

@[expose] public section

noncomputable section

namespace Cert.Heads

open Idealize.ShloMosaic

/-- The reciprocal root of the mean square of `n` entries, the count as the programs write it. -/
def inv {n : ℕ} (c : BitVec 32) (x : Fin n → EReal) : EReal :=
  Ideal.rsqrt (Ideal.div (∑ k : Fin n, x k * x k) (Ideal.ofBits FTy.f32 c) + Ideal.ofBits FTy.f32 0x358637BD#32)

/-- The 128 entries of one head, those from `o` on. -/
def cut {n : ℕ} (o : ℕ) (ho : o + 128 ≤ n) (x : Fin n → EReal) (d : Fin 128) : EReal :=
  x ⟨o + d, by omega⟩

/-- A head's entry, normalised over the head and scaled. -/
def unitNorm (x g : Fin 128 → EReal) (d : Fin 128) : EReal :=
  x d * inv 0x43000000#32 x * g d

/-- The query's score against memory row `r`. -/
def score (s : EReal) (gq gk : Fin 128 → EReal) (q : Fin 128 → EReal) (k : Fin 256 → Fin 128 → EReal) (r : Fin 256) : EReal :=
  ∑ d : Fin 128, unitNorm q gq d * s * unitNorm (k r) gk d

/-- The score's exponential, the greatest score taken off. -/
def weight (z : Fin 256 → EReal) (r : Fin 256) : EReal :=
  Ideal.exp (z r - Finset.univ.fold max (Ideal.ofBits FTy.f32 0xFF800000#32) z)

/-- One head's output: the weighted mean of the values. -/
def head (s : EReal) (gq gk : Fin 128 → EReal) (q : Fin 128 → EReal) (k v : Fin 256 → Fin 128 → EReal) (d : Fin 128) : EReal :=
  ∑ r : Fin 256, Ideal.div (weight (score s gq gk q k) r) (∑ r' : Fin 256, weight (score s gq gk q k) r') * v r d

/-- The query row: the normalised row times the query matrix. -/
def query (x g : Fin 2048 → EReal) (w : Fin 2048 → Fin 512 → EReal) (n : Fin 512) : EReal :=
  ∑ k : Fin 2048, x k * inv 0x45000000#32 x * g k * w k n

/-- Entry `d` of the head that starts at column `o`. -/
def at_ (s : EReal) (q : Fin 512 → EReal) (kv : Fin 256 → Fin 1024 → EReal) (gq gk : Fin 128 → EReal) (o : ℕ) (ho : o + 128 ≤ 512)
    (d : Fin 128) : EReal :=
  head s gq gk (cut o ho q) (fun r => cut o (by omega) (kv r)) (fun r => cut (512 + o) (by omega) (kv r)) d

/-- The row after the cross-attention. -/
def attend (s : EReal) (x g : Fin 2048 → EReal) (w : Fin 2048 → Fin 512 → EReal) (kv : Fin 256 → Fin 1024 → EReal) (gq gk : Fin 128 → EReal)
    (wo : Fin 512 → Fin 2048 → EReal) (j : Fin 2048) : EReal :=
  x j + ∑ n : Fin 512, at_ s (query x g w) kv gq gk (n.val / 128 * 128) (by omega) ⟨n.val % 128, Nat.mod_lt _ (by omega)⟩ * wo n j

end Cert.Heads

end
-- ==== Proof.XattnValue.lean ====
/- The cross-attention call: the array it leaves. -/
module

public import proofs.«01_k».proof.Proof.Gen.XattnIdeal.Value
public import Idealize.ShloMosaic.Lib.Pipeline.ValueKit
public import Idealize.ShloMosaic.Lib.Claim
public import proofs.«01_k».proof.Proof.Heads

@[expose] public section

set_option maxRecDepth 16384

noncomputable section

namespace Cert.XattnIdeal.Val

open Cert.XattnIdeal Cert.XattnIdeal.Gen Idealize.ShloMosaic Idealize.ShloMosaic.TcCoe
open Idealize.ShloMosaic.Pipeline (Dat)

/-- The scale, as the kernel names it. -/
def scale : EReal := Named.named (F := Ideal) κ "xa_scale" (φ := .f32) 0x3DB504F3#32

/-- The first head. -/
theorem head0 (v0 : FVec Ideal S1x512x2048 .f32) (v12 : FVec Ideal S1x2048 .f32) (v17 : FVec Ideal S2048x512 .bf16)
    (v21 : FVec Ideal S256x1024 .f32) (q k : FVec Ideal S1x128 .f32) (r : Fin 512) (d : Fin 128) :
    (show EReal from k0_pay7 v21 (k0_pay5 v0 v12 v17 q) k0_pay6 k (ix2 r d))
      = Cert.Heads.at_ scale (fun n => (show EReal from k0_pay3 (F := Ideal) v0 v12 v17 (ix2 r n))) (fun m n => v21 (ix2 m n)) (fun e => q (ix2 0 e)) (fun e => k (ix2 0 e)) 0 (by omega) d := by
  pointwise [k0_pay7, k0_pay5, k0_pay6, Cert.Heads.at_, Cert.Heads.head, Cert.Heads.weight, Cert.Heads.score, Cert.Heads.unitNorm, Cert.Heads.cut, Cert.Heads.inv, scale]

/-- The second head. -/
theorem head1 (v19 : FVec Ideal S512x512 .f32) (v21 : FVec Ideal S256x1024 .f32) (q k : FVec Ideal S1x128 .f32) (r : Fin 512) (d : Fin 128) :
    (show EReal from k0_pay10 v21 (k0_pay8 v19) (k0_pay9 q) k (ix2 r d)) = Cert.Heads.at_ scale (fun n => v19 (ix2 r n)) (fun m n => v21 (ix2 m n)) (fun e => q (ix2 0 e)) (fun e => k (ix2 0 e)) 128 (by omega) d := by
  pointwise [k0_pay10, k0_pay9, k0_pay8, Cert.Heads.at_, Cert.Heads.head, Cert.Heads.weight, Cert.Heads.score, Cert.Heads.unitNorm, Cert.Heads.cut, Cert.Heads.inv, scale]

/-- The third head. -/
theorem head2 (v19 : FVec Ideal S512x512 .f32) (v21 : FVec Ideal S256x1024 .f32) (q k : FVec Ideal S1x128 .f32) (r : Fin 512) (d : Fin 128) :
    (show EReal from k0_pay12 v21 (k0_pay11 v19) q k (ix2 r d)) = Cert.Heads.at_ scale (fun n => v19 (ix2 r n)) (fun m n => v21 (ix2 m n)) (fun e => q (ix2 0 e)) (fun e => k (ix2 0 e)) 256 (by omega) d := by
  pointwise [k0_pay12, k0_pay11, Cert.Heads.at_, Cert.Heads.head, Cert.Heads.weight, Cert.Heads.score, Cert.Heads.unitNorm, Cert.Heads.cut, Cert.Heads.inv, scale]

set_option maxHeartbeats 1600000 in
/-- The last payload on four given heads, and its own. -/
theorem last (v1 : FVec Ideal S512x2048 .f32) (v19 : FVec Ideal S512x512 .f32) (v21 : FVec Ideal S256x1024 .f32) (h0 h1 h2 : FVec Ideal S512x128 .f32)
    (q k : FVec Ideal S1x128 .f32) (w : FVec Ideal S512x2048 .bf16) (r : Fin 512) (j : Fin 2048) (f : Fin 512 → EReal)
    (e0 : ∀ d : Fin 128, (show EReal from h0 (ix2 r d)) = f ⟨d, by omega⟩)
    (e1 : ∀ d : Fin 128, (show EReal from h1 (ix2 r d)) = f ⟨128 + d, by omega⟩)
    (e2 : ∀ d : Fin 128, (show EReal from h2 (ix2 r d)) = f ⟨256 + d, by omega⟩)
    (e3 : ∀ d : Fin 128, Cert.Heads.at_ scale (fun n => v19 (ix2 r n)) (fun m n => v21 (ix2 m n)) (fun e => q (ix2 0 e)) (fun e => k (ix2 0 e)) 384 (by omega) d = f ⟨384 + d, by omega⟩) :
    (show EReal from k0_pay15 v1 v21 h0 h1 h2 (k0_pay13 v19) (k0_pay14 v19) q k w (ix2 r j))
      = (show EReal from v1 (ix2 r j)) + ∑ n : Fin 512, f n * (show EReal from w (ix2 n j)) := by
  pointwise [k0_pay15, k0_pay13, k0_pay14]
  refine congrArg (_ + ·) (Finset.sum_congr rfl fun n _ => congrArg (· * _) ?_)
  by_cases c0 : n.val < 128
  · rw [dif_pos c0]
    exact e0 ⟨n, c0⟩
  rw [dif_neg c0]
  by_cases c1 : n.val - 128 < 128
  · rw [dif_pos c1]
    exact (e1 ⟨n - 128, c1⟩).trans (congrArg f (Fin.ext (by simp only; omega)))
  rw [dif_neg c1]
  by_cases c2 : n.val - 128 - 128 < 128
  · rw [dif_pos c2]
    exact (e2 ⟨n - 128 - 128, c2⟩).trans (congrArg f (Fin.ext (by simp only; omega)))
  rw [dif_neg c2]
  refine Eq.trans ?_ ((e3 ⟨n - 128 - 128 - 128, by omega⟩).trans (congrArg f (Fin.ext (by simp only; omega))))
  rfl

/-- Equal columns of equal heads. -/
theorem at_congr {s : EReal} {q : Fin 512 → EReal} {kv : Fin 256 → Fin 1024 → EReal} {gq gk : Fin 128 → EReal} {o o' : ℕ} (h : o = o')
    (ho : o + 128 ≤ 512) (ho' : o' + 128 ≤ 512) {d d' : Fin 128} (hd : d = d') :
    Cert.Heads.at_ s q kv gq gk o ho d = Cert.Heads.at_ s q kv gq gk o' ho' d' := by
  subst h hd
  rfl

/-- The query rows of a block. -/
theorem query_at (v0 : FVec Ideal S1x512x2048 .f32) (v12 : FVec Ideal S1x2048 .f32) (v17 : FVec Ideal S2048x512 .bf16) (r : Fin 512) (n : Fin 512) :
    (show EReal from k0_pay3 (F := Ideal) v0 v12 v17 (ix2 r n))
      = Cert.Heads.query (fun k => v0 (ix3 0 r k)) (fun k => v12 (ix2 0 k)) (fun k n => v17 (ix2 k n)) n := by
  pointwise [k0_pay3, k0_pay2, Cert.Heads.query, Cert.Heads.inv]

/-- The stored block is the result with a unit axis in front. -/
theorem store_at (v : FVec Ideal S512x2048 .f32) (r : Fin 512) (j : Fin 2048) :
    (show EReal from k0_pay1 v (ix3 0 r j)) = (show EReal from v (ix2 r j)) := by
  pointwise [k0_pay1]

/-- What a grid point leaves, read at an index. -/
theorem out (x0 : FVec Ideal S1x512x2048 .f32) (x1 : FVec Ideal S1x2048 .f32) (x2 : FVec Ideal S2048x512 .bf16) (x3 : FVec Ideal S1x256x1024 .f32)
    (x4 x5 : FVec Ideal S1x128 .f32) (x6 : FVec Ideal S512x2048 .bf16) (r : Fin 512) (j : Fin 2048) :
    (show EReal from out0_7 (F := Ideal) x0 x1 x2 x3 x4 x5 x6 (ix3 0 r j))
      = Cert.Heads.attend scale (fun k => x0 (ix3 0 r k)) (fun k => x1 (ix2 0 k)) (fun k n => x2 (ix2 k n)) (fun m n => x3 (ix3 0 m n))
          (fun e => x4 (ix2 0 e)) (fun e => x5 (ix2 0 e)) (fun n j => x6 (ix2 n j)) j := by
  frame_out
  have e17 : ∀ m n, (show EReal from k0_pay17 (F := Ideal) x0 x1 x2 x3 x4 x5 x6 (ix2 m n)) = x3 (ix3 0 m n) := fun m n => by
    pointwise [k0_pay17, k0_pay4]
  have e16 : ∀ n, (show EReal from k0_pay16 (F := Ideal) x0 x1 x2 x3 x4 x5 x6 (ix2 r n))
      = Cert.Heads.query (fun k => x0 (ix3 0 r k)) (fun k => x1 (ix2 0 k)) (fun k n => x2 (ix2 k n)) n := fun n => by
    pointwise [k0_pay16, k0_pay3, k0_pay2, Cert.Heads.query, Cert.Heads.inv]
  refine (store_at _ r j).trans ?_
  refine (last _ _ _ _ _ _ _ _ _ r j (fun n => Cert.Heads.at_ scale (Cert.Heads.query (fun k => x0 (ix3 0 r k)) (fun k => x1 (ix2 0 k)) (fun k n => x2 (ix2 k n)))
    (fun m n => x3 (ix3 0 m n)) (fun e => x4 (ix2 0 e)) (fun e => x5 (ix2 0 e)) (n.val / 128 * 128) (by omega) ⟨n.val % 128, Nat.mod_lt _ (by omega)⟩)
    (fun d => (head0 _ _ _ _ _ _ r d).trans ?_) (fun d => (head1 _ _ _ _ r d).trans ?_) (fun d => (head2 _ _ _ _ r d).trans ?_) (fun d => ?_)).trans ?_
  · simp only [query_at, e17]
    exact at_congr (by (try simp only); omega) _ _ (Fin.ext (by (try simp only); omega))
  · simp only [e16, e17]
    exact at_congr (by (try simp only); omega) _ _ (Fin.ext (by (try simp only); omega))
  · simp only [e16, e17]
    exact at_congr (by (try simp only); omega) _ _ (Fin.ext (by (try simp only); omega))
  · simp only [e16, e17]
    exact at_congr (by (try simp only); omega) _ _ (Fin.ext (by (try simp only); omega))
  · unfold Cert.Heads.attend
    refine congrArg (· + _) ?_
    pointwise [k0_pay2]

variable (m : (ℓ : Loc nD τ sig) → Buf (Elt Ideal) ℓ)

/-- Every window's block index at every point. -/
theorem idx : ∀ t : Fin cfg0.N, win0_0.index t = ![t.val / 32, t.val % 32, 0] ∧ win0_1.index t = ![0, 0]
    ∧ win0_2.index t = ![0, 0] ∧ win0_3.index t = ![t.val / 32, 0, 0]
    ∧ win0_4.index t = ![0, 0] ∧ win0_5.index t = ![0, 0] ∧ win0_6.index t = ![0, 0]
    ∧ win0_7.index t = ![t.val / 32, t.val % 32, 0] :=
  (by decide +kernel : ∀ t : Fin grid0.N, _)

/-- The array after the run. -/
theorem final (c : Dev nD) :
    (dats m 0 c).arrAt 7 cfg0.N = fun j : S2x16384x2048.Idx =>
      Cert.Heads.attend scale (fun k => m ((c : Thread nD τ).loc main_arg0) (ix3 (j 0) (j 1) k)) (fun k => m ((c : Thread nD τ).loc main_arg1) (ix1 k))
        (fun k n => m ((c : Thread nD τ).loc main_arg2) (ix2 k n)) (fun r n => m ((c : Thread nD τ).loc main_arg3) (ix3 (j 0) r n))
        (fun e => m ((c : Thread nD τ).loc main_arg4) (ix1 e)) (fun e => m ((c : Thread nD τ).loc main_arg5) (ix1 e))
        (fun n j => m ((c : Thread nD τ).loc main_arg6) (ix2 n j)) (j 2) := by
  refine (dats m 0 c).arrAt_eq_of_covers 7 _ (by decide +kernel) fun t hf y => ?_
  blk_simp
  rw [after0_7]
  refine Eq.trans (congrArg (out0_7 (F := Ideal) _ _ _ _ _ _ _) (?_ : (y : S1x512x2048.Idx) = ix3 0 (y 1) (y 2))) ?_
  · funext a
    fin_cases a
    · exact Subsingleton.elim (α := Fin 1) _ _
    · rfl
    · rfl
  refine (out _ _ _ _ _ _ _ (y 1) (y 2)).trans ?_
  have ht : t.val < 64 := lt_of_lt_of_eq t.isLt N_0
  unfold Cert.Heads.attend
  refine Ideal.add_congr ?_ (Finset.sum_congr rfl fun n _ => congrArg₂ (· * ·) ?_ ?_)
  · blk_ext [iblk, V, idx t]
  · congr 2 <;> (try funext k) <;> (try funext n) <;> blk_point [iblk, V, idx t]
  · blk_point [iblk, V, idx t]

end Cert.XattnIdeal.Val

end
-- ==== Proof.XattnPair.lean ====
/- The cross-attention call against its plain lines. -/
module

public import proofs.«01_k».proof.Defs
public import proofs.«01_k».proof.Proof.XattnValue
public import proofs.«01_k».proof.Proof.Gen.XattnRefIdeal

@[expose] public section

set_option maxRecDepth 16384

noncomputable section

namespace Cert.Proof

open Idealize.ShloMosaic Idealize.ShloMosaic.TcCoe Idealize.SL.Sem

/-- The count 128, read as a real. -/
theorem count_128 : Ideal.ofBits .f32 0x43000000#32 = ((128 : ℝ) : EReal) := by
  simp [Ideal.ofBits, Ideal.ieee, -EReal.coe_mul]
  norm_num

/-- The quotient by the root of 128 is the product with the scale that the kernel names. -/
theorem div_root (x : EReal) : Ideal.div x (Ideal.sqrt (Ideal.ofBits .f32 0x43000000#32)) = x * Cert.XattnIdeal.Val.scale := by
  have e : Cert.XattnIdeal.Val.scale = (((Real.sqrt 128)⁻¹ : ℝ) : EReal) := IdealRules.named_const.ideal_named_scalar _ _ _ _ rfl
  rw [e, count_128, Ideal.sqrt_coe, if_neg (by norm_num : ¬(128 : ℝ) < 0),
    Ideal.div_coe (show Real.sqrt 128 ≠ 0 from (Real.sqrt_pos.mpr (by norm_num)).ne'), one_div]

/-- The scale is the inverse root of the head's width. -/
theorem xattn_preserves : Cert.preserves_Xattn_XattnIdeal :=
  IdealRules.named_const.statement Cert.XattnIdeal.κ "xa_scale" .f32 0x3DB504F3#32 (((Real.sqrt 128)⁻¹ : ℝ) : EReal) rfl

set_option maxHeartbeats 3200000 in
/-- The kernel and the plain lines leave the same array. -/
theorem xattn_algebraic :
    Cert.algebraic_XattnIdeal_XattnRefIdeal (hXattnIdeal := Cert.XattnIdeal.Gen.facts) (hXattnRefIdeal := Cert.XattnRefIdeal.Gen.facts) := by
  pair_intro
  · run_from Cert.XattnIdeal.Gen.run_main m g
  · hlo_run
    rw [Cert.XattnIdeal.Val.final m c]
    funext j
    idx_vars j
    pointwise [Cert.Heads.attend, Cert.Heads.at_, Cert.Heads.head, Cert.Heads.weight, Cert.Heads.score, Cert.Heads.unitNorm, Cert.Heads.cut,
      Cert.Heads.query, Cert.Heads.inv]
    simp only [div_root, ← Nat.add_assoc]
    refine Ideal.add_congr rfl (Finset.sum_congr rfl fun n _ => Ideal.mul_congr (Finset.sum_congr rfl fun r _ => ?_) rfl)
    exact mul_comm (G := EReal) _ _

end Cert.Proof

end
-- ==== Proof.PrepHeads.lean ====
/- The operands of the sparse attention: the payloads of the call, read at an index. -/
module

public import proofs.«01_k».proof.Proof.Gen.PrepIdeal.Value
public import Idealize.ShloMosaic.Lib.Pipeline.ValueKit
public import Idealize.ShloMosaic.Lib.Claim
public import proofs.«01_k».proof.Proof.Heads

@[expose] public section

set_option maxRecDepth 16384

noncomputable section

namespace Cert.PrepIdeal.Val

open Cert.PrepIdeal Cert.PrepIdeal.Gen Idealize.ShloMosaic Idealize.ShloMosaic.TcCoe

/-- The scale, as the kernel names it. -/
def scale : EReal := Named.named (F := Ideal) κ "q_scale" (φ := .f32) 0x3E0293EE#32

/-- A row of eight heads, each normalised and scaled by the gains. -/
def normHeads (x : Fin 1024 → EReal) (g : Fin 128 → EReal) (n : Fin 1024) : EReal :=
  Cert.Heads.unitNorm (Cert.Heads.cut (n.val / 128 * 128) (by omega) x) g ⟨n.val % 128, Nat.mod_lt _ (by omega)⟩

/-- An entry of the head that starts at column `o`. -/
theorem normHeads_at (x : Fin 1024 → EReal) (g : Fin 128 → EReal) (o : ℕ) (ho : o + 128 ≤ 1024) (h : o % 128 = 0) (d : Fin 128)
    (n : Fin 1024) (e : n.val = o + d.val) : Cert.Heads.unitNorm (Cert.Heads.cut o ho x) g d = normHeads x g n := by
  unfold normHeads
  have h1 : o = n.val / 128 * 128 := by omega
  have h2 : d = ⟨n.val % 128, Nat.mod_lt _ (by omega)⟩ := Fin.ext (by simp only; omega)
  subst h1
  rw [h2]

/-- Equal entries of one matrix. -/
theorem read2 {α : Type} {a b : ℕ} (v : (⟨2, ![a, b]⟩ : Shape).Idx → α) {i i' : Fin a} {j j' : Fin b} (hi : i.val = i'.val) (hj : j.val = j'.val) :
    v (ix2 i j) = v (ix2 i' j') := by
  rw [Fin.ext hi, Fin.ext hj]

/-- The query rows without the unit axis. -/
theorem query_row (X : FVec Ideal S1x256x1024 .f32) (r : Fin 256) (n : Fin 1024) :
    (show EReal from k0_pay2 (F := Ideal) X (ix2 r n))
      = X (ix3 0 r n) := by
  pointwise [k0_pay2]

/-- Query head 0. -/
theorem query0 (X : FVec Ideal S1x256x1024 .f32) (g : FVec Ideal S1x128 .f32) (r : Fin 256) (d : Fin 128) :
    (show EReal from k0_pay3 (F := Ideal) X g (ix2 r d))
      = Cert.Heads.unitNorm (Cert.Heads.cut 0 (by omega) (fun n => X (ix3 0 r n))) (fun e => g (ix2 0 e)) d * scale := by
  pointwise [k0_pay3, k0_pay2, Cert.Heads.unitNorm, Cert.Heads.cut, Cert.Heads.inv, scale]

/-- Query head 1. -/
theorem query1 (X : FVec Ideal S1x256x1024 .f32) (g : FVec Ideal S1x128 .f32) (r : Fin 256) (d : Fin 128) :
    (show EReal from k0_pay4 (F := Ideal) X g (ix2 r d))
      = Cert.Heads.unitNorm (Cert.Heads.cut 128 (by omega) (fun n => X (ix3 0 r n))) (fun e => g (ix2 0 e)) d * scale := by
  pointwise [k0_pay4, k0_pay2, Cert.Heads.unitNorm, Cert.Heads.cut, Cert.Heads.inv, scale]

/-- Query head 2. -/
theorem query2 (X : FVec Ideal S1x256x1024 .f32) (g : FVec Ideal S1x128 .f32) (r : Fin 256) (d : Fin 128) :
    (show EReal from k0_pay8 (F := Ideal) (k0_pay5 (F := Ideal) X) (k0_pay6 (F := Ideal) X) (k0_pay7 (F := Ideal)) g (ix2 r d))
      = Cert.Heads.unitNorm (Cert.Heads.cut 256 (by omega) (fun n => X (ix3 0 r n))) (fun e => g (ix2 0 e)) d * scale := by
  pointwise [k0_pay8, k0_pay5, k0_pay6, k0_pay7, k0_pay2, Cert.Heads.unitNorm, Cert.Heads.cut, Cert.Heads.inv, scale]

/-- Query head 3. -/
theorem query3 (X : FVec Ideal S1x256x1024 .f32) (g : FVec Ideal S1x128 .f32) (r : Fin 256) (d : Fin 128) :
    (show EReal from k0_pay9 (F := Ideal) (k0_pay2 (F := Ideal) X) g (ix2 r d))
      = Cert.Heads.unitNorm (Cert.Heads.cut 384 (by omega) (fun n => X (ix3 0 r n))) (fun e => g (ix2 0 e)) d * scale := by
  pointwise [k0_pay9, k0_pay2, k0_pay2, Cert.Heads.unitNorm, Cert.Heads.cut, Cert.Heads.inv, scale]

/-- Query head 4. -/
theorem query4 (X : FVec Ideal S1x256x1024 .f32) (g : FVec Ideal S1x128 .f32) (r : Fin 256) (d : Fin 128) :
    (show EReal from k0_pay11 (F := Ideal) (k0_pay10 (F := Ideal) (k0_pay2 (F := Ideal) X) g) (Named.named (F := Ideal) κ "q_scale" (φ := .f32) 0x3E0293EE#32) (ix2 r d))
      = Cert.Heads.unitNorm (Cert.Heads.cut 512 (by omega) (fun n => X (ix3 0 r n))) (fun e => g (ix2 0 e)) d * scale := by
  pointwise [k0_pay11, k0_pay10, k0_pay2, k0_pay2, Cert.Heads.unitNorm, Cert.Heads.cut, Cert.Heads.inv, scale]

/-- Query head 5. -/
theorem query5 (X : FVec Ideal S1x256x1024 .f32) (g : FVec Ideal S1x128 .f32) (r : Fin 256) (d : Fin 128) :
    (show EReal from k0_pay12 (F := Ideal) (k0_pay2 (F := Ideal) X) g (ix2 r d))
      = Cert.Heads.unitNorm (Cert.Heads.cut 640 (by omega) (fun n => X (ix3 0 r n))) (fun e => g (ix2 0 e)) d * scale := by
  pointwise [k0_pay12, k0_pay2, k0_pay2, Cert.Heads.unitNorm, Cert.Heads.cut, Cert.Heads.inv, scale]

/-- Query head 6. -/
theorem query6 (X : FVec Ideal S1x256x1024 .f32) (g : FVec Ideal S1x128 .f32) (r : Fin 256) (d : Fin 128) :
    (show EReal from k0_pay13 (F := Ideal) (k0_pay2 (F := Ideal) X) g (ix2 r d))
      = Cert.Heads.unitNorm (Cert.Heads.cut 768 (by omega) (fun n => X (ix3 0 r n))) (fun e => g (ix2 0 e)) d * scale := by
  pointwise [k0_pay13, k0_pay2, k0_pay2, Cert.Heads.unitNorm, Cert.Heads.cut, Cert.Heads.inv, scale]

/-- Key head 0. -/
theorem key0 (A : FVec Ideal S1x256x512 .f32) (B : FVec Ideal S1x512 .f32) (C : FVec Ideal S512x1024 .bf16) (g : FVec Ideal S1x128 .f32) (r : Fin 256) (d : Fin 128) :
    (show EReal from k0_pay20 (F := Ideal) (k0_pay19 (F := Ideal) A B C) g (ix2 r d))
      = Cert.Heads.unitNorm (Cert.Heads.cut 0 (by omega) (fun n => (show EReal from k0_pay18 (F := Ideal) A B C (ix2 r n)))) (fun e => g (ix2 0 e)) d := by
  pointwise [k0_pay20, k0_pay19, Cert.Heads.unitNorm, Cert.Heads.cut, Cert.Heads.inv]

/-- Key head 1. -/
theorem key1 (V : FVec Ideal S256x1024 .f32) (g : FVec Ideal S1x128 .f32) (r : Fin 256) (d : Fin 128) :
    (show EReal from k0_pay21 (F := Ideal) V g (ix2 r d))
      = Cert.Heads.unitNorm (Cert.Heads.cut 128 (by omega) (fun n => V (ix2 r n))) (fun e => g (ix2 0 e)) d := by
  pointwise [k0_pay21, Cert.Heads.unitNorm, Cert.Heads.cut, Cert.Heads.inv]

/-- Key head 2. -/
theorem key2 (V : FVec Ideal S256x1024 .f32) (g : FVec Ideal S1x128 .f32) (r : Fin 256) (d : Fin 128) :
    (show EReal from k0_pay22 (F := Ideal) V g (ix2 r d))
      = Cert.Heads.unitNorm (Cert.Heads.cut 256 (by omega) (fun n => V (ix2 r n))) (fun e => g (ix2 0 e)) d := by
  pointwise [k0_pay22, Cert.Heads.unitNorm, Cert.Heads.cut, Cert.Heads.inv]

/-- Key head 3. -/
theorem key3 (V : FVec Ideal S256x1024 .f32) (g : FVec Ideal S1x128 .f32) (r : Fin 256) (d : Fin 128) :
    (show EReal from k0_pay24 (F := Ideal) (k0_pay23 (F := Ideal) V) g (ix2 r d))
      = Cert.Heads.unitNorm (Cert.Heads.cut 384 (by omega) (fun n => V (ix2 r n))) (fun e => g (ix2 0 e)) d := by
  pointwise [k0_pay24, k0_pay23, Cert.Heads.unitNorm, Cert.Heads.cut, Cert.Heads.inv]

/-- Key head 4. -/
theorem key4 (V : FVec Ideal S256x1024 .f32) (g : FVec Ideal S1x128 .f32) (r : Fin 256) (d : Fin 128) :
    (show EReal from k0_pay25 (F := Ideal) V g (ix2 r d))
      = Cert.Heads.unitNorm (Cert.Heads.cut 512 (by omega) (fun n => V (ix2 r n))) (fun e => g (ix2 0 e)) d := by
  pointwise [k0_pay25, Cert.Heads.unitNorm, Cert.Heads.cut, Cert.Heads.inv]

/-- Key head 5. -/
theorem key5 (V : FVec Ideal S256x1024 .f32) (g : FVec Ideal S1x128 .f32) (r : Fin 256) (d : Fin 128) :
    (show EReal from k0_pay26 (F := Ideal) V g (ix2 r d))
      = Cert.Heads.unitNorm (Cert.Heads.cut 640 (by omega) (fun n => V (ix2 r n))) (fun e => g (ix2 0 e)) d := by
  pointwise [k0_pay26, Cert.Heads.unitNorm, Cert.Heads.cut, Cert.Heads.inv]

set_option maxHeartbeats 1600000 in
/-- The query row: the eight heads side by side. -/
theorem query_join (h0 h1 h2 h3 h4 h5 h6 h7 : FVec Ideal S256x128 .f32) (i7 : FVec Ideal S256x1 .f32) (g : FVec Ideal S1x128 .f32) (r : Fin 256) (n : Fin 1024) (f : Fin 1024 → EReal)
    (e0 : ∀ d : Fin 128, (show EReal from h0 (ix2 r d)) = f ⟨0 + d.val, by omega⟩) (e1 : ∀ d : Fin 128, (show EReal from h1 (ix2 r d)) = f ⟨128 + d.val, by omega⟩) (e2 : ∀ d : Fin 128, (show EReal from h2 (ix2 r d)) = f ⟨256 + d.val, by omega⟩) (e3 : ∀ d : Fin 128, (show EReal from h3 (ix2 r d)) = f ⟨384 + d.val, by omega⟩) (e4 : ∀ d : Fin 128, (show EReal from h4 (ix2 r d)) = f ⟨512 + d.val, by omega⟩) (e5 : ∀ d : Fin 128, (show EReal from h5 (ix2 r d)) = f ⟨640 + d.val, by omega⟩) (e6 : ∀ d : Fin 128, (show EReal from h6 (ix2 r d)) = f ⟨768 + d.val, by omega⟩)
    (e7 : ∀ d : Fin 128, (show EReal from h7 (ix2 r d)) * (show EReal from i7 (ix2 r 0)) * (show EReal from g (ix2 0 d)) * scale = f ⟨896 + d.val, by omega⟩) :
    (show EReal from k0_pay16 (F := Ideal) h0 h1 h2 h3 h4 h5 h6 h7 i7 g (ix2 r n)) = f n := by
  pointwise [k0_pay16]
  by_cases c0 : n.val < 128
  · rw [dif_pos c0]
    exact (e0 ⟨n.val, c0⟩).trans (congrArg f (Fin.ext (by simp only; omega)))
  rw [dif_neg c0]
  by_cases c1 : n.val - 128 < 128
  · rw [dif_pos c1]
    exact (e1 ⟨n.val - 128, c1⟩).trans (congrArg f (Fin.ext (by simp only; omega)))
  rw [dif_neg c1]
  by_cases c2 : n.val - 128 - 128 < 128
  · rw [dif_pos c2]
    exact (e2 ⟨n.val - 128 - 128, c2⟩).trans (congrArg f (Fin.ext (by simp only; omega)))
  rw [dif_neg c2]
  by_cases c3 : n.val - 128 - 128 - 128 < 128
  · rw [dif_pos c3]
    exact (e3 ⟨n.val - 128 - 128 - 128, c3⟩).trans (congrArg f (Fin.ext (by simp only; omega)))
  rw [dif_neg c3]
  by_cases c4 : n.val - 128 - 128 - 128 - 128 < 128
  · rw [dif_pos c4]
    exact (e4 ⟨n.val - 128 - 128 - 128 - 128, c4⟩).trans (congrArg f (Fin.ext (by simp only; omega)))
  rw [dif_neg c4]
  by_cases c5 : n.val - 128 - 128 - 128 - 128 - 128 < 128
  · rw [dif_pos c5]
    exact (e5 ⟨n.val - 128 - 128 - 128 - 128 - 128, c5⟩).trans (congrArg f (Fin.ext (by simp only; omega)))
  rw [dif_neg c5]
  by_cases c6 : n.val - 128 - 128 - 128 - 128 - 128 - 128 < 128
  · rw [dif_pos c6]
    exact (e6 ⟨n.val - 128 - 128 - 128 - 128 - 128 - 128, c6⟩).trans (congrArg f (Fin.ext (by simp only; omega)))
  rw [dif_neg c6]
  refine Eq.trans ?_ ((e7 ⟨n.val - 128 - 128 - 128 - 128 - 128 - 128 - 128, by omega⟩).trans (congrArg f (Fin.ext (by simp only; omega))))
  rfl

set_option maxHeartbeats 1600000 in
/-- The key row: the eight heads side by side. -/
theorem key_join (V : FVec Ideal S256x1024 .f32) (h0 h1 h2 h3 h4 h5 : FVec Ideal S256x128 .f32) (g : FVec Ideal S1x128 .f32) (r : Fin 256) (n : Fin 1024) (f : Fin 1024 → EReal)
    (e0 : ∀ d : Fin 128, (show EReal from h0 (ix2 r d)) = f ⟨0 + d.val, by omega⟩) (e1 : ∀ d : Fin 128, (show EReal from h1 (ix2 r d)) = f ⟨128 + d.val, by omega⟩) (e2 : ∀ d : Fin 128, (show EReal from h2 (ix2 r d)) = f ⟨256 + d.val, by omega⟩) (e3 : ∀ d : Fin 128, (show EReal from h3 (ix2 r d)) = f ⟨384 + d.val, by omega⟩) (e4 : ∀ d : Fin 128, (show EReal from h4 (ix2 r d)) = f ⟨512 + d.val, by omega⟩) (e5 : ∀ d : Fin 128, (show EReal from h5 (ix2 r d)) = f ⟨640 + d.val, by omega⟩)
    (e6 : ∀ d : Fin 128, Cert.Heads.unitNorm (Cert.Heads.cut 768 (by omega) (fun n => V (ix2 r n))) (fun e => g (ix2 0 e)) d = f ⟨768 + d.val, by omega⟩)
    (e7 : ∀ d : Fin 128, Cert.Heads.unitNorm (Cert.Heads.cut 896 (by omega) (fun n => V (ix2 r n))) (fun e => g (ix2 0 e)) d = f ⟨896 + d.val, by omega⟩) :
    (show EReal from k0_pay28 (F := Ideal) V h0 h1 h2 h3 h4 h5 (k0_pay27 (F := Ideal) V) g g (ix3 0 r n)) = f n := by
  pointwise [k0_pay28, k0_pay27]
  by_cases c0 : n.val < 128
  · rw [dif_pos c0]
    exact (e0 ⟨n.val, c0⟩).trans (congrArg f (Fin.ext (by simp only; omega)))
  rw [dif_neg c0]
  by_cases c1 : n.val - 128 < 128
  · rw [dif_pos c1]
    exact (e1 ⟨n.val - 128, c1⟩).trans (congrArg f (Fin.ext (by simp only; omega)))
  rw [dif_neg c1]
  by_cases c2 : n.val - 128 - 128 < 128
  · rw [dif_pos c2]
    exact (e2 ⟨n.val - 128 - 128, c2⟩).trans (congrArg f (Fin.ext (by simp only; omega)))
  rw [dif_neg c2]
  by_cases c3 : n.val - 128 - 128 - 128 < 128
  · rw [dif_pos c3]
    exact (e3 ⟨n.val - 128 - 128 - 128, c3⟩).trans (congrArg f (Fin.ext (by simp only; omega)))
  rw [dif_neg c3]
  by_cases c4 : n.val - 128 - 128 - 128 - 128 < 128
  · rw [dif_pos c4]
    exact (e4 ⟨n.val - 128 - 128 - 128 - 128, c4⟩).trans (congrArg f (Fin.ext (by simp only; omega)))
  rw [dif_neg c4]
  by_cases c5 : n.val - 128 - 128 - 128 - 128 - 128 < 128
  · rw [dif_pos c5]
    exact (e5 ⟨n.val - 128 - 128 - 128 - 128 - 128, c5⟩).trans (congrArg f (Fin.ext (by simp only; omega)))
  rw [dif_neg c5]
  by_cases c6 : n.val - 128 - 128 - 128 - 128 - 128 - 128 < 128
  · rw [dif_pos c6]
    refine Eq.trans ?_ ((e6 ⟨n.val - 128 - 128 - 128 - 128 - 128 - 128, c6⟩).trans (congrArg f (Fin.ext (by simp only; omega))))
    rfl
  rw [dif_neg c6]
  refine Eq.trans ?_ ((e7 ⟨n.val - 128 - 128 - 128 - 128 - 128 - 128 - 128, by omega⟩).trans (congrArg f (Fin.ext (by simp only; omega))))
  rfl

/-- The query row: every head normalised, scaled by the gains and by the scale. -/
theorem query_at (X : FVec Ideal S1x256x1024 .f32) (g : FVec Ideal S1x128 .f32) (r : Fin 256) (n : Fin 1024) :
    (show EReal from k0_pay16 (F := Ideal) (k0_pay3 (F := Ideal) X g) (k0_pay4 (F := Ideal) X g) (k0_pay8 (F := Ideal) (k0_pay5 (F := Ideal) X) (k0_pay6 (F := Ideal) X) (k0_pay7 (F := Ideal)) g) (k0_pay9 (F := Ideal) (k0_pay2 (F := Ideal) X) g) (k0_pay11 (F := Ideal) (k0_pay10 (F := Ideal) (k0_pay2 (F := Ideal) X) g) (Named.named (F := Ideal) κ "q_scale" (φ := .f32) 0x3E0293EE#32)) (k0_pay12 (F := Ideal) (k0_pay2 (F := Ideal) X) g) (k0_pay13 (F := Ideal) (k0_pay2 (F := Ideal) X) g) (k0_pay14 (F := Ideal) (k0_pay2 (F := Ideal) X)) (k0_pay15 (F := Ideal) (k0_pay2 (F := Ideal) X)) g (ix2 r n))
      = normHeads (fun n => X (ix3 0 r n)) (fun e => g (ix2 0 e)) n * scale := by
  refine query_join _ _ _ _ _ _ _ _ _ _ r n (fun n => normHeads (fun n => X (ix3 0 r n)) (fun e => g (ix2 0 e)) n * scale)
    (fun d => (query0 _ _ _ _).trans (congrArg (· * scale) (normHeads_at _ _ _ _ (by omega) d _ rfl))) (fun d => (query1 _ _ _ _).trans (congrArg (· * scale) (normHeads_at _ _ _ _ (by omega) d _ rfl))) (fun d => (query2 _ _ _ _).trans (congrArg (· * scale) (normHeads_at _ _ _ _ (by omega) d _ rfl))) (fun d => (query3 _ _ _ _).trans (congrArg (· * scale) (normHeads_at _ _ _ _ (by omega) d _ rfl))) (fun d => (query4 _ _ _ _).trans (congrArg (· * scale) (normHeads_at _ _ _ _ (by omega) d _ rfl))) (fun d => (query5 _ _ _ _).trans (congrArg (· * scale) (normHeads_at _ _ _ _ (by omega) d _ rfl))) (fun d => (query6 _ _ _ _).trans (congrArg (· * scale) (normHeads_at _ _ _ _ (by omega) d _ rfl))) (fun d => ?_)
  refine Eq.trans ?_ (congrArg (· * scale) (normHeads_at (fun n => X (ix3 0 r n)) (fun e => g (ix2 0 e)) 896 (by omega) (by omega) d _ rfl))
  pointwise [k0_pay15, k0_pay14, k0_pay2, Cert.Heads.unitNorm, Cert.Heads.cut, Cert.Heads.inv]

/-- The key row: every head normalised and scaled by the gains. -/
theorem key_at (A : FVec Ideal S1x256x512 .f32) (B : FVec Ideal S1x512 .f32) (C : FVec Ideal S512x1024 .bf16) (g : FVec Ideal S1x128 .f32) (r : Fin 256) (n : Fin 1024) :
    (show EReal from k0_pay28 (F := Ideal) (k0_pay18 (F := Ideal) A B C) (k0_pay20 (F := Ideal) (k0_pay19 (F := Ideal) A B C) g) (k0_pay21 (F := Ideal) (k0_pay18 (F := Ideal) A B C) g) (k0_pay22 (F := Ideal) (k0_pay18 (F := Ideal) A B C) g) (k0_pay24 (F := Ideal) (k0_pay23 (F := Ideal) (k0_pay18 (F := Ideal) A B C)) g) (k0_pay25 (F := Ideal) (k0_pay18 (F := Ideal) A B C) g) (k0_pay26 (F := Ideal) (k0_pay18 (F := Ideal) A B C) g) (k0_pay27 (F := Ideal) (k0_pay18 (F := Ideal) A B C)) g g (ix3 0 r n))
      = normHeads (fun n => (show EReal from k0_pay18 (F := Ideal) A B C (ix2 r n))) (fun e => g (ix2 0 e)) n :=
  key_join _ _ _ _ _ _ _ _ r n (normHeads (fun n => (show EReal from k0_pay18 (F := Ideal) A B C (ix2 r n))) (fun e => g (ix2 0 e)))
    (fun d => (key0 _ _ _ _ _ _).trans ((normHeads_at _ _ _ _ (by omega) d _ rfl))) (fun d => (key1 _ _ _ _).trans ((normHeads_at _ _ _ _ (by omega) d _ rfl))) (fun d => (key2 _ _ _ _).trans ((normHeads_at _ _ _ _ (by omega) d _ rfl))) (fun d => (key3 _ _ _ _).trans ((normHeads_at _ _ _ _ (by omega) d _ rfl))) (fun d => (key4 _ _ _ _).trans ((normHeads_at _ _ _ _ (by omega) d _ rfl))) (fun d => (key5 _ _ _ _).trans ((normHeads_at _ _ _ _ (by omega) d _ rfl))) (fun d => normHeads_at _ _ _ _ (by omega) d _ rfl) (fun d => normHeads_at _ _ _ _ (by omega) d _ rfl)

end Cert.PrepIdeal.Val

end
-- ==== Proof.PrepTiles.lean ====
/- The operands of the sparse attention: the tiles that the call stores. -/
module

public import proofs.«01_k».proof.Proof.Gen.PrepIdeal.Value
public import Idealize.ShloMosaic.Lib.Pipeline.ValueKit
public import Idealize.ShloMosaic.Lib.Claim
public import proofs.«01_k».proof.Proof.PrepHeads

@[expose] public section

set_option maxRecDepth 16384

noncomputable section

namespace Cert.PrepIdeal.Val

open Cert.PrepIdeal Cert.PrepIdeal.Gen Idealize.ShloMosaic Idealize.ShloMosaic.TcCoe

/-- The first half of the rows, transposed. -/
theorem first41 (v : FVec Ideal S256x1024 .f32) (n : Fin 1024) (r : Fin 128) :
    (show EReal from k0_pay41 (F := Ideal) v (ix2 n r))
      = v (ix2 ⟨r, by omega⟩ n) := by
  pointwise [k0_pay41]
  split_ifs <;> (refine read2 v ?_ ?_ <;> (try simp only) <;> omega)

/-- The first half of the index query's rows, transposed. -/
theorem first47 (v : FVec Ideal S256x1024 .f32) (n : Fin 1024) (r : Fin 128) :
    (show EReal from k0_pay47 (F := Ideal) v (ix2 n r))
      = v (ix2 ⟨r, by omega⟩ n) := by
  pointwise [k0_pay47]
  split_ifs <;> (refine read2 v ?_ ?_ <;> (try simp only) <;> omega)

/-- The second half of the rows, transposed. -/
theorem second64 (v : FVec Ideal S256x1024 .f32) (n : Fin 1024) (r : Fin 128) :
    (show EReal from k0_pay64 (F := Ideal) (k0_pay56 (F := Ideal) v) (k0_pay57 (F := Ideal) v) (k0_pay58 (F := Ideal) v) (k0_pay59 (F := Ideal) v) (k0_pay60 (F := Ideal) v) (k0_pay61 (F := Ideal) v) (k0_pay62 (F := Ideal) v) (k0_pay63 (F := Ideal) v) (ix2 n r))
      = v (ix2 ⟨128 + r, by omega⟩ n) := by
  pointwise [k0_pay64, k0_pay56, k0_pay57, k0_pay58, k0_pay59, k0_pay60, k0_pay61, k0_pay62, k0_pay63]
  split_ifs <;> (refine read2 v ?_ ?_ <;> (try simp only) <;> omega)

/-- A pair of heads on the diagonal of a square of two by two tiles, zero off it: columns in rows, tokens in columns. -/
def pairTile (f : Fin 1024 → Fin 128 → EReal) (p : Fin 4) (a b : Fin 256) : EReal :=
  if a.val / 128 = b.val / 128 then f ⟨256 * p.val + a.val, by omega⟩ ⟨b.val % 128, Nat.mod_lt _ (by omega)⟩ else 0

/-- A pair's square from its four tiles. -/
theorem pair_of (w : FVec Ideal S1024x128 .bf16) (o : ℕ) (ho : o + 256 ≤ 1024) (p : Fin 4) (hp : o = 256 * p.val) (a b : Fin 256) (x : EReal)
    (e00 : ∀ (ha : a.val < 128) (hb : b.val < 128), x = w (ix2 ⟨o + a.val, by omega⟩ ⟨b.val, hb⟩))
    (e01 : a.val < 128 → ¬ b.val < 128 → x = 0)
    (e10 : ¬ a.val < 128 → b.val < 128 → x = 0)
    (e11 : ∀ (ha : ¬ a.val < 128) (hb : ¬ b.val < 128), x = w (ix2 ⟨o + a.val, by omega⟩ ⟨b.val - 128, by omega⟩)) :
    x = pairTile (fun n r => w (ix2 n r)) p a b := by
  unfold pairTile
  subst hp
  by_cases ha : a.val < 128 <;> by_cases hb : b.val < 128
  · rw [if_pos (by omega), e00 ha hb]
    exact read2 w rfl (by simp only; omega)
  · rw [if_neg (by omega), e01 ha hb]
  · rw [if_neg (by omega), e10 ha hb]
  · rw [if_pos (by omega), e11 ha hb]
    exact read2 w rfl (by simp only; omega)

/-- A value chosen by a condition is the value both choices have. -/
theorem dite_of {α : Type} {c : Prop} [Decidable c] {x : c → α} {y : ¬ c → α} {v : α} (h1 : ∀ h, x h = v) (h2 : ∀ h, y h = v) :
    dite c x y = v := by
  by_cases h : c
  · rw [dif_pos h, h1 h]
  · rw [dif_neg h, h2 h]

/-- The tile of pair 0. -/
theorem pair00 (v : FVec Ideal S256x1024 .f32) (a b : Fin 256) :
    (show EReal from k0_pay42 (F := Ideal) v (ix5 0 0 0 a b))
      = pairTile (fun n r => (show EReal from k0_pay41 (F := Ideal) v (ix2 n r))) 0 a b := by
  unfold pairTile
  pointwise [k0_pay42, k0_pay40]
  repeat' split
  all_goals first | (exfalso; omega) | rfl | (refine read2 (a := 1024) (b := 128) _ ?_ ?_ <;> (try simp only) <;> omega)

/-- The tile of pair 1. -/
theorem pair01 (v : FVec Ideal S256x1024 .f32) (a b : Fin 256) :
    (show EReal from k0_pay44 (F := Ideal) (k0_pay43 (F := Ideal) v) (ix5 0 0 0 a b))
      = pairTile (fun n r => (show EReal from k0_pay41 (F := Ideal) v (ix2 n r))) 1 a b := by
  unfold pairTile
  pointwise [k0_pay44, k0_pay43, k0_pay40]
  repeat' split
  all_goals first | (exfalso; omega) | rfl | (refine read2 (a := 1024) (b := 128) _ ?_ ?_ <;> (try simp only) <;> omega)

/-- The tile of pair 2. -/
theorem pair02 (w : FVec Ideal S1024x128 .bf16) (a b : Fin 256) :
    (show EReal from k0_pay45 (F := Ideal) (k0_pay40 (F := Ideal)) w (ix5 0 0 0 a b))
      = pairTile (fun n r => (show EReal from w (ix2 n r))) 2 a b := by
  unfold pairTile
  pointwise [k0_pay45, k0_pay40]
  repeat' split
  all_goals first | (exfalso; omega) | rfl | (refine read2 (a := 1024) (b := 128) _ ?_ ?_ <;> (try simp only) <;> omega)

/-- The tile of pair 3. -/
theorem pair03 (w : FVec Ideal S1024x128 .bf16) (a b : Fin 256) :
    (show EReal from k0_pay46 (F := Ideal) (k0_pay40 (F := Ideal)) w (ix5 0 0 0 a b))
      = pairTile (fun n r => (show EReal from w (ix2 n r))) 3 a b := by
  unfold pairTile
  pointwise [k0_pay46, k0_pay40]
  repeat' split
  all_goals first | (exfalso; omega) | rfl | (refine read2 (a := 1024) (b := 128) _ ?_ ?_ <;> (try simp only) <;> omega)

/-- The tile of pair 0. -/
theorem pair10 (v0 : FVec Ideal S128x1024 .f32) (v1 v2 v3 v4 v5 v6 v7 : FVec Ideal S128x128 .f32) (a b : Fin 256) :
    (show EReal from k0_pay65 (F := Ideal) (k0_pay40 (F := Ideal)) v0 v1 v2 v3 v4 v5 v6 v7 (ix5 0 0 0 a b))
      = pairTile (fun n r => (show EReal from k0_pay64 (F := Ideal) v0 v1 v2 v3 v4 v5 v6 v7 (ix2 n r))) 0 a b := by
  unfold pairTile
  pointwise [k0_pay65, k0_pay40]
  repeat' split
  all_goals first | (exfalso; omega) | rfl | (refine read2 (a := 1024) (b := 128) _ ?_ ?_ <;> (try simp only) <;> omega)

/-- The tile of pair 1. -/
theorem pair11 (v0 : FVec Ideal S128x1024 .f32) (v1 v2 v3 v4 v5 v6 v7 : FVec Ideal S128x128 .f32) (a b : Fin 256) :
    (show EReal from k0_pay66 (F := Ideal) (k0_pay40 (F := Ideal)) v0 v1 v2 v3 v4 v5 v6 v7 (ix5 0 0 0 a b))
      = pairTile (fun n r => (show EReal from k0_pay64 (F := Ideal) v0 v1 v2 v3 v4 v5 v6 v7 (ix2 n r))) 1 a b := by
  unfold pairTile
  pointwise [k0_pay66, k0_pay40]
  repeat' split
  all_goals first | (exfalso; omega) | rfl | (refine read2 (a := 1024) (b := 128) _ ?_ ?_ <;> (try simp only) <;> omega)

/-- The tile of pair 2. -/
theorem pair12 (v0 : FVec Ideal S128x1024 .f32) (v1 v2 v3 v4 v5 v6 v7 : FVec Ideal S128x128 .f32) (a b : Fin 256) :
    (show EReal from k0_pay67 (F := Ideal) (k0_pay40 (F := Ideal)) v0 v1 v2 v3 v4 v5 v6 v7 (ix5 0 0 0 a b))
      = pairTile (fun n r => (show EReal from k0_pay64 (F := Ideal) v0 v1 v2 v3 v4 v5 v6 v7 (ix2 n r))) 2 a b := by
  unfold pairTile
  pointwise [k0_pay67, k0_pay40]
  repeat' split
  all_goals first | (exfalso; omega) | rfl | (refine read2 (a := 1024) (b := 128) _ ?_ ?_ <;> (try simp only) <;> omega)

/-- The tile of pair 3. -/
theorem pair13 (v0 : FVec Ideal S128x1024 .f32) (v1 v2 v3 v4 v5 v6 v7 : FVec Ideal S128x128 .f32) (a b : Fin 256) :
    (show EReal from k0_pay68 (F := Ideal) (k0_pay40 (F := Ideal)) v0 v1 v2 v3 v4 v5 v6 v7 (ix5 0 0 0 a b))
      = pairTile (fun n r => (show EReal from k0_pay64 (F := Ideal) v0 v1 v2 v3 v4 v5 v6 v7 (ix2 n r))) 3 a b := by
  unfold pairTile
  pointwise [k0_pay68, k0_pay40]
  repeat' split
  all_goals first | (exfalso; omega) | rfl | (refine read2 (a := 1024) (b := 128) _ ?_ ?_ <;> (try simp only) <;> omega)

/-- Sixteen tiles side by side: an entry is the tile's that its column names. -/
theorem join64 {α : Type} (f : Fin 16 → S64x128.Idx → α) (h : Shape.Concatenates [S64x128, S64x128, S64x128, S64x128, S64x128, S64x128, S64x128, S64x128, S64x128, S64x128, S64x128, S64x128, S64x128, S64x128, S64x128, S64x128] S64x2048 1) (d : Fin 64) (L : Fin 2048) :
    concatenate S64x2048 1 [⟨S64x128, f 0⟩, ⟨S64x128, f 1⟩, ⟨S64x128, f 2⟩, ⟨S64x128, f 3⟩, ⟨S64x128, f 4⟩, ⟨S64x128, f 5⟩, ⟨S64x128, f 6⟩, ⟨S64x128, f 7⟩, ⟨S64x128, f 8⟩, ⟨S64x128, f 9⟩, ⟨S64x128, f 10⟩, ⟨S64x128, f 11⟩, ⟨S64x128, f 12⟩, ⟨S64x128, f 13⟩, ⟨S64x128, f 14⟩, ⟨S64x128, f 15⟩] h (ix2 d L) = f ⟨L.val / 128, by omega⟩ (ix2 d ⟨L.val % 128, Nat.mod_lt _ (by omega)⟩) :=
  concatenate_ofFn_apply (t := S64x2048) (s₁ := S64x128) 1 f h rfl 128 rfl (ix2 d L) ⟨L.val / 128, by omega⟩ rfl (ix2 d ⟨L.val % 128, Nat.mod_lt _ (by omega)⟩) rfl
    (fun b hb => by
      fin_cases b
      · rfl
      · exact absurd rfl hb)

/-- Sixteen tiles side by side: an entry is the tile's that its column names. -/
theorem join1 {α : Type} (f : Fin 16 → S1x128.Idx → α) (h : Shape.Concatenates [S1x128, S1x128, S1x128, S1x128, S1x128, S1x128, S1x128, S1x128, S1x128, S1x128, S1x128, S1x128, S1x128, S1x128, S1x128, S1x128] S1x2048 1) (d : Fin 1) (L : Fin 2048) :
    concatenate S1x2048 1 [⟨S1x128, f 0⟩, ⟨S1x128, f 1⟩, ⟨S1x128, f 2⟩, ⟨S1x128, f 3⟩, ⟨S1x128, f 4⟩, ⟨S1x128, f 5⟩, ⟨S1x128, f 6⟩, ⟨S1x128, f 7⟩, ⟨S1x128, f 8⟩, ⟨S1x128, f 9⟩, ⟨S1x128, f 10⟩, ⟨S1x128, f 11⟩, ⟨S1x128, f 12⟩, ⟨S1x128, f 13⟩, ⟨S1x128, f 14⟩, ⟨S1x128, f 15⟩] h (ix2 d L) = f ⟨L.val / 128, by omega⟩ (ix2 d ⟨L.val % 128, Nat.mod_lt _ (by omega)⟩) :=
  concatenate_ofFn_apply (t := S1x2048) (s₁ := S1x128) 1 f h rfl 128 rfl (ix2 d L) ⟨L.val / 128, by omega⟩ rfl (ix2 d ⟨L.val % 128, Nat.mod_lt _ (by omega)⟩) rfl
    (fun b hb => by
      fin_cases b
      · rfl
      · exact absurd rfl hb)

/-- A tile of the index query with its unit axes. -/
theorem store4 (v : FVec Ideal S64x2048 .bf16) (d : Fin 64) (L : Fin 2048) :
    (show EReal from shapeCast S1x1x64x2048 v shapeCasts_S64x2048_S1x1x64x2048 (ix4 0 0 d L))
      = v (ix2 d L) := by
  pointwise

/-- A tile of the index weights with its unit axes. -/
theorem store1 (v : FVec Ideal S1x2048 .f32) (L : Fin 2048) :
    (show EReal from shapeCast S1x1x1x2048 v shapeCasts_S1x2048_S1x1x1x2048 (ix4 0 0 0 L))
      = v (ix2 0 L) := by
  pointwise

/-- The first tile of the index query. -/
theorem index0 (v : FVec Ideal S256x1024 .f32) (d : Fin 64) (L : Fin 2048) :
    (show EReal from k0_pay54 (F := Ideal) (k0_pay47 (F := Ideal) v) (k0_pay48 (F := Ideal) v) (k0_pay49 (F := Ideal) v) (k0_pay50 (F := Ideal) v) (k0_pay51 (F := Ideal) v) (k0_pay52 (F := Ideal) v) (k0_pay53 (F := Ideal) v) (ix4 0 0 d L))
      = (show EReal from k0_pay47 (F := Ideal) v (ix2 ⟨64 * (L.val / 128) + d.val, by omega⟩ ⟨L.val % 128, Nat.mod_lt _ (by omega)⟩)) := by
  have key : ∀ (k : Fin 16) (e : Fin 128), (show EReal from (![k0_pay48 (F := Ideal) v, k0_pay49 (F := Ideal) v, k0_pay50 (F := Ideal) v, k0_pay51 (F := Ideal) v, k0_pay52 (F := Ideal) v, k0_pay53 (F := Ideal) v, extractStridedSlice S64x128 ![384, 0] (k0_pay47 (F := Ideal) v) slices_S1024x128_o384_0_S64x128, extractStridedSlice S64x128 ![448, 0] (k0_pay47 (F := Ideal) v) slices_S1024x128_o448_0_S64x128, extractStridedSlice S64x128 ![512, 0] (k0_pay47 (F := Ideal) v) slices_S1024x128_o512_0_S64x128, extractStridedSlice S64x128 ![576, 0] (k0_pay47 (F := Ideal) v) slices_S1024x128_o576_0_S64x128, extractStridedSlice S64x128 ![640, 0] (k0_pay47 (F := Ideal) v) slices_S1024x128_o640_0_S64x128, extractStridedSlice S64x128 ![704, 0] (k0_pay47 (F := Ideal) v) slices_S1024x128_o704_0_S64x128, extractStridedSlice S64x128 ![768, 0] (k0_pay47 (F := Ideal) v) slices_S1024x128_o768_0_S64x128, extractStridedSlice S64x128 ![832, 0] (k0_pay47 (F := Ideal) v) slices_S1024x128_o832_0_S64x128, extractStridedSlice S64x128 ![896, 0] (k0_pay47 (F := Ideal) v) slices_S1024x128_o896_0_S64x128, extractStridedSlice S64x128 ![960, 0] (k0_pay47 (F := Ideal) v) slices_S1024x128_o960_0_S64x128] : Fin 16 → FVec Ideal S64x128 .bf16) k (ix2 d e)) = (show EReal from k0_pay47 (F := Ideal) v (ix2 ⟨64 * k.val + d.val, by omega⟩ e)) := by
    intro k e
    fin_cases k <;> pointwise [k0_pay48, k0_pay49, k0_pay50, k0_pay51, k0_pay52, k0_pay53]
  refine Eq.trans ?_ (key ⟨L.val / 128, by omega⟩ ⟨L.val % 128, Nat.mod_lt _ (by omega)⟩)
  exact (store4 _ d L).trans (join64 (![k0_pay48 (F := Ideal) v, k0_pay49 (F := Ideal) v, k0_pay50 (F := Ideal) v, k0_pay51 (F := Ideal) v, k0_pay52 (F := Ideal) v, k0_pay53 (F := Ideal) v, extractStridedSlice S64x128 ![384, 0] (k0_pay47 (F := Ideal) v) slices_S1024x128_o384_0_S64x128, extractStridedSlice S64x128 ![448, 0] (k0_pay47 (F := Ideal) v) slices_S1024x128_o448_0_S64x128, extractStridedSlice S64x128 ![512, 0] (k0_pay47 (F := Ideal) v) slices_S1024x128_o512_0_S64x128, extractStridedSlice S64x128 ![576, 0] (k0_pay47 (F := Ideal) v) slices_S1024x128_o576_0_S64x128, extractStridedSlice S64x128 ![640, 0] (k0_pay47 (F := Ideal) v) slices_S1024x128_o640_0_S64x128, extractStridedSlice S64x128 ![704, 0] (k0_pay47 (F := Ideal) v) slices_S1024x128_o704_0_S64x128, extractStridedSlice S64x128 ![768, 0] (k0_pay47 (F := Ideal) v) slices_S1024x128_o768_0_S64x128, extractStridedSlice S64x128 ![832, 0] (k0_pay47 (F := Ideal) v) slices_S1024x128_o832_0_S64x128, extractStridedSlice S64x128 ![896, 0] (k0_pay47 (F := Ideal) v) slices_S1024x128_o896_0_S64x128, extractStridedSlice S64x128 ![960, 0] (k0_pay47 (F := Ideal) v) slices_S1024x128_o960_0_S64x128] : Fin 16 → FVec Ideal S64x128 .bf16) _ d L)

/-- The second tile of the index weights. -/
theorem weight1 (v : FVec Ideal S256x128 .f32) (L : Fin 2048) :
    (show EReal from k0_pay1 (F := Ideal) (k0_pay70 (F := Ideal) v) (k0_pay71 (F := Ideal) v) (k0_pay72 (F := Ideal) v) (k0_pay73 (F := Ideal) v) (k0_pay74 (F := Ideal) v) (k0_pay75 (F := Ideal) v) (k0_pay76 (F := Ideal) v) (k0_pay77 (F := Ideal) v) (k0_pay78 (F := Ideal) v) (k0_pay79 (F := Ideal) v) (k0_pay80 (F := Ideal) v) (k0_pay81 (F := Ideal) v) (k0_pay82 (F := Ideal) v) (k0_pay83 (F := Ideal) v) (ix4 0 0 0 L))
      = v (ix2 ⟨128 + L.val % 128, by omega⟩ ⟨64 + L.val / 128, by omega⟩) := by
  have key : ∀ (k : Fin 16) (e : Fin 128), (show EReal from (![k0_pay71 (F := Ideal) v, k0_pay72 (F := Ideal) v, k0_pay73 (F := Ideal) v, k0_pay74 (F := Ideal) v, k0_pay75 (F := Ideal) v, k0_pay76 (F := Ideal) v, k0_pay77 (F := Ideal) v, k0_pay78 (F := Ideal) v, k0_pay79 (F := Ideal) v, k0_pay80 (F := Ideal) v, k0_pay81 (F := Ideal) v, k0_pay82 (F := Ideal) v, k0_pay83 (F := Ideal) v, extractStridedSlice S1x128 ![77, 0] (k0_pay70 (F := Ideal) v) slices_S128x128_o77_0_S1x128, extractStridedSlice S1x128 ![78, 0] (k0_pay70 (F := Ideal) v) slices_S128x128_o78_0_S1x128, extractStridedSlice S1x128 ![79, 0] (k0_pay70 (F := Ideal) v) slices_S128x128_o79_0_S1x128] : Fin 16 → FVec Ideal S1x128 .f32) k (ix2 (0 : Fin 1) e)) = v (ix2 ⟨128 + e.val, by omega⟩ ⟨64 + k.val, by omega⟩) := by
    intro k e
    fin_cases k <;> pointwise [k0_pay70, k0_pay71, k0_pay72, k0_pay73, k0_pay74, k0_pay75, k0_pay76, k0_pay77, k0_pay78, k0_pay79, k0_pay80, k0_pay81, k0_pay82, k0_pay83]
  refine Eq.trans ?_ (key ⟨L.val / 128, by omega⟩ ⟨L.val % 128, Nat.mod_lt _ (by omega)⟩)
  exact (store1 _ L).trans (join1 (![k0_pay71 (F := Ideal) v, k0_pay72 (F := Ideal) v, k0_pay73 (F := Ideal) v, k0_pay74 (F := Ideal) v, k0_pay75 (F := Ideal) v, k0_pay76 (F := Ideal) v, k0_pay77 (F := Ideal) v, k0_pay78 (F := Ideal) v, k0_pay79 (F := Ideal) v, k0_pay80 (F := Ideal) v, k0_pay81 (F := Ideal) v, k0_pay82 (F := Ideal) v, k0_pay83 (F := Ideal) v, extractStridedSlice S1x128 ![77, 0] (k0_pay70 (F := Ideal) v) slices_S128x128_o77_0_S1x128, extractStridedSlice S1x128 ![78, 0] (k0_pay70 (F := Ideal) v) slices_S128x128_o78_0_S1x128, extractStridedSlice S1x128 ![79, 0] (k0_pay70 (F := Ideal) v) slices_S128x128_o79_0_S1x128] : Fin 16 → FVec Ideal S1x128 .f32) _ (0 : Fin 1) L)

/-- The first tile of the index weights. -/
theorem weight0 (v : FVec Ideal S256x128 .f32) (L : Fin 2048) :
    (show EReal from k0_pay55 (F := Ideal) v (ix4 0 0 0 L))
      = v (ix2 ⟨L.val % 128, by omega⟩ ⟨64 + L.val / 128, by omega⟩) := by
  have key : ∀ (k : Fin 16) (e : Fin 128), (show EReal from (![extractStridedSlice S1x128 ![64, 0] (transpose S128x128 [1, 0] (extractStridedSlice S128x128 ![0, 0] v slices_S256x128_o0_0_S128x128) transposes_S128x128_p1_0_S128x128) slices_S128x128_o64_0_S1x128, extractStridedSlice S1x128 ![65, 0] (transpose S128x128 [1, 0] (extractStridedSlice S128x128 ![0, 0] v slices_S256x128_o0_0_S128x128) transposes_S128x128_p1_0_S128x128) slices_S128x128_o65_0_S1x128, extractStridedSlice S1x128 ![66, 0] (transpose S128x128 [1, 0] (extractStridedSlice S128x128 ![0, 0] v slices_S256x128_o0_0_S128x128) transposes_S128x128_p1_0_S128x128) slices_S128x128_o66_0_S1x128, extractStridedSlice S1x128 ![67, 0] (transpose S128x128 [1, 0] (extractStridedSlice S128x128 ![0, 0] v slices_S256x128_o0_0_S128x128) transposes_S128x128_p1_0_S128x128) slices_S128x128_o67_0_S1x128, extractStridedSlice S1x128 ![68, 0] (transpose S128x128 [1, 0] (extractStridedSlice S128x128 ![0, 0] v slices_S256x128_o0_0_S128x128) transposes_S128x128_p1_0_S128x128) slices_S128x128_o68_0_S1x128, extractStridedSlice S1x128 ![69, 0] (transpose S128x128 [1, 0] (extractStridedSlice S128x128 ![0, 0] v slices_S256x128_o0_0_S128x128) transposes_S128x128_p1_0_S128x128) slices_S128x128_o69_0_S1x128, extractStridedSlice S1x128 ![70, 0] (transpose S128x128 [1, 0] (extractStridedSlice S128x128 ![0, 0] v slices_S256x128_o0_0_S128x128) transposes_S128x128_p1_0_S128x128) slices_S128x128_o70_0_S1x128, extractStridedSlice S1x128 ![71, 0] (transpose S128x128 [1, 0] (extractStridedSlice S128x128 ![0, 0] v slices_S256x128_o0_0_S128x128) transposes_S128x128_p1_0_S128x128) slices_S128x128_o71_0_S1x128, extractStridedSlice S1x128 ![72, 0] (transpose S128x128 [1, 0] (extractStridedSlice S128x128 ![0, 0] v slices_S256x128_o0_0_S128x128) transposes_S128x128_p1_0_S128x128) slices_S128x128_o72_0_S1x128, extractStridedSlice S1x128 ![73, 0] (transpose S128x128 [1, 0] (extractStridedSlice S128x128 ![0, 0] v slices_S256x128_o0_0_S128x128) transposes_S128x128_p1_0_S128x128) slices_S128x128_o73_0_S1x128, extractStridedSlice S1x128 ![74, 0] (transpose S128x128 [1, 0] (extractStridedSlice S128x128 ![0, 0] v slices_S256x128_o0_0_S128x128) transposes_S128x128_p1_0_S128x128) slices_S128x128_o74_0_S1x128, extractStridedSlice S1x128 ![75, 0] (transpose S128x128 [1, 0] (extractStridedSlice S128x128 ![0, 0] v slices_S256x128_o0_0_S128x128) transposes_S128x128_p1_0_S128x128) slices_S128x128_o75_0_S1x128, extractStridedSlice S1x128 ![76, 0] (transpose S128x128 [1, 0] (extractStridedSlice S128x128 ![0, 0] v slices_S256x128_o0_0_S128x128) transposes_S128x128_p1_0_S128x128) slices_S128x128_o76_0_S1x128, extractStridedSlice S1x128 ![77, 0] (transpose S128x128 [1, 0] (extractStridedSlice S128x128 ![0, 0] v slices_S256x128_o0_0_S128x128) transposes_S128x128_p1_0_S128x128) slices_S128x128_o77_0_S1x128, extractStridedSlice S1x128 ![78, 0] (transpose S128x128 [1, 0] (extractStridedSlice S128x128 ![0, 0] v slices_S256x128_o0_0_S128x128) transposes_S128x128_p1_0_S128x128) slices_S128x128_o78_0_S1x128, extractStridedSlice S1x128 ![79, 0] (transpose S128x128 [1, 0] (extractStridedSlice S128x128 ![0, 0] v slices_S256x128_o0_0_S128x128) transposes_S128x128_p1_0_S128x128) slices_S128x128_o79_0_S1x128] : Fin 16 → FVec Ideal S1x128 .f32) k (ix2 (0 : Fin 1) e)) = v (ix2 ⟨e.val, by omega⟩ ⟨64 + k.val, by omega⟩) := by
    intro k e
    fin_cases k <;> pointwise []
  refine Eq.trans ?_ (key ⟨L.val / 128, by omega⟩ ⟨L.val % 128, Nat.mod_lt _ (by omega)⟩)
  exact (store1 _ L).trans (join1 (![extractStridedSlice S1x128 ![64, 0] (transpose S128x128 [1, 0] (extractStridedSlice S128x128 ![0, 0] v slices_S256x128_o0_0_S128x128) transposes_S128x128_p1_0_S128x128) slices_S128x128_o64_0_S1x128, extractStridedSlice S1x128 ![65, 0] (transpose S128x128 [1, 0] (extractStridedSlice S128x128 ![0, 0] v slices_S256x128_o0_0_S128x128) transposes_S128x128_p1_0_S128x128) slices_S128x128_o65_0_S1x128, extractStridedSlice S1x128 ![66, 0] (transpose S128x128 [1, 0] (extractStridedSlice S128x128 ![0, 0] v slices_S256x128_o0_0_S128x128) transposes_S128x128_p1_0_S128x128) slices_S128x128_o66_0_S1x128, extractStridedSlice S1x128 ![67, 0] (transpose S128x128 [1, 0] (extractStridedSlice S128x128 ![0, 0] v slices_S256x128_o0_0_S128x128) transposes_S128x128_p1_0_S128x128) slices_S128x128_o67_0_S1x128, extractStridedSlice S1x128 ![68, 0] (transpose S128x128 [1, 0] (extractStridedSlice S128x128 ![0, 0] v slices_S256x128_o0_0_S128x128) transposes_S128x128_p1_0_S128x128) slices_S128x128_o68_0_S1x128, extractStridedSlice S1x128 ![69, 0] (transpose S128x128 [1, 0] (extractStridedSlice S128x128 ![0, 0] v slices_S256x128_o0_0_S128x128) transposes_S128x128_p1_0_S128x128) slices_S128x128_o69_0_S1x128, extractStridedSlice S1x128 ![70, 0] (transpose S128x128 [1, 0] (extractStridedSlice S128x128 ![0, 0] v slices_S256x128_o0_0_S128x128) transposes_S128x128_p1_0_S128x128) slices_S128x128_o70_0_S1x128, extractStridedSlice S1x128 ![71, 0] (transpose S128x128 [1, 0] (extractStridedSlice S128x128 ![0, 0] v slices_S256x128_o0_0_S128x128) transposes_S128x128_p1_0_S128x128) slices_S128x128_o71_0_S1x128, extractStridedSlice S1x128 ![72, 0] (transpose S128x128 [1, 0] (extractStridedSlice S128x128 ![0, 0] v slices_S256x128_o0_0_S128x128) transposes_S128x128_p1_0_S128x128) slices_S128x128_o72_0_S1x128, extractStridedSlice S1x128 ![73, 0] (transpose S128x128 [1, 0] (extractStridedSlice S128x128 ![0, 0] v slices_S256x128_o0_0_S128x128) transposes_S128x128_p1_0_S128x128) slices_S128x128_o73_0_S1x128, extractStridedSlice S1x128 ![74, 0] (transpose S128x128 [1, 0] (extractStridedSlice S128x128 ![0, 0] v slices_S256x128_o0_0_S128x128) transposes_S128x128_p1_0_S128x128) slices_S128x128_o74_0_S1x128, extractStridedSlice S1x128 ![75, 0] (transpose S128x128 [1, 0] (extractStridedSlice S128x128 ![0, 0] v slices_S256x128_o0_0_S128x128) transposes_S128x128_p1_0_S128x128) slices_S128x128_o75_0_S1x128, extractStridedSlice S1x128 ![76, 0] (transpose S128x128 [1, 0] (extractStridedSlice S128x128 ![0, 0] v slices_S256x128_o0_0_S128x128) transposes_S128x128_p1_0_S128x128) slices_S128x128_o76_0_S1x128, extractStridedSlice S1x128 ![77, 0] (transpose S128x128 [1, 0] (extractStridedSlice S128x128 ![0, 0] v slices_S256x128_o0_0_S128x128) transposes_S128x128_p1_0_S128x128) slices_S128x128_o77_0_S1x128, extractStridedSlice S1x128 ![78, 0] (transpose S128x128 [1, 0] (extractStridedSlice S128x128 ![0, 0] v slices_S256x128_o0_0_S128x128) transposes_S128x128_p1_0_S128x128) slices_S128x128_o78_0_S1x128, extractStridedSlice S1x128 ![79, 0] (transpose S128x128 [1, 0] (extractStridedSlice S128x128 ![0, 0] v slices_S256x128_o0_0_S128x128) transposes_S128x128_p1_0_S128x128) slices_S128x128_o79_0_S1x128] : Fin 16 → FVec Ideal S1x128 .f32) _ (0 : Fin 1) L)

set_option maxHeartbeats 1600000 in
/-- The second half of the index query's rows, transposed. -/
theorem second69 (v : FVec Ideal S256x1024 .f32) (n : Fin 1024) (r : Fin 128) :
    (show EReal from (truncf .bf16 (concatenate S1024x128 0 [⟨S128x128, transpose S128x128 [1, 0] (extractStridedSlice S128x128 ![0, 0] (extractStridedSlice S128x1024 ![128, 0] v slices_S256x1024_o128_0_S128x1024) slices_S128x1024_o0_0_S128x128) transposes_S128x128_p1_0_S128x128⟩, ⟨S128x128, transpose S128x128 [1, 0] (extractStridedSlice S128x128 ![0, 128] (extractStridedSlice S128x1024 ![128, 0] v slices_S256x1024_o128_0_S128x1024) slices_S128x1024_o0_128_S128x128) transposes_S128x128_p1_0_S128x128⟩, ⟨S128x128, transpose S128x128 [1, 0] (extractStridedSlice S128x128 ![0, 256] (extractStridedSlice S128x1024 ![128, 0] v slices_S256x1024_o128_0_S128x1024) slices_S128x1024_o0_256_S128x128) transposes_S128x128_p1_0_S128x128⟩, ⟨S128x128, transpose S128x128 [1, 0] (extractStridedSlice S128x128 ![0, 384] (extractStridedSlice S128x1024 ![128, 0] v slices_S256x1024_o128_0_S128x1024) slices_S128x1024_o0_384_S128x128) transposes_S128x128_p1_0_S128x128⟩, ⟨S128x128, transpose S128x128 [1, 0] (extractStridedSlice S128x128 ![0, 512] (extractStridedSlice S128x1024 ![128, 0] v slices_S256x1024_o128_0_S128x1024) slices_S128x1024_o0_512_S128x128) transposes_S128x128_p1_0_S128x128⟩, ⟨S128x128, transpose S128x128 [1, 0] (extractStridedSlice S128x128 ![0, 640] (extractStridedSlice S128x1024 ![128, 0] v slices_S256x1024_o128_0_S128x1024) slices_S128x1024_o0_640_S128x128) transposes_S128x128_p1_0_S128x128⟩, ⟨S128x128, transpose S128x128 [1, 0] (extractStridedSlice S128x128 ![0, 768] (extractStridedSlice S128x1024 ![128, 0] v slices_S256x1024_o128_0_S128x1024) slices_S128x1024_o0_768_S128x128) transposes_S128x128_p1_0_S128x128⟩, ⟨S128x128, transpose S128x128 [1, 0] (extractStridedSlice S128x128 ![0, 896] (extractStridedSlice S128x1024 ![128, 0] v slices_S256x1024_o128_0_S128x1024) slices_S128x1024_o0_896_S128x128) transposes_S128x128_p1_0_S128x128⟩] concatenates_S128x128_S128x128_S128x128_S128x128_S128x128_S128x128_S128x128_S128x128_S1024x128_d0) bitsLt_bf16_f32 : FVec Ideal S1024x128 .bf16) (ix2 n r))
      = v (ix2 ⟨128 + r, by omega⟩ n) := by
  pointwise
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine dite_of (fun c => ?_) (fun c => ?_)
  · refine read2 (a := 256) (b := 1024) _ ?_ ?_ <;> (try simp only) <;> omega
  refine read2 (a := 256) (b := 1024) _ ?_ ?_ <;> (try simp only) <;> omega

/-- The sixteen bands of the transposed rows. -/
def indexBands (w : FVec Ideal S1024x128 .bf16) : Fin 16 → FVec Ideal S64x128 .bf16 :=
  ![extractStridedSlice S64x128 ![0, 0] w slices_S1024x128_o0_0_S64x128, extractStridedSlice S64x128 ![64, 0] w slices_S1024x128_o64_0_S64x128, extractStridedSlice S64x128 ![128, 0] w slices_S1024x128_o128_0_S64x128, extractStridedSlice S64x128 ![192, 0] w slices_S1024x128_o192_0_S64x128, extractStridedSlice S64x128 ![256, 0] w slices_S1024x128_o256_0_S64x128, extractStridedSlice S64x128 ![320, 0] w slices_S1024x128_o320_0_S64x128, extractStridedSlice S64x128 ![384, 0] w slices_S1024x128_o384_0_S64x128, extractStridedSlice S64x128 ![448, 0] w slices_S1024x128_o448_0_S64x128, extractStridedSlice S64x128 ![512, 0] w slices_S1024x128_o512_0_S64x128, extractStridedSlice S64x128 ![576, 0] w slices_S1024x128_o576_0_S64x128, extractStridedSlice S64x128 ![640, 0] w slices_S1024x128_o640_0_S64x128, extractStridedSlice S64x128 ![704, 0] w slices_S1024x128_o704_0_S64x128, extractStridedSlice S64x128 ![768, 0] w slices_S1024x128_o768_0_S64x128, extractStridedSlice S64x128 ![832, 0] w slices_S1024x128_o832_0_S64x128, extractStridedSlice S64x128 ![896, 0] w slices_S1024x128_o896_0_S64x128, extractStridedSlice S64x128 ![960, 0] w slices_S1024x128_o960_0_S64x128]

/-- A tile of the index query from its transposed rows. -/
theorem index_of (w : FVec Ideal S1024x128 .bf16) (h : Shape.Concatenates [S64x128, S64x128, S64x128, S64x128, S64x128, S64x128, S64x128, S64x128, S64x128, S64x128, S64x128, S64x128, S64x128, S64x128, S64x128, S64x128] S64x2048 1) (d : Fin 64) (L : Fin 2048) :
    (show EReal from (shapeCast S1x1x64x2048 (concatenate S64x2048 1 [⟨S64x128, extractStridedSlice S64x128 ![0, 0] w slices_S1024x128_o0_0_S64x128⟩, ⟨S64x128, extractStridedSlice S64x128 ![64, 0] w slices_S1024x128_o64_0_S64x128⟩, ⟨S64x128, extractStridedSlice S64x128 ![128, 0] w slices_S1024x128_o128_0_S64x128⟩, ⟨S64x128, extractStridedSlice S64x128 ![192, 0] w slices_S1024x128_o192_0_S64x128⟩, ⟨S64x128, extractStridedSlice S64x128 ![256, 0] w slices_S1024x128_o256_0_S64x128⟩, ⟨S64x128, extractStridedSlice S64x128 ![320, 0] w slices_S1024x128_o320_0_S64x128⟩, ⟨S64x128, extractStridedSlice S64x128 ![384, 0] w slices_S1024x128_o384_0_S64x128⟩, ⟨S64x128, extractStridedSlice S64x128 ![448, 0] w slices_S1024x128_o448_0_S64x128⟩, ⟨S64x128, extractStridedSlice S64x128 ![512, 0] w slices_S1024x128_o512_0_S64x128⟩, ⟨S64x128, extractStridedSlice S64x128 ![576, 0] w slices_S1024x128_o576_0_S64x128⟩, ⟨S64x128, extractStridedSlice S64x128 ![640, 0] w slices_S1024x128_o640_0_S64x128⟩, ⟨S64x128, extractStridedSlice S64x128 ![704, 0] w slices_S1024x128_o704_0_S64x128⟩, ⟨S64x128, extractStridedSlice S64x128 ![768, 0] w slices_S1024x128_o768_0_S64x128⟩, ⟨S64x128, extractStridedSlice S64x128 ![832, 0] w slices_S1024x128_o832_0_S64x128⟩, ⟨S64x128, extractStridedSlice S64x128 ![896, 0] w slices_S1024x128_o896_0_S64x128⟩, ⟨S64x128, extractStridedSlice S64x128 ![960, 0] w slices_S1024x128_o960_0_S64x128⟩] h : FVec Ideal S64x2048 .bf16) shapeCasts_S64x2048_S1x1x64x2048 : FVec Ideal S1x1x64x2048 .bf16) (ix4 0 0 d L))
      = w (ix2 ⟨64 * (L.val / 128) + d.val, by omega⟩ ⟨L.val % 128, Nat.mod_lt _ (by omega)⟩) := by
  have key : ∀ (k : Fin 16) (e : Fin 128), (show EReal from indexBands w k (ix2 d e)) = w (ix2 ⟨64 * k.val + d.val, by omega⟩ e) := by
    intro k e
    fin_cases k <;> pointwise [indexBands]
  refine Eq.trans ?_ (key ⟨L.val / 128, by omega⟩ ⟨L.val % 128, Nat.mod_lt _ (by omega)⟩)
  exact (store4 _ d L).trans (join64 (indexBands w) h d L)

/-- The second tile of the index query. -/
theorem index1 (v : FVec Ideal S256x1024 .f32) (d : Fin 64) (L : Fin 2048) :
    (show EReal from k0_pay69 (F := Ideal) v (ix4 0 0 d L))
      = v (ix2 ⟨128 + L.val % 128, by omega⟩ ⟨64 * (L.val / 128) + d.val, by omega⟩) := by
  exact (index_of _ _ d L).trans (second69 v _ _)

/-- A band of 128 rows, read at an index. -/
theorem slice_at (M : FVec Ideal S1024x256 .bf16) (o : ℕ) (h : S1024x256.Slices ![o, 0] S128x256) (r : Fin 128) (t : Fin 256) (ho : o + 128 ≤ 1024) :
    extractStridedSlice S128x256 ![o, 0] M h (ix2 r t) = M (ix2 ⟨o + r.val, by omega⟩ t) := by
  pointwise

/-- The rows in front of piece 0. -/
theorem before0 : ((([S128x256, S16x256, S128x256, S16x256, S128x256, S16x256, S128x256, S16x256, S128x256, S16x256, S128x256, S16x256, S128x256, S16x256, S128x256, S16x256] : List Shape).take 0).map fun s : Shape => if h : s.rank = S1152x256.rank then s.size ((0 : Fin S1152x256.rank).cast h.symm) else 0).sum = 0 := by
  decide +kernel

/-- The rows in front of piece 1. -/
theorem before1 : ((([S128x256, S16x256, S128x256, S16x256, S128x256, S16x256, S128x256, S16x256, S128x256, S16x256, S128x256, S16x256, S128x256, S16x256, S128x256, S16x256] : List Shape).take 1).map fun s : Shape => if h : s.rank = S1152x256.rank then s.size ((0 : Fin S1152x256.rank).cast h.symm) else 0).sum = 128 := by
  decide +kernel

/-- The rows in front of piece 2. -/
theorem before2 : ((([S128x256, S16x256, S128x256, S16x256, S128x256, S16x256, S128x256, S16x256, S128x256, S16x256, S128x256, S16x256, S128x256, S16x256, S128x256, S16x256] : List Shape).take 2).map fun s : Shape => if h : s.rank = S1152x256.rank then s.size ((0 : Fin S1152x256.rank).cast h.symm) else 0).sum = 144 := by
  decide +kernel

/-- The rows in front of piece 3. -/
theorem before3 : ((([S128x256, S16x256, S128x256, S16x256, S128x256, S16x256, S128x256, S16x256, S128x256, S16x256, S128x256, S16x256, S128x256, S16x256, S128x256, S16x256] : List Shape).take 3).map fun s : Shape => if h : s.rank = S1152x256.rank then s.size ((0 : Fin S1152x256.rank).cast h.symm) else 0).sum = 272 := by
  decide +kernel

/-- The rows in front of piece 4. -/
theorem before4 : ((([S128x256, S16x256, S128x256, S16x256, S128x256, S16x256, S128x256, S16x256, S128x256, S16x256, S128x256, S16x256, S128x256, S16x256, S128x256, S16x256] : List Shape).take 4).map fun s : Shape => if h : s.rank = S1152x256.rank then s.size ((0 : Fin S1152x256.rank).cast h.symm) else 0).sum = 288 := by
  decide +kernel

/-- The rows in front of piece 5. -/
theorem before5 : ((([S128x256, S16x256, S128x256, S16x256, S128x256, S16x256, S128x256, S16x256, S128x256, S16x256, S128x256, S16x256, S128x256, S16x256, S128x256, S16x256] : List Shape).take 5).map fun s : Shape => if h : s.rank = S1152x256.rank then s.size ((0 : Fin S1152x256.rank).cast h.symm) else 0).sum = 416 := by
  decide +kernel

/-- The rows in front of piece 6. -/
theorem before6 : ((([S128x256, S16x256, S128x256, S16x256, S128x256, S16x256, S128x256, S16x256, S128x256, S16x256, S128x256, S16x256, S128x256, S16x256, S128x256, S16x256] : List Shape).take 6).map fun s : Shape => if h : s.rank = S1152x256.rank then s.size ((0 : Fin S1152x256.rank).cast h.symm) else 0).sum = 432 := by
  decide +kernel

/-- The rows in front of piece 7. -/
theorem before7 : ((([S128x256, S16x256, S128x256, S16x256, S128x256, S16x256, S128x256, S16x256, S128x256, S16x256, S128x256, S16x256, S128x256, S16x256, S128x256, S16x256] : List Shape).take 7).map fun s : Shape => if h : s.rank = S1152x256.rank then s.size ((0 : Fin S1152x256.rank).cast h.symm) else 0).sum = 560 := by
  decide +kernel

/-- The rows in front of piece 8. -/
theorem before8 : ((([S128x256, S16x256, S128x256, S16x256, S128x256, S16x256, S128x256, S16x256, S128x256, S16x256, S128x256, S16x256, S128x256, S16x256, S128x256, S16x256] : List Shape).take 8).map fun s : Shape => if h : s.rank = S1152x256.rank then s.size ((0 : Fin S1152x256.rank).cast h.symm) else 0).sum = 576 := by
  decide +kernel

/-- The rows in front of piece 9. -/
theorem before9 : ((([S128x256, S16x256, S128x256, S16x256, S128x256, S16x256, S128x256, S16x256, S128x256, S16x256, S128x256, S16x256, S128x256, S16x256, S128x256, S16x256] : List Shape).take 9).map fun s : Shape => if h : s.rank = S1152x256.rank then s.size ((0 : Fin S1152x256.rank).cast h.symm) else 0).sum = 704 := by
  decide +kernel

/-- The rows in front of piece 10. -/
theorem before10 : ((([S128x256, S16x256, S128x256, S16x256, S128x256, S16x256, S128x256, S16x256, S128x256, S16x256, S128x256, S16x256, S128x256, S16x256, S128x256, S16x256] : List Shape).take 10).map fun s : Shape => if h : s.rank = S1152x256.rank then s.size ((0 : Fin S1152x256.rank).cast h.symm) else 0).sum = 720 := by
  decide +kernel

/-- The rows in front of piece 11. -/
theorem before11 : ((([S128x256, S16x256, S128x256, S16x256, S128x256, S16x256, S128x256, S16x256, S128x256, S16x256, S128x256, S16x256, S128x256, S16x256, S128x256, S16x256] : List Shape).take 11).map fun s : Shape => if h : s.rank = S1152x256.rank then s.size ((0 : Fin S1152x256.rank).cast h.symm) else 0).sum = 848 := by
  decide +kernel

/-- The rows in front of piece 12. -/
theorem before12 : ((([S128x256, S16x256, S128x256, S16x256, S128x256, S16x256, S128x256, S16x256, S128x256, S16x256, S128x256, S16x256, S128x256, S16x256, S128x256, S16x256] : List Shape).take 12).map fun s : Shape => if h : s.rank = S1152x256.rank then s.size ((0 : Fin S1152x256.rank).cast h.symm) else 0).sum = 864 := by
  decide +kernel

/-- The rows in front of piece 13. -/
theorem before13 : ((([S128x256, S16x256, S128x256, S16x256, S128x256, S16x256, S128x256, S16x256, S128x256, S16x256, S128x256, S16x256, S128x256, S16x256, S128x256, S16x256] : List Shape).take 13).map fun s : Shape => if h : s.rank = S1152x256.rank then s.size ((0 : Fin S1152x256.rank).cast h.symm) else 0).sum = 992 := by
  decide +kernel

/-- The rows in front of piece 14. -/
theorem before14 : ((([S128x256, S16x256, S128x256, S16x256, S128x256, S16x256, S128x256, S16x256, S128x256, S16x256, S128x256, S16x256, S128x256, S16x256, S128x256, S16x256] : List Shape).take 14).map fun s : Shape => if h : s.rank = S1152x256.rank then s.size ((0 : Fin S1152x256.rank).cast h.symm) else 0).sum = 1008 := by
  decide +kernel

/-- The rows in front of piece 15. -/
theorem before15 : ((([S128x256, S16x256, S128x256, S16x256, S128x256, S16x256, S128x256, S16x256, S128x256, S16x256, S128x256, S16x256, S128x256, S16x256, S128x256, S16x256] : List Shape).take 15).map fun s : Shape => if h : s.rank = S1152x256.rank then s.size ((0 : Fin S1152x256.rank).cast h.symm) else 0).sum = 1136 := by
  decide +kernel

set_option maxHeartbeats 1600000 in
/-- The values with sixteen rows of one value `u` under every head. -/
theorem bands (M : FVec Ideal S1024x256 .bf16) (z : FVec Ideal S16x256 .bf16) (u : EReal) (hz : ∀ i, z i = u) (h : Shape.Concatenates [S128x256, S16x256, S128x256, S16x256, S128x256, S16x256, S128x256, S16x256, S128x256, S16x256, S128x256, S16x256, S128x256, S16x256, S128x256, S16x256] S1152x256 0) (R : Fin 1152) (t : Fin 256) :
    concatenate S1152x256 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t)
      = if R.val % 144 < 128 then M (ix2 ⟨R.val / 144 * 128 + R.val % 144 % 128, by omega⟩ t) else u := by
  by_cases c00 : R.val < 128
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 0 (by change 0 < 16; omega) S128x256 (extractStridedSlice S128x256 ![0, 0] M slices_S1024x256_o0_0_S128x256) rfl rfl 0 before0 (ix2 ⟨R.val - 0, by omega⟩ t)
      (fun b hb => by
        fin_cases b
        · exact absurd rfl hb
        · rfl) (by show 0 + (R.val - 0) = R.val; omega)
    refine e.trans ?_
    rw [if_pos (by omega)]
    refine (slice_at M 0 _ _ _ (by omega)).trans (read2 M ?_ rfl)
    simp only
    omega
  by_cases c01 : R.val < 144
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 1 (by change 1 < 16; omega) S16x256 z rfl rfl 128 before1 (ix2 ⟨R.val - 128, by omega⟩ t)
      (fun b hb => by
        fin_cases b
        · exact absurd rfl hb
        · rfl) (by show 128 + (R.val - 128) = R.val; omega)
    refine e.trans ?_
    rw [if_neg (by omega)]
    exact hz _
  by_cases c10 : R.val < 272
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 2 (by change 2 < 16; omega) S128x256 (extractStridedSlice S128x256 ![128, 0] M slices_S1024x256_o128_0_S128x256) rfl rfl 144 before2 (ix2 ⟨R.val - 144, by omega⟩ t)
      (fun b hb => by
        fin_cases b
        · exact absurd rfl hb
        · rfl) (by show 144 + (R.val - 144) = R.val; omega)
    refine e.trans ?_
    rw [if_pos (by omega)]
    refine (slice_at M 128 _ _ _ (by omega)).trans (read2 M ?_ rfl)
    simp only
    omega
  by_cases c11 : R.val < 288
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 3 (by change 3 < 16; omega) S16x256 z rfl rfl 272 before3 (ix2 ⟨R.val - 272, by omega⟩ t)
      (fun b hb => by
        fin_cases b
        · exact absurd rfl hb
        · rfl) (by show 272 + (R.val - 272) = R.val; omega)
    refine e.trans ?_
    rw [if_neg (by omega)]
    exact hz _
  by_cases c20 : R.val < 416
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 4 (by change 4 < 16; omega) S128x256 (extractStridedSlice S128x256 ![256, 0] M slices_S1024x256_o256_0_S128x256) rfl rfl 288 before4 (ix2 ⟨R.val - 288, by omega⟩ t)
      (fun b hb => by
        fin_cases b
        · exact absurd rfl hb
        · rfl) (by show 288 + (R.val - 288) = R.val; omega)
    refine e.trans ?_
    rw [if_pos (by omega)]
    refine (slice_at M 256 _ _ _ (by omega)).trans (read2 M ?_ rfl)
    simp only
    omega
  by_cases c21 : R.val < 432
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 5 (by change 5 < 16; omega) S16x256 z rfl rfl 416 before5 (ix2 ⟨R.val - 416, by omega⟩ t)
      (fun b hb => by
        fin_cases b
        · exact absurd rfl hb
        · rfl) (by show 416 + (R.val - 416) = R.val; omega)
    refine e.trans ?_
    rw [if_neg (by omega)]
    exact hz _
  by_cases c30 : R.val < 560
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 6 (by change 6 < 16; omega) S128x256 (extractStridedSlice S128x256 ![384, 0] M slices_S1024x256_o384_0_S128x256) rfl rfl 432 before6 (ix2 ⟨R.val - 432, by omega⟩ t)
      (fun b hb => by
        fin_cases b
        · exact absurd rfl hb
        · rfl) (by show 432 + (R.val - 432) = R.val; omega)
    refine e.trans ?_
    rw [if_pos (by omega)]
    refine (slice_at M 384 _ _ _ (by omega)).trans (read2 M ?_ rfl)
    simp only
    omega
  by_cases c31 : R.val < 576
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 7 (by change 7 < 16; omega) S16x256 z rfl rfl 560 before7 (ix2 ⟨R.val - 560, by omega⟩ t)
      (fun b hb => by
        fin_cases b
        · exact absurd rfl hb
        · rfl) (by show 560 + (R.val - 560) = R.val; omega)
    refine e.trans ?_
    rw [if_neg (by omega)]
    exact hz _
  by_cases c40 : R.val < 704
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 8 (by change 8 < 16; omega) S128x256 (extractStridedSlice S128x256 ![512, 0] M slices_S1024x256_o512_0_S128x256) rfl rfl 576 before8 (ix2 ⟨R.val - 576, by omega⟩ t)
      (fun b hb => by
        fin_cases b
        · exact absurd rfl hb
        · rfl) (by show 576 + (R.val - 576) = R.val; omega)
    refine e.trans ?_
    rw [if_pos (by omega)]
    refine (slice_at M 512 _ _ _ (by omega)).trans (read2 M ?_ rfl)
    simp only
    omega
  by_cases c41 : R.val < 720
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 9 (by change 9 < 16; omega) S16x256 z rfl rfl 704 before9 (ix2 ⟨R.val - 704, by omega⟩ t)
      (fun b hb => by
        fin_cases b
        · exact absurd rfl hb
        · rfl) (by show 704 + (R.val - 704) = R.val; omega)
    refine e.trans ?_
    rw [if_neg (by omega)]
    exact hz _
  by_cases c50 : R.val < 848
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 10 (by change 10 < 16; omega) S128x256 (extractStridedSlice S128x256 ![640, 0] M slices_S1024x256_o640_0_S128x256) rfl rfl 720 before10 (ix2 ⟨R.val - 720, by omega⟩ t)
      (fun b hb => by
        fin_cases b
        · exact absurd rfl hb
        · rfl) (by show 720 + (R.val - 720) = R.val; omega)
    refine e.trans ?_
    rw [if_pos (by omega)]
    refine (slice_at M 640 _ _ _ (by omega)).trans (read2 M ?_ rfl)
    simp only
    omega
  by_cases c51 : R.val < 864
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 11 (by change 11 < 16; omega) S16x256 z rfl rfl 848 before11 (ix2 ⟨R.val - 848, by omega⟩ t)
      (fun b hb => by
        fin_cases b
        · exact absurd rfl hb
        · rfl) (by show 848 + (R.val - 848) = R.val; omega)
    refine e.trans ?_
    rw [if_neg (by omega)]
    exact hz _
  by_cases c60 : R.val < 992
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 12 (by change 12 < 16; omega) S128x256 (extractStridedSlice S128x256 ![768, 0] M slices_S1024x256_o768_0_S128x256) rfl rfl 864 before12 (ix2 ⟨R.val - 864, by omega⟩ t)
      (fun b hb => by
        fin_cases b
        · exact absurd rfl hb
        · rfl) (by show 864 + (R.val - 864) = R.val; omega)
    refine e.trans ?_
    rw [if_pos (by omega)]
    refine (slice_at M 768 _ _ _ (by omega)).trans (read2 M ?_ rfl)
    simp only
    omega
  by_cases c61 : R.val < 1008
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 13 (by change 13 < 16; omega) S16x256 z rfl rfl 992 before13 (ix2 ⟨R.val - 992, by omega⟩ t)
      (fun b hb => by
        fin_cases b
        · exact absurd rfl hb
        · rfl) (by show 992 + (R.val - 992) = R.val; omega)
    refine e.trans ?_
    rw [if_neg (by omega)]
    exact hz _
  by_cases c70 : R.val < 1136
  · have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 14 (by change 14 < 16; omega) S128x256 (extractStridedSlice S128x256 ![896, 0] M slices_S1024x256_o896_0_S128x256) rfl rfl 1008 before14 (ix2 ⟨R.val - 1008, by omega⟩ t)
      (fun b hb => by
        fin_cases b
        · exact absurd rfl hb
        · rfl) (by show 1008 + (R.val - 1008) = R.val; omega)
    refine e.trans ?_
    rw [if_pos (by omega)]
    refine (slice_at M 896 _ _ _ (by omega)).trans (read2 M ?_ rfl)
    simp only
    omega
  have e := concatenate_apply_piece (t := S1152x256) 0 [⟨S128x256, extractStridedSlice S128x256 ![0, 0] M slices_S1024x256_o0_0_S128x256⟩, ⟨S16x256, z⟩, ⟨S128x256, extractStridedSlice S128x256 ![128, 0] M slices_S1024x256_o128_0_S128x256⟩, ⟨S16x256, z⟩, ⟨S128x256, extractStridedSlice S128x256 ![256, 0] M slices_S1024x256_o256_0_S128x256⟩, ⟨S16x256, z⟩, ⟨S128x256, extractStridedSlice S128x256 ![384, 0] M slices_S1024x256_o384_0_S128x256⟩, ⟨S16x256, z⟩, ⟨S128x256, extractStridedSlice S128x256 ![512, 0] M slices_S1024x256_o512_0_S128x256⟩, ⟨S16x256, z⟩, ⟨S128x256, extractStridedSlice S128x256 ![640, 0] M slices_S1024x256_o640_0_S128x256⟩, ⟨S16x256, z⟩, ⟨S128x256, extractStridedSlice S128x256 ![768, 0] M slices_S1024x256_o768_0_S128x256⟩, ⟨S16x256, z⟩, ⟨S128x256, extractStridedSlice S128x256 ![896, 0] M slices_S1024x256_o896_0_S128x256⟩, ⟨S16x256, z⟩] h (ix2 R t) 15 (by change 15 < 16; omega) S16x256 z rfl rfl 1136 before15 (ix2 ⟨R.val - 1136, by omega⟩ t)
    (fun b hb => by
      fin_cases b
      · exact absurd rfl hb
      · rfl) (by show 1136 + (R.val - 1136) = R.val; omega)
  refine e.trans ?_
  rw [if_neg (by omega)]
  exact hz _

/-- The block of values with its unit axis. -/
theorem store3 (v : FVec Ideal S1152x256 .bf16) (R : Fin 1152) (t : Fin 256) :
    (show EReal from shapeCast S1x1152x256 v shapeCasts_S1152x256_S1x1152x256 (ix3 0 R t))
      = v (ix2 R t) := by
  pointwise

set_option maxHeartbeats 1600000 in
/-- The stored values: columns in rows, tokens in columns, sixteen rows of one under every head. -/
theorem value_at (C : FVec Ideal S256x512 .bf16) (w : FVec Ideal S512x1024 .bf16) (R : Fin 1152) (t : Fin 256) :
    (show EReal from k0_pay34 (F := Ideal) (k0_pay30 (F := Ideal) C w) (k0_pay31 (F := Ideal) C w) (k0_pay32 (F := Ideal) C w) (k0_pay33 (F := Ideal) C w) (ix3 0 R t))
      = if R.val % 144 < 128 then (show EReal from k0_pay29 (F := Ideal) C w (ix2 t ⟨R.val / 144 * 128 + R.val % 144 % 128, by omega⟩)) else Ideal.ofBits FTy.bf16 0x3F80#16 := by
  unfold k0_pay34
  dsimp only
  refine (store3 _ R t).trans ((bands _ _ (Ideal.ofBits FTy.bf16 0x3F80#16) (fun i => rfl) _ R t).trans ?_)
  refine if_congr Iff.rfl ?_ rfl
  generalize (⟨R.val / 144 * 128 + R.val % 144 % 128, by omega⟩ : Fin 1024) = n
  pointwise [k0_pay30, k0_pay31, k0_pay32, k0_pay33]
  refine dite_of (fun c => ?_) (fun c => ?_)
  · refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine read2 (a := 256) (b := 1024) _ ?_ ?_ <;> (try simp only) <;> omega
  · refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine dite_of (fun c => ?_) (fun c => ?_)
    · refine read2 (a := 256) (b := 1024) _ ?_ ?_ <;> (try simp only) <;> omega
    refine read2 (a := 256) (b := 1024) _ ?_ ?_ <;> (try simp only) <;> omega

end Cert.PrepIdeal.Val

end
-- ==== Proof.PrepValue.lean ====
/- The operands of the sparse attention: the arrays that the call leaves. -/
module

public import proofs.«01_k».proof.Proof.Gen.PrepIdeal.Value
public import Idealize.ShloMosaic.Lib.Pipeline.ValueKit
public import Idealize.ShloMosaic.Lib.Claim
public import proofs.«01_k».proof.Proof.PrepTiles

@[expose] public section

set_option maxRecDepth 16384

noncomputable section

namespace Cert.PrepIdeal.Val

open Cert.PrepIdeal Cert.PrepIdeal.Gen Idealize.ShloMosaic Idealize.ShloMosaic.TcCoe
open Idealize.ShloMosaic.Pipeline (Dat)

variable (m : (ℓ : Loc nD τ sig) → Buf (Elt Ideal) ℓ)

/-- Every window's block index at every point. -/
theorem idx : ∀ t : Fin cfg0.N, win0_0.index t = ![t.val / 64, t.val % 64, 9] ∧ win0_1.index t = ![t.val / 64, t.val % 64, 27]
    ∧ win0_2.index t = ![t.val / 64, t.val % 64, 10] ∧ win0_3.index t = ![t.val / 64, t.val % 64, 112]
    ∧ win0_4.index t = ![0, 0] ∧ win0_5.index t = ![0, 0] ∧ win0_6.index t = ![0, 0] ∧ win0_7.index t = ![0, 0]
    ∧ win0_8.index t = ![0, 0] ∧ win0_9.index t = ![0, 0]
    ∧ win0_10.index t = ![t.val / 64, t.val % 64, 0, 0, 0] ∧ win0_11.index t = ![t.val / 64, t.val % 64, 0]
    ∧ win0_12.index t = ![t.val / 64, 0, t.val % 64] ∧ win0_13.index t = ![t.val / 64, t.val % 64, 0, 0]
    ∧ win0_14.index t = ![t.val / 64, t.val % 64, 0] ∧ win0_15.index t = ![t.val / 64, t.val % 64, 0, 0] :=
  (by decide +kernel : ∀ t : Fin grid0.N, _)

/-- The index key's row, normalised and scaled by the gains. -/
def indexKey (x g : Fin 64 → EReal) (d : Fin 64) : EReal := x d * Cert.Heads.inv 0x42800000#32 x * g d

/-- The stored index keys. -/
theorem indexKey_at (A : FVec Ideal S1x256x128 .f32) (B : FVec Ideal S1x64 .f32) (r : Fin 256) (d : Fin 64) :
    (show EReal from k0_pay37 (k0_pay36 (F := Ideal) A B) (ix3 0 r d))
      = indexKey (fun k => A (ix3 0 r ⟨k.val, by omega⟩)) (fun k => B (ix2 0 k)) d := by
  pointwise [k0_pay37, k0_pay36, k0_pay35, indexKey, Cert.Heads.inv]

/-- The latent row, normalised and scaled by the gains. -/
def latent (x g : Fin 512 → EReal) (k : Fin 512) : EReal := x k * Cert.Heads.inv 0x44000000#32 x * g k

/-- The latent row times a matrix. -/
def latentRow (x g : Fin 512 → EReal) (w : Fin 512 → Fin 1024 → EReal) (n : Fin 1024) : EReal := ∑ k : Fin 512, latent x g k * w k n

/-- The keys before their heads are normalised. -/
theorem keyRow_at (A : FVec Ideal S1x256x512 .f32) (B : FVec Ideal S1x512 .f32) (C : FVec Ideal S512x1024 .bf16) (r : Fin 256) (n : Fin 1024) :
    (show EReal from k0_pay18 (F := Ideal) A B C (ix2 r n))
      = latentRow (fun k => A (ix3 0 r k)) (fun k => B (ix2 0 k)) (fun k n => C (ix2 k n)) n := by
  pointwise [k0_pay18, k0_pay17, latentRow, latent, Cert.Heads.inv]

/-- The values. -/
theorem valueRow_at (A : FVec Ideal S1x256x512 .f32) (B : FVec Ideal S1x512 .f32) (C : FVec Ideal S512x1024 .bf16) (r : Fin 256) (n : Fin 1024) :
    (show EReal from k0_pay29 (F := Ideal) (k0_pay17 (F := Ideal) A B) C (ix2 r n))
      = latentRow (fun k => A (ix3 0 r k)) (fun k => B (ix2 0 k)) (fun k n => C (ix2 k n)) n := by
  pointwise [k0_pay29, k0_pay17, latentRow, latent, Cert.Heads.inv]

/-- The index query's rows. -/
theorem indexQuery_at (A : FVec Ideal S1x256x1024 .f32) (r : Fin 256) (n : Fin 1024) :
    (show EReal from k0_pay38 (F := Ideal) A (ix2 r n)) = A (ix3 0 r n) * Ideal.ofBits FTy.f32 0x3E000000#32 := by
  pointwise [k0_pay38]

/-- The index weights' rows. -/
theorem indexWeight_at (A : FVec Ideal S1x256x128 .f32) (r : Fin 256) (n : Fin 128) :
    (show EReal from k0_pay39 (F := Ideal) (k0_pay35 (F := Ideal) A) (ix2 r n)) = A (ix3 0 r n) * Ideal.ofBits FTy.f32 0x3E800000#32 := by
  pointwise [k0_pay39, k0_pay35]

/-- An index of a tile: its unit axes are at zero. -/
theorem eta15 (x : S1x1x1x2048.Idx) : x = ix4 0 0 0 (x 3) := by
  funext a
  fin_cases a
  · exact Subsingleton.elim (α := Fin 1) _ _
  · exact Subsingleton.elim (α := Fin 1) _ _
  · exact Subsingleton.elim (α := Fin 1) _ _
  · rfl

/-- An index of a tile: its unit axes are at zero. -/
theorem eta13 (x : S1x1x64x2048.Idx) : x = ix4 0 0 (x 2) (x 3) := by
  funext a
  fin_cases a
  · exact Subsingleton.elim (α := Fin 1) _ _
  · exact Subsingleton.elim (α := Fin 1) _ _
  · rfl
  · rfl

/-- An index of a tile: its unit axes are at zero. -/
theorem eta10 (x : S1x1x1x256x256.Idx) : x = ix5 0 0 0 (x 3) (x 4) := by
  funext a
  fin_cases a
  · exact Subsingleton.elim (α := Fin 1) _ _
  · exact Subsingleton.elim (α := Fin 1) _ _
  · exact Subsingleton.elim (α := Fin 1) _ _
  · rfl
  · rfl

/-- An index of a tile: its unit axes are at zero. -/
theorem eta12 (x : S1x1152x256.Idx) : x = ix3 0 (x 1) (x 2) := by
  funext a
  fin_cases a
  · exact Subsingleton.elim (α := Fin 1) _ _
  · rfl
  · rfl

/-- The block of index weights is its two tiles. -/
theorem canon15 (S : FVec Ideal S256x128 .f32) (y : S1x2x1x2048.Idx) :
    View.canon (Val := Elt Ideal) (s := S1x2x1x2048) (e := .f32)
      [⟨Rect.unit ![0, 1, 0, 0] ![1, 1, 1, 2048] inb_S1x2x1x2048_S1x1x1x2048_0_1_0_0, k0_pay1 (F := Ideal) (k0_pay70 (F := Ideal) S) (k0_pay71 (F := Ideal) S) (k0_pay72 (F := Ideal) S) (k0_pay73 (F := Ideal) S) (k0_pay74 (F := Ideal) S) (k0_pay75 (F := Ideal) S) (k0_pay76 (F := Ideal) S) (k0_pay77 (F := Ideal) S) (k0_pay78 (F := Ideal) S) (k0_pay79 (F := Ideal) S) (k0_pay80 (F := Ideal) S) (k0_pay81 (F := Ideal) S) (k0_pay82 (F := Ideal) S) (k0_pay83 (F := Ideal) S)⟩,
       ⟨Rect.unit ![0, 0, 0, 0] ![1, 1, 1, 2048] inb_S1x2x1x2048_S1x1x1x2048_0_0_0_0, k0_pay55 (F := Ideal) S⟩] y
      = S (ix2 (⟨128 * (y 1).val + (y 3).val % 128, by have h1 : (y 1).val < 2 := (y 1).isLt; have h3 : (y 3).val < 2048 := (y 3).isLt; omega⟩ : Fin 256) (⟨64 + (y 3).val / 128, by have h1 : (y 1).val < 2 := (y 1).isLt; have h3 : (y 3).val < 2048 := (y 3).isLt; omega⟩ : Fin 128)) := by
  canon_tiles x h
  · refine Eq.trans (congrArg (k0_pay1 (F := Ideal) (k0_pay70 (F := Ideal) S) (k0_pay71 (F := Ideal) S) (k0_pay72 (F := Ideal) S) (k0_pay73 (F := Ideal) S) (k0_pay74 (F := Ideal) S) (k0_pay75 (F := Ideal) S) (k0_pay76 (F := Ideal) S) (k0_pay77 (F := Ideal) S) (k0_pay78 (F := Ideal) S) (k0_pay79 (F := Ideal) S) (k0_pay80 (F := Ideal) S) (k0_pay81 (F := Ideal) S) (k0_pay82 (F := Ideal) S) (k0_pay83 (F := Ideal) S)) (eta15 x)) ((weight1 S (x 3)).trans (read2 (a := 256) (b := 128) S ?_ ?_)) <;> simp only <;> omega
  · refine Eq.trans (congrArg (k0_pay55 (F := Ideal) S) (eta15 x)) ((weight0 S (x 3)).trans (read2 (a := 256) (b := 128) S ?_ ?_)) <;> simp only <;> omega

/-- The block of the index query is its two tiles. -/
theorem canon13 (Q : FVec Ideal S256x1024 .f32) (y : S1x2x64x2048.Idx) :
    View.canon (Val := Elt Ideal) (s := S1x2x64x2048) (e := .bf16)
      [⟨Rect.unit ![0, 1, 0, 0] ![1, 1, 64, 2048] inb_S1x2x64x2048_S1x1x64x2048_0_1_0_0, k0_pay69 (F := Ideal) Q⟩,
       ⟨Rect.unit ![0, 0, 0, 0] ![1, 1, 64, 2048] inb_S1x2x64x2048_S1x1x64x2048_0_0_0_0, k0_pay54 (F := Ideal) (k0_pay47 (F := Ideal) Q) (k0_pay48 (F := Ideal) Q) (k0_pay49 (F := Ideal) Q) (k0_pay50 (F := Ideal) Q) (k0_pay51 (F := Ideal) Q) (k0_pay52 (F := Ideal) Q) (k0_pay53 (F := Ideal) Q)⟩] y
      = Q (ix2 (⟨128 * (y 1).val + (y 3).val % 128, by have h1 : (y 1).val < 2 := (y 1).isLt; have h3 : (y 3).val < 2048 := (y 3).isLt; omega⟩ : Fin 256) (⟨64 * ((y 3).val / 128) + (y 2).val, by have h2 : (y 2).val < 64 := (y 2).isLt; have h3 : (y 3).val < 2048 := (y 3).isLt; omega⟩ : Fin 1024)) := by
  canon_tiles x h
  · refine Eq.trans (congrArg (k0_pay69 (F := Ideal) Q) (eta13 x)) ((index1 Q (x 2) (x 3)).trans (read2 (a := 256) (b := 1024) Q ?_ ?_)) <;> simp only <;> omega
  · refine Eq.trans (congrArg (k0_pay54 (F := Ideal) (k0_pay47 (F := Ideal) Q) (k0_pay48 (F := Ideal) Q) (k0_pay49 (F := Ideal) Q) (k0_pay50 (F := Ideal) Q) (k0_pay51 (F := Ideal) Q) (k0_pay52 (F := Ideal) Q) (k0_pay53 (F := Ideal) Q)) (eta13 x)) ((index0 Q (x 2) (x 3)).trans ((first47 Q _ _).trans (read2 (a := 256) (b := 1024) Q ?_ ?_))) <;> simp only <;> omega

/-- Equal pair tiles. -/
theorem pairTile_congr {f f' : Fin 1024 → Fin 128 → EReal} {p p' : Fin 4} {a a' b b' : Fin 256} (hf : ∀ n r, f n r = f' n r) (hp : p.val = p'.val)
    (ha : a.val = a'.val) (hb : b.val = b'.val) : pairTile f p a b = pairTile f' p' a' b' := by
  rw [show f = f' from funext fun n => funext fun r => hf n r, Fin.ext hp, Fin.ext ha, Fin.ext hb]

set_option maxHeartbeats 1600000 in
/-- The block of the queries is its eight tiles. -/
theorem canon10 (D : FVec Ideal S256x1024 .f32) (y : S1x2x4x256x256.Idx) :
    View.canon (Val := Elt Ideal) (s := S1x2x4x256x256) (e := .bf16)
      [⟨Rect.unit ![0, 1, 3, 0, 0] ![1, 1, 1, 256, 256] inb_S1x2x4x256x256_S1x1x1x256x256_0_1_3_0_0, k0_pay68 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)⟩,
       ⟨Rect.unit ![0, 1, 2, 0, 0] ![1, 1, 1, 256, 256] inb_S1x2x4x256x256_S1x1x1x256x256_0_1_2_0_0, k0_pay67 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)⟩,
       ⟨Rect.unit ![0, 1, 1, 0, 0] ![1, 1, 1, 256, 256] inb_S1x2x4x256x256_S1x1x1x256x256_0_1_1_0_0, k0_pay66 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)⟩,
       ⟨Rect.unit ![0, 1, 0, 0, 0] ![1, 1, 1, 256, 256] inb_S1x2x4x256x256_S1x1x1x256x256_0_1_0_0_0, k0_pay65 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)⟩,
       ⟨Rect.unit ![0, 0, 3, 0, 0] ![1, 1, 1, 256, 256] inb_S1x2x4x256x256_S1x1x1x256x256_0_0_3_0_0, k0_pay46 (F := Ideal) (k0_pay40 (F := Ideal)) (k0_pay41 (F := Ideal) D)⟩,
       ⟨Rect.unit ![0, 0, 2, 0, 0] ![1, 1, 1, 256, 256] inb_S1x2x4x256x256_S1x1x1x256x256_0_0_2_0_0, k0_pay45 (F := Ideal) (k0_pay40 (F := Ideal)) (k0_pay41 (F := Ideal) D)⟩,
       ⟨Rect.unit ![0, 0, 1, 0, 0] ![1, 1, 1, 256, 256] inb_S1x2x4x256x256_S1x1x1x256x256_0_0_1_0_0, k0_pay44 (F := Ideal) (k0_pay43 (F := Ideal) D)⟩,
       ⟨Rect.unit ![0, 0, 0, 0, 0] ![1, 1, 1, 256, 256] inb_S1x2x4x256x256_S1x1x1x256x256_0_0_0_0_0, k0_pay42 (F := Ideal) D⟩] y
      = pairTile (fun n r => D (ix2 (⟨128 * (y 1).val + r.val, by have h1 : (y 1).val < 2 := (y 1).isLt; omega⟩ : Fin 256) n)) (y 2) (y 3) (y 4) := by
  canon_tiles x h
  · refine Eq.trans (congrArg (k0_pay68 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)) (eta10 x)) ((pair13 _ _ _ _ _ _ _ _ (x 3) (x 4)).trans (pairTile_congr (fun n r => (second64 D n r).trans (read2 (a := 256) (b := 1024) D ?_ rfl)) ?_ ?_ ?_)) <;> (try simp only) <;> (first | omega | (show (_ : ℕ) = _; omega))
  · refine Eq.trans (congrArg (k0_pay67 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)) (eta10 x)) ((pair12 _ _ _ _ _ _ _ _ (x 3) (x 4)).trans (pairTile_congr (fun n r => (second64 D n r).trans (read2 (a := 256) (b := 1024) D ?_ rfl)) ?_ ?_ ?_)) <;> (try simp only) <;> (first | omega | (show (_ : ℕ) = _; omega))
  · refine Eq.trans (congrArg (k0_pay66 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)) (eta10 x)) ((pair11 _ _ _ _ _ _ _ _ (x 3) (x 4)).trans (pairTile_congr (fun n r => (second64 D n r).trans (read2 (a := 256) (b := 1024) D ?_ rfl)) ?_ ?_ ?_)) <;> (try simp only) <;> (first | omega | (show (_ : ℕ) = _; omega))
  · refine Eq.trans (congrArg (k0_pay65 (F := Ideal) (k0_pay40 (F := Ideal)) (k0_pay56 (F := Ideal) D) (k0_pay57 (F := Ideal) D) (k0_pay58 (F := Ideal) D) (k0_pay59 (F := Ideal) D) (k0_pay60 (F := Ideal) D) (k0_pay61 (F := Ideal) D) (k0_pay62 (F := Ideal) D) (k0_pay63 (F := Ideal) D)) (eta10 x)) ((pair10 _ _ _ _ _ _ _ _ (x 3) (x 4)).trans (pairTile_congr (fun n r => (second64 D n r).trans (read2 (a := 256) (b := 1024) D ?_ rfl)) ?_ ?_ ?_)) <;> (try simp only) <;> (first | omega | (show (_ : ℕ) = _; omega))
  · refine Eq.trans (congrArg (k0_pay46 (F := Ideal) (k0_pay40 (F := Ideal)) (k0_pay41 (F := Ideal) D)) (eta10 x)) ((pair03 _ (x 3) (x 4)).trans (pairTile_congr (fun n r => (first41 D n r).trans (read2 (a := 256) (b := 1024) D ?_ rfl)) ?_ ?_ ?_)) <;> (try simp only) <;> (first | omega | (show (_ : ℕ) = _; omega))
  · refine Eq.trans (congrArg (k0_pay45 (F := Ideal) (k0_pay40 (F := Ideal)) (k0_pay41 (F := Ideal) D)) (eta10 x)) ((pair02 _ (x 3) (x 4)).trans (pairTile_congr (fun n r => (first41 D n r).trans (read2 (a := 256) (b := 1024) D ?_ rfl)) ?_ ?_ ?_)) <;> (try simp only) <;> (first | omega | (show (_ : ℕ) = _; omega))
  · refine Eq.trans (congrArg (k0_pay44 (F := Ideal) (k0_pay43 (F := Ideal) D)) (eta10 x)) ((pair01 _ (x 3) (x 4)).trans (pairTile_congr (fun n r => (first41 D n r).trans (read2 (a := 256) (b := 1024) D ?_ rfl)) ?_ ?_ ?_)) <;> (try simp only) <;> (first | omega | (show (_ : ℕ) = _; omega))
  · refine Eq.trans (congrArg (k0_pay42 (F := Ideal) D) (eta10 x)) ((pair00 _ (x 3) (x 4)).trans (pairTile_congr (fun n r => (first41 D n r).trans (read2 (a := 256) (b := 1024) D ?_ rfl)) ?_ ?_ ?_)) <;> (try simp only) <;> (first | omega | (show (_ : ℕ) = _; omega))

/-- Equal indices of the projections. -/
theorem ix3_ext {a a' : Fin 2} {b b' : Fin 16384} {d d' : Fin 14848} (ha : a.val = a'.val) (hb : b.val = b'.val) (hd : d.val = d'.val) :
    (ix3 a b d : S2x16384x14848.Idx) = ix3 a' b' d' := by
  rw [Fin.ext ha, Fin.ext hb, Fin.ext hd]

/-- The product of two numbers. -/
def times (a b : EReal) : EReal := a * b

/-- The values with sixteen rows of one under every head. -/
def bandsOf (f : Fin 1024 → EReal) (R : Fin 1152) : EReal :=
  if R.val % 144 < 128 then f ⟨R.val / 144 * 128 + R.val % 144 % 128, by omega⟩ else Ideal.ofBits FTy.bf16 0x3F80#16

/-- The stored values. -/
theorem valueBands_at (A : FVec Ideal S1x256x512 .f32) (B : FVec Ideal S1x512 .f32) (w : FVec Ideal S512x1024 .bf16) (R : Fin 1152) (t : Fin 256) :
    (show EReal from k0_pay34 (F := Ideal) (k0_pay30 (F := Ideal) (k0_pay17 (F := Ideal) A B) w) (k0_pay31 (F := Ideal) (k0_pay17 (F := Ideal) A B) w)
        (k0_pay32 (F := Ideal) (k0_pay17 (F := Ideal) A B) w) (k0_pay33 (F := Ideal) (k0_pay17 (F := Ideal) A B) w) (ix3 0 R t))
      = bandsOf (latentRow (fun k => A (ix3 0 t k)) (fun k => B (ix2 0 k)) (fun k n => w (ix2 k n))) R :=
  (value_at _ _ R t).trans (if_congr Iff.rfl (valueRow_at A B w t _) rfl)

/-- The query rows that a grid point reads. -/
theorem queryRow (c : Dev nD) (t : Fin cfg0.N) (r : Fin 256) (n : Fin 1024) (ht : t.val < 128) :
    (X0_0 m c t) (ix3 0 r n : S1x256x1024.Idx) = m ((c : Thread nD τ).loc main_arg0) (ix3 (⟨t.val / 64, by omega⟩ : Fin 2)
      (⟨256 * (t.val % 64) + r.val, by omega⟩ : Fin 16384) (⟨9216 + n.val, by omega⟩ : Fin 14848)) := by
  unfold X0_0 Pipeline.Window.fill
  rw [dif_pos (moved0_0 t _)]
  blk_point [iblk, V, idx t]

/-- The rows of the index query that a grid point reads. -/
theorem indexRow (c : Dev nD) (t : Fin cfg0.N) (r : Fin 256) (n : Fin 1024) (ht : t.val < 128) :
    (X0_2 m c t) (ix3 0 r n : S1x256x1024.Idx) = m ((c : Thread nD τ).loc main_arg0) (ix3 (⟨t.val / 64, by omega⟩ : Fin 2)
      (⟨256 * (t.val % 64) + r.val, by omega⟩ : Fin 16384) (⟨10240 + n.val, by omega⟩ : Fin 14848)) := by
  unfold X0_2 Pipeline.Window.fill
  rw [dif_pos (moved0_2 t _)]
  blk_point [iblk, V, idx t]

/-- The index keys after the run. -/
theorem final14 (c : Dev nD) :
    (dats m 0 c).arrAt 14 cfg0.N = fun j : S2x16384x64.Idx =>
      indexKey (fun k => m ((c : Thread nD τ).loc main_arg0) (ix3 (j 0) (j 1) ⟨14336 + k.val, by omega⟩)) (fun k => m ((c : Thread nD τ).loc main_arg6) (ix1 k)) (j 2) := by
  refine (dats m 0 c).arrAt_eq_of_covers 14 _ (by decide +kernel) fun t hf y => ?_
  blk_simp
  rw [after0_14]
  unfold outsAt0
  dsimp only
  frame_out
  have ht : t.val < 128 := lt_of_lt_of_eq t.isLt N_0
  refine Eq.trans (congrArg (k0_pay37 (F := Ideal) _) (?_ : (y : S1x256x64.Idx) = ix3 0 (y 1) (y 2))) ?_
  · funext a
    fin_cases a
    · exact Subsingleton.elim (α := Fin 1) _ _
    · rfl
    · rfl
  refine (indexKey_at _ _ (y 1) (y 2)).trans ?_
  refine congr (congrArg₂ indexKey (funext fun k => ?_) (funext fun k => ?_)) ?_
  · blk_point [iblk, V, idx t]
  · blk_point [iblk, V, idx t]
  · refine Fin.ext ?_
    blk_simp [idx t]

/-- The keys after the run. -/
theorem final11 (c : Dev nD) :
    (dats m 0 c).arrAt 11 cfg0.N = fun j : S2x16384x1024.Idx =>
      normHeads (latentRow (fun k => m ((c : Thread nD τ).loc main_arg0) (ix3 (j 0) (j 1) ⟨13824 + k.val, by omega⟩)) (fun k => m ((c : Thread nD τ).loc main_arg3) (ix1 k))
        (fun k n => m ((c : Thread nD τ).loc main_arg4) (ix2 k n))) (fun e => m ((c : Thread nD τ).loc main_arg2) (ix1 e)) (j 2) := by
  refine (dats m 0 c).arrAt_eq_of_covers 11 _ (by decide +kernel) fun t hf y => ?_
  blk_simp
  rw [after0_11]
  unfold outsAt0
  dsimp only
  frame_out
  have ht : t.val < 128 := lt_of_lt_of_eq t.isLt N_0
  refine Eq.trans (congrArg (k0_pay28 (F := Ideal) _ _ _ _ _ _ _ _ _ _) (?_ : (y : S1x256x1024.Idx) = ix3 0 (y 1) (y 2))) ?_
  · funext a
    fin_cases a
    · exact Subsingleton.elim (α := Fin 1) _ _
    · rfl
    · rfl
  refine (key_at _ _ _ _ (y 1) (y 2)).trans ?_
  refine congr (congrArg₂ normHeads (funext fun n => (keyRow_at _ _ _ _ n).trans (congrFun (?_ : latentRow _ _ _ = latentRow _ _ _) n)) (funext fun e => ?_)) ?_
  · refine congr (congrArg₂ latentRow (funext fun k => ?_) (funext fun k => ?_)) (funext fun k => funext fun n => ?_)
    · blk_point [iblk, V, idx t]
    · blk_point [iblk, V, idx t]
    · blk_point [iblk, V, idx t]
  · blk_point [iblk, V, idx t]
  · refine Fin.ext ?_
    blk_simp [idx t]

/-- The values after the run. -/
theorem final12 (c : Dev nD) :
    (dats m 0 c).arrAt 12 cfg0.N = fun j : S2x1152x16384.Idx =>
      bandsOf (latentRow (fun k => m ((c : Thread nD τ).loc main_arg0) (ix3 (j 0) (j 2) ⟨13824 + k.val, by omega⟩)) (fun k => m ((c : Thread nD τ).loc main_arg3) (ix1 k))
        (fun k n => m ((c : Thread nD τ).loc main_arg5) (ix2 k n))) (j 1) := by
  refine (dats m 0 c).arrAt_eq_of_covers 12 _ (by decide +kernel) fun t hf y => ?_
  blk_simp
  rw [after0_12]
  unfold outsAt0
  dsimp only
  frame_out
  have ht : t.val < 128 := lt_of_lt_of_eq t.isLt N_0
  refine Eq.trans (congrArg (k0_pay34 (F := Ideal) _ _ _ _) (eta12 y)) ?_
  refine (valueBands_at _ _ _ (y 1) (y 2)).trans ?_
  refine congrArg₂ bandsOf ?_ ?_
  · refine congr (congrArg₂ latentRow (funext fun k => ?_) (funext fun k => ?_)) (funext fun k => funext fun n => ?_)
    · blk_point [iblk, V, idx t]
    · blk_point [iblk, V, idx t]
    · blk_point [iblk, V, idx t]
  · refine Fin.ext ?_
    blk_simp [idx t]

/-- The index query after the run. -/
theorem final13 (c : Dev nD) :
    (dats m 0 c).arrAt 13 cfg0.N = fun j : S2x128x64x2048.Idx =>
      times (m ((c : Thread nD τ).loc main_arg0) (ix3 (j 0) (⟨128 * (j 1).val + (j 3).val % 128, by have h1 : (j 1).val < 128 := (j 1).isLt; omega⟩ : Fin 16384)
        (⟨10240 + (64 * ((j 3).val / 128) + (j 2).val), by have h2 : (j 2).val < 64 := (j 2).isLt; have h3 : (j 3).val < 2048 := (j 3).isLt; omega⟩ : Fin 14848)))
        (Ideal.ofBits FTy.f32 0x3E000000#32) := by
  refine (dats m 0 c).arrAt_eq_of_covers 13 _ (by decide +kernel) fun t hf y => ?_
  blk_simp
  rw [after0_13]
  unfold outsAt0
  dsimp only
  frame_out
  have ht : t.val < 128 := lt_of_lt_of_eq t.isLt N_0
  refine (canon13 _ y).trans ((indexQuery_at _ _ _).trans (Ideal.mul_congr ?_ rfl))
  refine (indexRow m c t _ _ ht).trans ?_
  refine congrArg (m ((c : Thread nD τ).loc main_arg0)) (ix3_ext ?_ ?_ ?_)
  · blk_simp [idx t]
  · blk_simp [idx t]
    show 256 * (t.val % 64) + (128 * (y 1).val + (y 3).val % 128) = 128 * (t.val % 64 * 2 + (y 1).val) + (y 3).val % 128
    omega
  · blk_simp [idx t]

/-- The index weights after the run. -/
theorem final15 (c : Dev nD) :
    (dats m 0 c).arrAt 15 cfg0.N = fun j : S2x128x1x2048.Idx =>
      times (m ((c : Thread nD τ).loc main_arg0) (ix3 (j 0) (⟨128 * (j 1).val + (j 3).val % 128, by have h1 : (j 1).val < 128 := (j 1).isLt; omega⟩ : Fin 16384)
        (⟨14336 + (64 + (j 3).val / 128), by have h3 : (j 3).val < 2048 := (j 3).isLt; omega⟩ : Fin 14848)))
        (Ideal.ofBits FTy.f32 0x3E800000#32) := by
  refine (dats m 0 c).arrAt_eq_of_covers 15 _ (by decide +kernel) fun t hf y => ?_
  blk_simp
  rw [after0_15]
  unfold outsAt0
  dsimp only
  frame_out
  have ht : t.val < 128 := lt_of_lt_of_eq t.isLt N_0
  refine (canon15 _ y).trans ((indexWeight_at _ _ _).trans (Ideal.mul_congr ?_ rfl))
  blk_point [iblk, V, idx t]

set_option maxHeartbeats 1600000 in
/-- The queries after the run. -/
theorem final10 (c : Dev nD) :
    (dats m 0 c).arrAt 10 cfg0.N = fun j : S2x128x4x256x256.Idx =>
      pairTile (fun n r => normHeads (fun n => m ((c : Thread nD τ).loc main_arg0) (ix3 (j 0) (⟨128 * (j 1).val + r.val, by have h1 : (j 1).val < 128 := (j 1).isLt; omega⟩ : Fin 16384)
          (⟨9216 + n.val, by omega⟩ : Fin 14848))) (fun e => m ((c : Thread nD τ).loc main_arg1) (ix1 e)) n * scale) (j 2) (j 3) (j 4) := by
  refine (dats m 0 c).arrAt_eq_of_covers 10 _ (by decide +kernel) fun t hf y => ?_
  blk_simp
  rw [after0_10]
  unfold outsAt0
  dsimp only
  frame_out
  have ht : t.val < 128 := lt_of_lt_of_eq t.isLt N_0
  refine (canon10 _ y).trans (pairTile_congr (fun n r => (query_at _ _ _ n).trans (congrArg (· * scale)
    (congrFun (congrArg₂ normHeads (funext fun n => (queryRow m c t _ n ht).trans ?_) (funext fun e => ?_)) n))) ?_ ?_ ?_)
  · refine congrArg (m ((c : Thread nD τ).loc main_arg0)) (ix3_ext ?_ ?_ ?_)
    · blk_simp [idx t]
    · blk_simp [idx t]
      show 256 * (t.val % 64) + (128 * (y 1).val + r.val) = 128 * (t.val % 64 * 2 + (y 1).val) + r.val
      omega
    · rfl
  · blk_point [iblk, V, idx t]
  · blk_simp [idx t]
  · blk_simp [idx t]
  · blk_simp [idx t]

end Cert.PrepIdeal.Val

end
-- ==== Proof.PrepPair.lean ====
/- The call that prepares the sparse attention, against its plain lines. -/
module

public import proofs.«01_k».proof.Defs
public import proofs.«01_k».proof.Proof.PrepValue
public import proofs.«01_k».proof.Proof.Gen.PrepRefIdeal

@[expose] public section

set_option maxRecDepth 16384

noncomputable section

namespace Cert.Proof

open Idealize.ShloMosaic Idealize.ShloMosaic.TcCoe Idealize.SL.Sem

/-- The count 128, read as a real. -/
theorem head_count : Ideal.ofBits .f32 0x43000000#32 = ((128 : ℝ) : EReal) := by
  simp [Ideal.ofBits, Ideal.ieee, -EReal.coe_mul]
  norm_num

/-- The base 2, read as a real. -/
theorem base_two : Ideal.ofBits .f32 0x40000000#32 = ((2 : ℝ) : EReal) := by
  simp [Ideal.ofBits, Ideal.ieee, -EReal.coe_mul]
  norm_num

/-- The quotient by the root of 128 and by the logarithm of 2 is the product with the scale that the kernel names. -/
theorem div_root_log (x : EReal) :
    Ideal.div (Ideal.div x (Ideal.sqrt (Ideal.ofBits .f32 0x43000000#32))) (Ideal.log (Ideal.ofBits .f32 0x40000000#32)) = x * Cert.PrepIdeal.Val.scale := by
  have e : Cert.PrepIdeal.Val.scale = (((Real.sqrt 128)⁻¹ * (Real.log 2)⁻¹ : ℝ) : EReal) := IdealRules.named_const.ideal_named_scalar _ _ _ _ rfl
  rw [e, head_count, base_two, Ideal.sqrt_coe, if_neg (by norm_num : ¬(128 : ℝ) < 0), Ideal.log_coe, if_neg (by norm_num : ¬(2 : ℝ) ≤ 0),
    Ideal.div_coe (show Real.sqrt 128 ≠ 0 from (Real.sqrt_pos.mpr (by norm_num)).ne'),
    Ideal.div_coe (show Real.log 2 ≠ 0 from (Real.log_pos (by norm_num)).ne'), one_div, one_div, mul_assoc, ← EReal.coe_mul]

/-- Equal entries of a normalised head. -/
theorem normed_congr (p : Cert.PrepIdeal.S2x16384x14848.Idx → EReal) (q : Cert.PrepIdeal.S128.Idx → EReal)
    {i i' : Cert.PrepIdeal.S2x16384x14848.Idx} {u u' : Fin 128 → Cert.PrepIdeal.S2x16384x14848.Idx} {e e' : Fin 128}
    (hi : i = i') (hu : ∀ x, u x = u' x) (he : e = e') {k ε : EReal} :
    p i * Ideal.rsqrt (Ideal.div (∑ x, p (u x) * p (u x)) k + ε) * q (ix1 e)
      = p i' * Ideal.rsqrt (Ideal.div (∑ x, p (u' x) * p (u' x)) k + ε) * q (ix1 e') := by
  rw [hi, he, funext hu]

/-- Equal indices of a weight matrix. -/
theorem column (x : Fin 512) {n n' : Fin 1024} (h : n.val = n'.val) : (ix2 x n : Cert.PrepIdeal.S512x1024.Idx) = ix2 x n' := by
  rw [Fin.ext h]

/-- The scale is the inverse root of the head's width over the logarithm of 2. -/
theorem prep_preserves : Cert.preserves_Prep_PrepIdeal :=
  IdealRules.named_const.statement Cert.PrepIdeal.κ "q_scale" .f32 0x3E0293EE#32 (((Real.sqrt 128)⁻¹ * (Real.log 2)⁻¹ : ℝ) : EReal) rfl

set_option maxHeartbeats 6400000 in
/-- The kernel and the plain lines leave the same arrays. -/
theorem prep_algebraic :
    Cert.algebraic_PrepIdeal_PrepRefIdeal (hPrepIdeal := Cert.PrepIdeal.Gen.facts) (hPrepRefIdeal := Cert.PrepRefIdeal.Gen.facts) := by
  pair_intro
  · run_from Cert.PrepIdeal.Gen.run_main m g
  · hlo_run
    · rw [Cert.PrepIdeal.Val.final10 m c]
      funext j
      idx_vars j
      pointwise [Cert.PrepIdeal.Val.pairTile, Cert.PrepIdeal.Val.normHeads, Cert.Heads.unitNorm, Cert.Heads.cut, Cert.Heads.inv]
      by_cases h3 : j3.val < 128 <;> by_cases h4 : j4.val < 128
      · refine (dif_pos h3).trans ((dif_pos h4).trans (Eq.trans ?_ (if_pos (by omega)).symm))
        refine (div_root_log _).trans (Ideal.mul_congr ?_ rfl)
        refine normed_congr (m (c.tc.loc PrepIdeal.main_arg0)) (m (c.tc.loc PrepIdeal.main_arg1)) ?_ (fun x => ?_) (Fin.ext ?_)
        · exact Cert.PrepIdeal.Val.ix3_ext rfl (by simp only; omega) (by simp only; omega)
        · exact Cert.PrepIdeal.Val.ix3_ext rfl (by simp only; omega) (by simp only; omega)
        · simp only
          omega
      · exact (dif_pos h3).trans ((dif_neg h4).trans (if_neg (by omega)).symm)
      · exact (dif_neg h3).trans ((dif_pos h4).trans (if_neg (by omega)).symm)
      · refine (dif_neg h3).trans ((dif_neg h4).trans (Eq.trans ?_ (if_pos (by omega)).symm))
        refine (div_root_log _).trans (Ideal.mul_congr ?_ rfl)
        refine normed_congr (m (c.tc.loc PrepIdeal.main_arg0)) (m (c.tc.loc PrepIdeal.main_arg1)) ?_ (fun x => ?_) (Fin.ext ?_)
        · exact Cert.PrepIdeal.Val.ix3_ext rfl (by simp only; omega) (by simp only; omega)
        · exact Cert.PrepIdeal.Val.ix3_ext rfl (by simp only; omega) (by simp only; omega)
        · simp only
          omega
    · rw [Cert.PrepIdeal.Val.final11 m c]
      funext j
      idx_vars j
      pointwise [Cert.PrepIdeal.Val.normHeads, Cert.PrepIdeal.Val.latentRow, Cert.PrepIdeal.Val.latent, Cert.Heads.unitNorm, Cert.Heads.cut, Cert.Heads.inv]
    · rw [Cert.PrepIdeal.Val.final12 m c]
      funext j
      idx_vars j
      pointwise [Cert.PrepIdeal.Val.bandsOf, Cert.PrepIdeal.Val.latentRow, Cert.PrepIdeal.Val.latent, Cert.Heads.inv]
      by_cases h : j1.val % 144 < 128
      · refine (dif_pos h).trans (Eq.trans ?_ (if_pos h).symm)
        refine Finset.sum_congr rfl fun x _ => Ideal.mul_congr (Ideal.mul_congr rfl (congrFun (hagree c).2.2.2.1 (ix1 x))) ?_
        exact (congrFun (hagree c).2.2.2.2.2.1 _).trans (congrArg (m (c.tc.loc PrepIdeal.main_arg5)) (column x (by simp only [Nat.mod_eq_of_lt h])))
      · exact (dif_neg h).trans (if_neg h).symm
    · rw [Cert.PrepIdeal.Val.final13 m c]
      funext j
      idx_vars j
      pointwise [Cert.PrepIdeal.Val.times]
      exact Ideal.mul_congr (congrArg (m (c.tc.loc PrepIdeal.main_arg0)) (Cert.PrepIdeal.Val.ix3_ext rfl (by simp only; omega) (by simp only; omega))) rfl
    · rw [Cert.PrepIdeal.Val.final14 m c]
      funext j
      idx_vars j
      pointwise [Cert.PrepIdeal.Val.indexKey, Cert.Heads.inv]
    · rw [Cert.PrepIdeal.Val.final15 m c]
      funext j
      idx_vars j
      pointwise [Cert.PrepIdeal.Val.times]
      exact Ideal.mul_congr (congrArg (m (c.tc.loc PrepIdeal.main_arg0)) (Cert.PrepIdeal.Val.ix3_ext rfl (by simp only; omega) (by simp only; omega))) rfl

end Cert.Proof

end
-- ==== Proof.MemoryValue.lean ====
/- The keys and values of the memory: the array after the run. -/
module

public import proofs.«01_k».proof.Proof.Gen.MemoryIdeal.Value
public import Idealize.ShloMosaic.Lib.Pipeline.ValueKit
public import Idealize.ShloMosaic.Lib.Claim

@[expose] public section

set_option maxRecDepth 16384

noncomputable section

namespace Cert.MemoryIdeal.Val

open Cert.MemoryIdeal Cert.MemoryIdeal.Gen
open Idealize.ShloMosaic Idealize.ShloMosaic.TcCoe Idealize.SL.Sem
open Idealize.ShloMosaic.Pipeline (Dat)

variable (m : (ℓ : Loc nD τ sig) → Buf (Elt Ideal) ℓ)

/-- A row, normalised and scaled by the gains, times a column. -/
def normTimes (x g w : Fin 2048 → EReal) : EReal :=
  ∑ k : Fin 2048, x k * Ideal.rsqrt (Ideal.div (∑ n : Fin 2048, x n * x n) (Ideal.ofBits FTy.f32 0x45000000#32) + Ideal.ofBits FTy.f32 0x358637BD#32) * g k * w k

/-- Every window's block index at every point. -/
theorem idx : ∀ t : Fin cfg0.N, win0_0.index t = ![t.val / 2, 0] ∧ win0_1.index t = ![0, 0] ∧ win0_2.index t = ![0, t.val % 2]
    ∧ win0_3.index t = ![t.val / 2, t.val % 2] :=
  (by decide +kernel : ∀ t : Fin grid0.N, _)

/-- Two points of one block of rows stage the same rows and the same scales. -/
theorem rows (c : Dev nD) (s t : Fin cfg0.N) (h : s.val / 2 = t.val / 2) : iblk m c 0 s = iblk m c 0 t ∧ iblk m c 1 s = iblk m c 1 t := by
  constructor
  · funext x
    blk_ext [iblk, idx s, idx t]
  · funext x
    blk_ext [iblk, idx s, idx t]

/-- The scratch after a point holds the normalised rows of the point's own block of rows. -/
theorem scratch (c : Dev nD) : ∀ (n : ℕ) (h : n < cfg0.N),
    (outsAt0 m c n h).2 = k0_pay1 (iblk m c 0 ⟨n, h⟩) (iblk m c 1 ⟨n, h⟩) := by
  intro n
  induction n with
  | zero =>
    intro h
    rw [outsAt0_A m c ⟨0, h⟩ rfl]
    frame_out
  | succ n ih =>
    intro h
    by_cases h0 : (n + 1) % 2 = 0
    · rw [outsAt0_A m c ⟨n + 1, h⟩ h0]
      frame_out
    · rw [outsAt0_B m c ⟨n + 1, h⟩ h0]
      show (outsAt0 m c n (Nat.lt_of_succ_lt h)).2 = _
      rw [ih (Nat.lt_of_succ_lt h)]
      have e := rows m c ⟨n, by omega⟩ ⟨n + 1, h⟩ (by simp only; omega)
      rw [e.1, e.2]

/-- The product of a point, over its own blocks. -/
theorem out (c : Dev nD) (t : Fin cfg0.N) :
    (outsAt0 m c t.val t.isLt).1 = k0_pay2 (k0_pay1 (iblk m c 0 t) (iblk m c 1 t)) (iblk m c 2 t) := by
  by_cases h0 : t.val % 2 = 0
  · rw [outsAt0_A m c t h0]
    frame_out
  · rw [outsAt0_B m c t h0]
    frame_out
    refine (congrArg (fun s => k0_pay2 s (iblk m c 2 t)) ((Memref.isWhole_whole cc0_scratch0).read_unread _)).trans ?_
    rw [scratch m c (t.val - 1) (by omega)]
    have e := rows m c ⟨t.val - 1, by omega⟩ t (by simp only; omega)
    rw [e.1, e.2]

/-- The array after the run. -/
theorem final (c : Dev nD) :
    (dats m 0 c).arrAt 3 cfg0.N = fun j : S512x1024.Idx =>
      normTimes (fun k => m ((c : Thread nD τ).loc main_arg0) (ix2 (j 0) k)) (fun k => m ((c : Thread nD τ).loc main_arg1) (ix1 k))
        (fun k => m ((c : Thread nD τ).loc main_arg2) (ix2 k (j 1))) := by
  refine (dats m 0 c).arrAt_eq_of_covers 3 _ (by decide +kernel) fun t hf y => ?_
  blk_simp
  rw [after0_3, out]
  pointwise [k0_pay2, k0_pay1, normTimes]
  blk_point [iblk, V, idx t]

end Cert.MemoryIdeal.Val

end
-- ==== Proof.MemoryPair.lean ====
/- The keys and values of the memory, against its plain lines. -/
module

public import proofs.«01_k».proof.Defs
public import proofs.«01_k».proof.Proof.MemoryValue
public import proofs.«01_k».proof.Proof.Gen.MemoryRefIdeal

@[expose] public section

set_option maxRecDepth 16384

noncomputable section

namespace Cert.Proof

open Idealize.ShloMosaic Idealize.ShloMosaic.TcCoe Idealize.SL.Sem

/-- The kernel and the plain lines leave the same array. -/
theorem memory_algebraic : Cert.algebraic_MemoryIdeal_MemoryRefIdeal (hMemoryIdeal := Cert.MemoryIdeal.Gen.facts) (hMemoryRefIdeal := Cert.MemoryRefIdeal.Gen.facts) := by
  pair_intro
  · run_from Cert.MemoryIdeal.Gen.run_main m g
  · hlo_run
    rw [Cert.MemoryIdeal.Val.final m c]
    funext j
    idx_vars j
    pointwise [Cert.MemoryIdeal.Val.normTimes]

end Cert.Proof

end
-- ==== Proof.lean ====
module

public import proofs.«01_k».proof.Defs
public import proofs.«01_k».proof.Proof.Gen.Kernel
public import proofs.«01_k».proof.Proof.DsaFrame
public import proofs.«01_k».proof.Proof.Gen.Ffn.Frame
public import proofs.«01_k».proof.Proof.Gen.FfnIdeal.Value
public import proofs.«01_k».proof.Proof.Gen.FfnRefIdeal
public import proofs.«01_k».proof.Proof.FfnPair
public import proofs.«01_k».proof.Proof.Gen.Proj.Frame
public import proofs.«01_k».proof.Proof.Gen.ProjIdeal.Value
public import proofs.«01_k».proof.Proof.Gen.ProjRefIdeal
public import proofs.«01_k».proof.Proof.ProjPair
public import proofs.«01_k».proof.Proof.Gen.Merge.Frame
public import proofs.«01_k».proof.Proof.Gen.MergeIdeal.Value
public import proofs.«01_k».proof.Proof.Gen.MergeRefIdeal
public import proofs.«01_k».proof.Proof.MergePair
public import proofs.«01_k».proof.Proof.Gen.Xattn.Frame
public import proofs.«01_k».proof.Proof.Gen.XattnIdeal.Value
public import proofs.«01_k».proof.Proof.Gen.XattnRefIdeal
public import proofs.«01_k».proof.Proof.XattnPair
public import proofs.«01_k».proof.Proof.Gen.Prep.Frame
public import proofs.«01_k».proof.Proof.Gen.PrepIdeal.Value
public import proofs.«01_k».proof.Proof.Gen.PrepRefIdeal
public import proofs.«01_k».proof.Proof.PrepPair
public import proofs.«01_k».proof.Proof.Gen.Memory.Frame
public import proofs.«01_k».proof.Proof.Gen.MemoryIdeal.Value
public import proofs.«01_k».proof.Proof.Gen.MemoryRefIdeal
public import proofs.«01_k».proof.Proof.MemoryPair
public import proofs.«01_k».proof.Proof.Gen.Mlstm.Frame
public import proofs.«01_k».proof.Proof.Gen.Ssd.Frame

@[expose] public section

noncomputable section

namespace Cert.Proof

open Idealize.ShloMosaic Idealize.SL.Sem

/-- The attention call runs, faults nowhere, and leaves its arguments. -/
theorem dsa_frame : Cert.quiescent_Kernel (hKernel := Cert.Kernel.Gen.facts) := fun m ρ _ =>
  (θ_run _ _ _).mono (fun _ h => ⟨fun c => Cert.Kernel.Dsa.final_args h.1 c, h.2⟩) (Cert.Kernel.Dsa.run_main (F := Bits) m ρ)

set_option maxHeartbeats 3200000 in
/-- The plain feed-forward lines run and leave their arguments. -/
theorem ffn_ref_frame : Cert.quiescent_FfnRefIdeal (hFfnRefIdeal := Cert.FfnRefIdeal.Gen.facts) := by
  intro m g _
  hlo_run
  · simp
  · exact Idealize.ShloMosaic.sem_eq_zero_of_no_sems (by decide) r.2

set_option maxHeartbeats 3200000 in
/-- The plain projection lines run and leave their arguments. -/
theorem proj_ref_frame : Cert.quiescent_ProjRefIdeal (hProjRefIdeal := Cert.ProjRefIdeal.Gen.facts) := by
  intro m g _
  hlo_run
  · simp
  · exact Idealize.ShloMosaic.sem_eq_zero_of_no_sems (by decide) r.2

set_option maxHeartbeats 3200000 in
/-- The plain merge lines run and leave their arguments. -/
theorem merge_ref_frame : Cert.quiescent_MergeRefIdeal (hMergeRefIdeal := Cert.MergeRefIdeal.Gen.facts) := by
  intro m g _
  hlo_run
  · simp
  · exact Idealize.ShloMosaic.sem_eq_zero_of_no_sems (by decide) r.2

set_option maxHeartbeats 3200000 in
/-- The plain cross-attention lines run and leave their arguments. -/
theorem xattn_ref_frame : Cert.quiescent_XattnRefIdeal (hXattnRefIdeal := Cert.XattnRefIdeal.Gen.facts) := by
  intro m g _
  hlo_run
  · simp
  · exact Idealize.ShloMosaic.sem_eq_zero_of_no_sems (by decide) r.2

set_option maxHeartbeats 3200000 in
/-- The plain preparation lines run and leave their arguments. -/
theorem prep_ref_frame : Cert.quiescent_PrepRefIdeal (hPrepRefIdeal := Cert.PrepRefIdeal.Gen.facts) := by
  intro m g _
  hlo_run
  · simp
  · exact Idealize.ShloMosaic.sem_eq_zero_of_no_sems (by decide) r.2

set_option maxHeartbeats 3200000 in
/-- The plain memory lines run and leave their arguments. -/
theorem memory_ref_frame : Cert.quiescent_MemoryRefIdeal (hMemoryRefIdeal := Cert.MemoryRefIdeal.Gen.facts) := by
  intro m g _
  hlo_run
  · simp
  · exact Idealize.ShloMosaic.sem_eq_zero_of_no_sems (by decide) r.2

/-- Every claim of the certificate. -/
theorem claim : Cert.Claim :=
  ⟨Cert.Kernel.Gen.facts, Cert.Ffn.Gen.facts, Cert.FfnIdeal.Gen.facts, Cert.FfnRefIdeal.Gen.facts, Cert.Proj.Gen.facts, Cert.ProjIdeal.Gen.facts, Cert.ProjRefIdeal.Gen.facts, Cert.Merge.Gen.facts, Cert.MergeIdeal.Gen.facts, Cert.MergeRefIdeal.Gen.facts, Cert.Xattn.Gen.facts, Cert.XattnIdeal.Gen.facts, Cert.XattnRefIdeal.Gen.facts, Cert.Prep.Gen.facts, Cert.PrepIdeal.Gen.facts, Cert.PrepRefIdeal.Gen.facts, Cert.Memory.Gen.facts, Cert.MemoryIdeal.Gen.facts, Cert.MemoryRefIdeal.Gen.facts, Cert.Mlstm.Gen.facts, Cert.Ssd.Gen.facts,
    dsa_frame,
    fun m ρ _ => Cert.Ffn.Gen.frame m ρ,
    fun m ρ _ => Cert.FfnIdeal.Gen.frame m ρ,
    ffn_ref_frame,
    fun m ρ _ => Cert.Proj.Gen.frame m ρ,
    fun m ρ _ => Cert.ProjIdeal.Gen.frame m ρ,
    proj_ref_frame,
    fun m ρ _ => Cert.Merge.Gen.frame m ρ,
    fun m ρ _ => Cert.MergeIdeal.Gen.frame m ρ,
    merge_ref_frame,
    fun m ρ _ => Cert.Xattn.Gen.frame m ρ,
    fun m ρ _ => Cert.XattnIdeal.Gen.frame m ρ,
    xattn_ref_frame,
    fun m ρ _ => Cert.Prep.Gen.frame m ρ,
    fun m ρ _ => Cert.PrepIdeal.Gen.frame m ρ,
    prep_ref_frame,
    fun m ρ _ => Cert.Memory.Gen.frame m ρ,
    fun m ρ _ => Cert.MemoryIdeal.Gen.frame m ρ,
    memory_ref_frame,
    fun m ρ _ => Cert.Mlstm.Gen.frame m ρ,
    fun m ρ _ => Cert.Ssd.Gen.frame m ρ,
    trivial,
    ffn_algebraic,
    trivial,
    proj_algebraic,
    trivial,
    merge_algebraic,
    xattn_preserves,
    xattn_algebraic,
    prep_preserves,
    prep_algebraic,
    trivial,
    memory_algebraic⟩

end Cert.Proof

end
